-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_inproj [hPre_finite_inproj : Cert.Pre_finite_inproj.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_inproj.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_inproj [hPre_finite_inproj : Cert.Pre_finite_inproj.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_inproj.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mlp [hPre_finite_mlp : Cert.Pre_finite_mlp.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mlp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mlp [hPre_finite_mlp : Cert.Pre_finite_mlp.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mlp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_forward [hPre_finite_forward : Cert.Pre_finite_forward.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_forward.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_forward [hPre_finite_forward : Cert.Pre_finite_forward.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_forward.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite_inproj [hKernel3Ideal : Cert.Kernel3Ideal.Facts] [hPre_finite_inproj : Cert.Pre_finite_inproj.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_inproj m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite_inproj [hReference3Ideal : Cert.Reference3Ideal.Facts] [hPre_finite_inproj : Cert.Pre_finite_inproj.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_inproj m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_mlp [hKernel4Ideal : Cert.Kernel4Ideal.Facts] [hPre_finite_mlp : Cert.Pre_finite_mlp.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mlp m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_mlp [hReference4Ideal : Cert.Reference4Ideal.Facts] [hPre_finite_mlp : Cert.Pre_finite_mlp.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mlp m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_forward [hKernel5Ideal : Cert.Kernel5Ideal.Facts] [hPre_finite_forward : Cert.Pre_finite_forward.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_forward m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_forward [hReference5Ideal : Cert.Reference5Ideal.Facts] [hPre_finite_forward : Cert.Pre_finite_forward.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_forward m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)) (v4 : (c : Dev Cert.KernelIdeal.nD) → Buf (Elt Ideal) ((c.tc : Thread Cert.KernelIdeal.nD Cert.KernelIdeal.τ).loc Cert.KernelIdeal.main_v18_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_v18_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel3_Kernel3Ideal : Prop :=
  True

def algebraic_Kernel3Ideal_Reference3Ideal_pre_finite_inproj [hKernel3Ideal : Cert.Kernel3Ideal.Facts] [hReference3Ideal : Cert.Reference3Ideal.Facts] [hPre_finite_inproj : Cert.Pre_finite_inproj.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_inproj m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite_mlp [hKernel4Ideal : Cert.Kernel4Ideal.Facts] [hReference4Ideal : Cert.Reference4Ideal.Facts] [hPre_finite_mlp : Cert.Pre_finite_mlp.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mlp m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v47_0)) (v1 : (c : Dev Cert.Kernel4Ideal.nD) → Buf (Elt Ideal) ((c.tc : Thread Cert.Kernel4Ideal.nD Cert.Kernel4Ideal.τ).loc Cert.Kernel4Ideal.main_v47_1)) (v2 : (c : Dev Cert.Kernel4Ideal.nD) → Buf (Elt Ideal) ((c.tc : Thread Cert.Kernel4Ideal.nD Cert.Kernel4Ideal.τ).loc Cert.Kernel4Ideal.main_v47_2)) (v3 : (c : Dev Cert.Kernel4Ideal.nD) → Buf (Elt Ideal) ((c.tc : Thread Cert.Kernel4Ideal.nD Cert.Kernel4Ideal.τ).loc Cert.Kernel4Ideal.main_v47_3)) (v4 : (c : Dev Cert.Kernel4Ideal.nD) → Buf (Elt Ideal) ((c.tc : Thread Cert.Kernel4Ideal.nD Cert.Kernel4Ideal.τ).loc Cert.Kernel4Ideal.main_v47_4)) (v5 : (c : Dev Cert.Kernel4Ideal.nD) → Buf (Elt Ideal) ((c.tc : Thread Cert.Kernel4Ideal.nD Cert.Kernel4Ideal.τ).loc Cert.Kernel4Ideal.main_v47_5)) (v6 : (c : Dev Cert.Kernel4Ideal.nD) → Buf (Elt Ideal) ((c.tc : Thread Cert.Kernel4Ideal.nD Cert.Kernel4Ideal.τ).loc Cert.Kernel4Ideal.main_v47_6)) (v7 : (c : Dev Cert.Kernel4Ideal.nD) → Buf (Elt Ideal) ((c.tc : Thread Cert.Kernel4Ideal.nD Cert.Kernel4Ideal.τ).loc Cert.Kernel4Ideal.main_v47_7)) (v8 : (c : Dev Cert.Kernel4Ideal.nD) → Buf (Elt Ideal) ((c.tc : Thread Cert.Kernel4Ideal.nD Cert.Kernel4Ideal.τ).loc Cert.Kernel4Ideal.main_v47_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v47_0) = v0 c
          ∧ r.2.mem ((c.tc : Thread Cert.Kernel4Ideal.nD Cert.Kernel4Ideal.τ).loc Cert.Kernel4Ideal.main_v47_1) = v1 c
          ∧ r.2.mem ((c.tc : Thread Cert.Kernel4Ideal.nD Cert.Kernel4Ideal.τ).loc Cert.Kernel4Ideal.main_v47_2) = v2 c
          ∧ r.2.mem ((c.tc : Thread Cert.Kernel4Ideal.nD Cert.Kernel4Ideal.τ).loc Cert.Kernel4Ideal.main_v47_3) = v3 c
          ∧ r.2.mem ((c.tc : Thread Cert.Kernel4Ideal.nD Cert.Kernel4Ideal.τ).loc Cert.Kernel4Ideal.main_v47_4) = v4 c
          ∧ r.2.mem ((c.tc : Thread Cert.Kernel4Ideal.nD Cert.Kernel4Ideal.τ).loc Cert.Kernel4Ideal.main_v47_5) = v5 c
          ∧ r.2.mem ((c.tc : Thread Cert.Kernel4Ideal.nD Cert.Kernel4Ideal.τ).loc Cert.Kernel4Ideal.main_v47_6) = v6 c
          ∧ r.2.mem ((c.tc : Thread Cert.Kernel4Ideal.nD Cert.Kernel4Ideal.τ).loc Cert.Kernel4Ideal.main_v47_7) = v7 c
          ∧ r.2.mem ((c.tc : Thread Cert.Kernel4Ideal.nD Cert.Kernel4Ideal.τ).loc Cert.Kernel4Ideal.main_v47_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v149) = v0 c
          ∧ r.2.mem ((c.tc : Thread Cert.Reference4Ideal.nD Cert.Reference4Ideal.τ).loc Cert.Reference4Ideal.main_v151) = v1 c
          ∧ r.2.mem ((c.tc : Thread Cert.Reference4Ideal.nD Cert.Reference4Ideal.τ).loc Cert.Reference4Ideal.main_v153) = v2 c
          ∧ r.2.mem ((c.tc : Thread Cert.Reference4Ideal.nD Cert.Reference4Ideal.τ).loc Cert.Reference4Ideal.main_v154) = v3 c
          ∧ r.2.mem ((c.tc : Thread Cert.Reference4Ideal.nD Cert.Reference4Ideal.τ).loc Cert.Reference4Ideal.main_v156) = v4 c
          ∧ r.2.mem ((c.tc : Thread Cert.Reference4Ideal.nD Cert.Reference4Ideal.τ).loc Cert.Reference4Ideal.main_v157) = v5 c
          ∧ r.2.mem ((c.tc : Thread Cert.Reference4Ideal.nD Cert.Reference4Ideal.τ).loc Cert.Reference4Ideal.main_v99) = v6 c
          ∧ r.2.mem ((c.tc : Thread Cert.Reference4Ideal.nD Cert.Reference4Ideal.τ).loc Cert.Reference4Ideal.main_v126) = v7 c
          ∧ r.2.mem ((c.tc : Thread Cert.Reference4Ideal.nD Cert.Reference4Ideal.τ).loc Cert.Reference4Ideal.main_v147) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  IdealRules.named_const.Statement Cert.Kernel5Ideal.κ "mask" .f32 0xF149F2CA#32 ⊥

def algebraic_Kernel5Ideal_Reference5Ideal_pre_finite_forward [hKernel5Ideal : Cert.Kernel5Ideal.Facts] [hReference5Ideal : Cert.Reference5Ideal.Facts] [hPre_finite_forward : Cert.Pre_finite_forward.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_forward m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)) (v2 : (c : Dev Cert.Kernel5Ideal.nD) → Buf (Elt Ideal) ((c.tc : Thread Cert.Kernel5Ideal.nD Cert.Kernel5Ideal.τ).loc Cert.Kernel5Ideal.main_v16_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_v16_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v133) = v0 c
          ∧ r.2.mem ((c.tc : Thread Cert.Reference5Ideal.nD Cert.Reference5Ideal.τ).loc Cert.Reference5Ideal.main_v135) = v1 c
          ∧ r.2.mem ((c.tc : Thread Cert.Reference5Ideal.nD Cert.Reference5Ideal.τ).loc Cert.Reference5Ideal.main_v137) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v19_0)) (v1 : (c : Dev Cert.Kernel6Ideal.nD) → Buf (Elt Ideal) ((c.tc : Thread Cert.Kernel6Ideal.nD Cert.Kernel6Ideal.τ).loc Cert.Kernel6Ideal.main_v19_1)) (v2 : (c : Dev Cert.Kernel6Ideal.nD) → Buf (Elt Ideal) ((c.tc : Thread Cert.Kernel6Ideal.nD Cert.Kernel6Ideal.τ).loc Cert.Kernel6Ideal.main_v19_2)) (v3 : (c : Dev Cert.Kernel6Ideal.nD) → Buf (Elt Ideal) ((c.tc : Thread Cert.Kernel6Ideal.nD Cert.Kernel6Ideal.τ).loc Cert.Kernel6Ideal.main_v19_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v19_0) = v0 c
          ∧ r.2.mem ((c.tc : Thread Cert.Kernel6Ideal.nD Cert.Kernel6Ideal.τ).loc Cert.Kernel6Ideal.main_v19_1) = v1 c
          ∧ r.2.mem ((c.tc : Thread Cert.Kernel6Ideal.nD Cert.Kernel6Ideal.τ).loc Cert.Kernel6Ideal.main_v19_2) = v2 c
          ∧ r.2.mem ((c.tc : Thread Cert.Kernel6Ideal.nD Cert.Kernel6Ideal.τ).loc Cert.Kernel6Ideal.main_v19_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v51) = v0 c
          ∧ r.2.mem ((c.tc : Thread Cert.Reference6Ideal.nD Cert.Reference6Ideal.τ).loc Cert.Reference6Ideal.main_v52) = v1 c
          ∧ r.2.mem ((c.tc : Thread Cert.Reference6Ideal.nD Cert.Reference6Ideal.τ).loc Cert.Reference6Ideal.main_v53) = v2 c
          ∧ r.2.mem ((c.tc : Thread Cert.Reference6Ideal.nD Cert.Reference6Ideal.τ).loc Cert.Reference6Ideal.main_v55) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inproj : Cert.Pre_finite_inproj.Facts) (hPre_finite_mlp : Cert.Pre_finite_mlp.Facts) (hPre_finite_forward : Cert.Pre_finite_forward.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel3 (hKernel3 := hKernel3)
    ∧ quiescent_Kernel3Ideal (hKernel3Ideal := hKernel3Ideal)
    ∧ quiescent_Kernel3Ideal_pre_finite_inproj (hKernel3Ideal := hKernel3Ideal) (hPre_finite_inproj := hPre_finite_inproj)
    ∧ quiescent_Reference3Ideal (hReference3Ideal := hReference3Ideal)
    ∧ quiescent_Reference3Ideal_pre_finite_inproj (hReference3Ideal := hReference3Ideal) (hPre_finite_inproj := hPre_finite_inproj)
    ∧ quiescent_Kernel4 (hKernel4 := hKernel4)
    ∧ quiescent_Kernel4Ideal (hKernel4Ideal := hKernel4Ideal)
    ∧ quiescent_Kernel4Ideal_pre_finite_mlp (hKernel4Ideal := hKernel4Ideal) (hPre_finite_mlp := hPre_finite_mlp)
    ∧ quiescent_Reference4Ideal (hReference4Ideal := hReference4Ideal)
    ∧ quiescent_Reference4Ideal_pre_finite_mlp (hReference4Ideal := hReference4Ideal) (hPre_finite_mlp := hPre_finite_mlp)
    ∧ quiescent_Kernel5 (hKernel5 := hKernel5)
    ∧ quiescent_Kernel5Ideal (hKernel5Ideal := hKernel5Ideal)
    ∧ quiescent_Kernel5Ideal_pre_finite_forward (hKernel5Ideal := hKernel5Ideal) (hPre_finite_forward := hPre_finite_forward)
    ∧ quiescent_Reference5Ideal (hReference5Ideal := hReference5Ideal)
    ∧ quiescent_Reference5Ideal_pre_finite_forward (hReference5Ideal := hReference5Ideal) (hPre_finite_forward := hPre_finite_forward)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal_pre_finite_inproj (hKernel3Ideal := hKernel3Ideal) (hReference3Ideal := hReference3Ideal) (hPre_finite_inproj := hPre_finite_inproj)
    ∧ preserves_Kernel4_Kernel4Ideal
    ∧ algebraic_Kernel4Ideal_Reference4Ideal_pre_finite_mlp (hKernel4Ideal := hKernel4Ideal) (hReference4Ideal := hReference4Ideal) (hPre_finite_mlp := hPre_finite_mlp)
    ∧ preserves_Kernel5_Kernel5Ideal
    ∧ algebraic_Kernel5Ideal_Reference5Ideal_pre_finite_forward (hKernel5Ideal := hKernel5Ideal) (hReference5Ideal := hReference5Ideal) (hPre_finite_forward := hPre_finite_forward)
    ∧ preserves_Kernel6_Kernel6Ideal
    ∧ algebraic_Kernel6Ideal_Reference6Ideal (hKernel6Ideal := hKernel6Ideal) (hReference6Ideal := hReference6Ideal)
-- ==== Pre_finite_forward.lean ====
abbrev S2x2048x8x64 : Shape := ⟨4, ![2, 2048, 8, 64]⟩
abbrev S2x2048x2x64 : Shape := ⟨4, ![2, 2048, 2, 64]⟩
abbrev S1x8 : Shape := ⟨2, ![1, 8]⟩
abbrev S2x2048x512 : Shape := ⟨3, ![2, 2048, 512]⟩
abbrev S1x4x128x128 : Shape := ⟨4, ![1, 4, 128, 128]⟩
abbrev S1x512 : Shape := ⟨2, ![1, 512]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x2x64 : S_.BroadcastsInDim S2x2048x2x64 (![] : Fin 0 → Fin S2x2048x2x64.rank)
  reducesTo_S2x2048x2x64_S_d0_1_2_3 : S2x2048x2x64.ReducesTo [0, 1, 2, 3] S_
  bcast_S_S1x8 : S_.BroadcastsInDim S1x8 (![] : Fin 0 → Fin S1x8.rank)
  reducesTo_S1x8_S_d0_1 : S1x8.ReducesTo [0, 1] S_
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn_part1 {F : FTy → Type} [FloatOps F] (main_v14 : IVec S_ 1) (main_v15 : FVec F S2x2048x512 .f32) (main_cst_5 : FVec F S_ .f32) : IVec S_ 1 :=
  let main_v16 : FVec F S2x2048x512 .f32 := broadcastInDim S2x2048x512 ![] bcast_S_S2x2048x512 main_cst_5
  let main_v17 : IVec S2x2048x512 1 := cmpf .olt main_v15 main_v16
  let main_c_6 : IVec S_ 1 := constantI S_ 1 1#1
  let main_v18 : IVec S_ 1 := (fun x v => Host.reduce IntOp.andi x v reducesTo_S2x2048x512_S_d0_1_2 h_S_) main_v17 main_c_6
  let main_v19 : IVec S_ 1 := andi main_v14 main_v18
  main_v19

def fn {F : FTy → Type} [FloatOps F] (main_arg0 : FVec F S2x2048x8x64 .f32) (main_arg1 : FVec F S2x2048x2x64 .f32) (main_arg2 : FVec F S2x2048x2x64 .f32) (main_arg3 : FVec F S1x8 .f32) (main_arg4 : FVec F S2x2048x512 .f32) (main_arg5 : FVec F S1x4x128x128 .f32) (main_arg6 : FVec F S1x512 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_c_0 : IVec S_ 1 := constantI S_ 1 1#1
  let main_v4 : IVec S_ 1 := andi main_c_0 main_v3
  let main_v5 : FVec F S2x2048x2x64 .f32 := Host.absf main_arg1
  let main_cst_1 : FVec F S_ .f32 := constant S_ .f32 0x7F800000#32
  let main_v6 : FVec F S2x2048x2x64 .f32 := broadcastInDim S2x2048x2x64 ![] bcast_S_S2x2048x2x64 main_cst_1
  let main_v7 : IVec S2x2048x2x64 1 := cmpf .olt main_v5 main_v6
  let main_c_2 : IVec S_ 1 := constantI S_ 1 1#1
  let main_v8 : IVec S_ 1 := (fun x v => Host.reduce IntOp.andi x v reducesTo_S2x2048x2x64_S_d0_1_2_3 h_S_) main_v7 main_c_2
  let main_v9 : IVec S_ 1 := andi main_v4 main_v8
  let main_v10 : FVec F S1x8 .f32 := Host.absf main_arg3
  let main_cst_3 : FVec F S_ .f32 := constant S_ .f32 0x7F800000#32
  let main_v11 : FVec F S1x8 .f32 := broadcastInDim S1x8 ![] bcast_S_S1x8 main_cst_3
  let main_v12 : IVec S1x8 1 := cmpf .olt main_v10 main_v11
  let main_c_4 : IVec S_ 1 := constantI S_ 1 1#1
  let main_v13 : IVec S_ 1 := (fun x v => Host.reduce IntOp.andi x v reducesTo_S1x8_S_d0_1 h_S_) main_v12 main_c_4
  let main_v14 : IVec S_ 1 := andi main_v9 main_v13
  let main_v15 : FVec F S2x2048x512 .f32 := Host.absf main_arg4
  let main_cst_5 : FVec F S_ .f32 := constant S_ .f32 0x7F800000#32
  fn_part1 (F := F) main_v14 main_v15 main_cst_5
-- ==== Pre_finite_inproj.lean ====
abbrev S2x2048x1024 : Shape := ⟨3, ![2, 2048, 1024]⟩
abbrev S1x1024 : Shape := ⟨2, ![1, 1024]⟩
abbrev S1x1024x3328 : Shape := ⟨3, ![1, 1024, 3328]⟩
abbrev S1x3328 : Shape := ⟨2, ![1, 3328]⟩
abbrev S4096x1024 : Shape := ⟨2, ![4096, 1024]⟩
abbrev S4096x512 : Shape := ⟨2, ![4096, 512]⟩
abbrev S4096x128 : Shape := ⟨2, ![4096, 128]⟩
abbrev S4096x2048 : Shape := ⟨2, ![4096, 2048]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x3328 : S_.BroadcastsInDim S1x1024x3328 (![] : Fin 0 → Fin S1x1024x3328.rank)
  reducesTo_S1x1024x3328_S_d0_1_2 : S1x1024x3328.ReducesTo [0, 1, 2] S_
  bcast_S_S4096x512 : S_.BroadcastsInDim S4096x512 (![] : Fin 0 → Fin S4096x512.rank)
  reducesTo_S4096x512_S_d0_1 : S4096x512.ReducesTo [0, 1] S_
  bcast_S_S4096x128 : S_.BroadcastsInDim S4096x128 (![] : Fin 0 → Fin S4096x128.rank)
  reducesTo_S4096x128_S_d0_1 : S4096x128.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part2 {F : FTy → Type} [FloatOps F] (main_arg9 : FVec F S4096x2048 .bf16) (main_v29 : IVec S_ 1) (main_v32 : IVec S4096x128 1) (main_c_12 : IVec S_ 1) : IVec S_ 1 :=
  let main_v33 : IVec S_ 1 := (fun x v => Host.reduce IntOp.andi x v reducesTo_S4096x128_S_d0_1 h_S_) main_v32 main_c_12
  let main_v34 : IVec S_ 1 := andi main_v29 main_v33
  let main_v35 : FVec F S4096x2048 .bf16 := Host.absf main_arg9
  let main_cst_13 : FVec F S_ .bf16 := constant S_ .bf16 0x7F80#16
  let main_v36 : FVec F S4096x2048 .bf16 := broadcastInDim S4096x2048 ![] bcast_S_S4096x2048 main_cst_13
  let main_v37 : IVec S4096x2048 1 := cmpf .olt main_v35 main_v36
  let main_c_14 : IVec S_ 1 := constantI S_ 1 1#1
  let main_v38 : IVec S_ 1 := (fun x v => Host.reduce IntOp.andi x v reducesTo_S4096x2048_S_d0_1 h_S_) main_v37 main_c_14
  let main_v39 : IVec S_ 1 := andi main_v34 main_v38
  main_v39

def fn_part1 {F : FTy → Type} [FloatOps F] (main_arg6 : FVec F S4096x512 .bf16) (main_arg7 : FVec F S4096x128 .bf16) (main_arg8 : FVec F S4096x128 .bf16) (main_arg9 : FVec F S4096x2048 .bf16) (main_v14 : IVec S_ 1) (main_v15 : FVec F S4096x512 .bf16) (main_cst_5 : FVec F S_ .bf16) : IVec S_ 1 :=
  let main_v16 : FVec F S4096x512 .bf16 := broadcastInDim S4096x512 ![] bcast_S_S4096x512 main_cst_5
  let main_v17 : IVec S4096x512 1 := cmpf .olt main_v15 main_v16
  let main_c_6 : IVec S_ 1 := constantI S_ 1 1#1
  let main_v18 : IVec S_ 1 := (fun x v => Host.reduce IntOp.andi x v reducesTo_S4096x512_S_d0_1 h_S_) main_v17 main_c_6
  let main_v19 : IVec S_ 1 := andi main_v14 main_v18
  let main_v20 : FVec F S4096x512 .bf16 := Host.absf main_arg6
  let main_cst_7 : FVec F S_ .bf16 := constant S_ .bf16 0x7F80#16
  let main_v21 : FVec F S4096x512 .bf16 := broadcastInDim S4096x512 ![] bcast_S_S4096x512 main_cst_7
  let main_v22 : IVec S4096x512 1 := cmpf .olt main_v20 main_v21
  let main_c_8 : IVec S_ 1 := constantI S_ 1 1#1
  let main_v23 : IVec S_ 1 := (fun x v => Host.reduce IntOp.andi x v reducesTo_S4096x512_S_d0_1 h_S_) main_v22 main_c_8
  let main_v24 : IVec S_ 1 := andi main_v19 main_v23
  let main_v25 : FVec F S4096x128 .bf16 := Host.absf main_arg7
  let main_cst_9 : FVec F S_ .bf16 := constant S_ .bf16 0x7F80#16
  let main_v26 : FVec F S4096x128 .bf16 := broadcastInDim S4096x128 ![] bcast_S_S4096x128 main_cst_9
  let main_v27 : IVec S4096x128 1 := cmpf .olt main_v25 main_v26
  let main_c_10 : IVec S_ 1 := constantI S_ 1 1#1
  let main_v28 : IVec S_ 1 := (fun x v => Host.reduce IntOp.andi x v reducesTo_S4096x128_S_d0_1 h_S_) main_v27 main_c_10
  let main_v29 : IVec S_ 1 := andi main_v24 main_v28
  let main_v30 : FVec F S4096x128 .bf16 := Host.absf main_arg8
  let main_cst_11 : FVec F S_ .bf16 := constant S_ .bf16 0x7F80#16
  let main_v31 : FVec F S4096x128 .bf16 := broadcastInDim S4096x128 ![] bcast_S_S4096x128 main_cst_11
  let main_v32 : IVec S4096x128 1 := cmpf .olt main_v30 main_v31
  let main_c_12 : IVec S_ 1 := constantI S_ 1 1#1
  fn_part2 (F := F) main_arg9 main_v29 main_v32 main_c_12

def fn {F : FTy → Type} [FloatOps F] (main_arg0 : FVec F S2x2048x1024 .f32) (main_arg1 : FVec F S1x1024 .f32) (main_arg2 : FVec F S1x1024x3328 .f32) (main_arg3 : FVec F S1x3328 .f32) (main_arg4 : FVec F S4096x1024 .f32) (main_arg5 : FVec F S4096x512 .bf16) (main_arg6 : FVec F S4096x512 .bf16) (main_arg7 : FVec F S4096x128 .bf16) (main_arg8 : FVec F S4096x128 .bf16) (main_arg9 : FVec F S4096x2048 .bf16) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1x1024x3328 .f32 := Host.absf main_arg2
  let main_cst_3 : FVec F S_ .f32 := constant S_ .f32 0x7F800000#32
  let main_v11 : FVec F S1x1024x3328 .f32 := broadcastInDim S1x1024x3328 ![] bcast_S_S1x1024x3328 main_cst_3
  let main_v12 : IVec S1x1024x3328 1 := cmpf .olt main_v10 main_v11
  let main_c_4 : IVec S_ 1 := constantI S_ 1 1#1
  let main_v13 : IVec S_ 1 := (fun x v => Host.reduce IntOp.andi x v reducesTo_S1x1024x3328_S_d0_1_2 h_S_) main_v12 main_c_4
  let main_v14 : IVec S_ 1 := andi main_v9 main_v13
  let main_v15 : FVec F S4096x512 .bf16 := Host.absf main_arg5
  let main_cst_5 : FVec F S_ .bf16 := constant S_ .bf16 0x7F80#16
  fn_part1 (F := F) main_arg6 main_arg7 main_arg8 main_arg9 main_v14 main_v15 main_cst_5
-- ==== Pre_finite_mlp.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part2 {F : FTy → Type} [FloatOps F] (main_arg7 : FVec F S2x2048x1024 .f32) (main_v29 : IVec S_ 1) (main_v32 : IVec S1x1024 1) (main_c_12 : IVec S_ 1) : IVec S_ 1 :=
  let main_v33 : IVec S_ 1 := (fun x v => Host.reduce IntOp.andi x v reducesTo_S1x1024_S_d0_1 h_S_) main_v32 main_c_12
  let main_v34 : IVec S_ 1 := andi main_v29 main_v33
  let main_v35 : FVec F S2x2048x1024 .f32 := Host.absf main_arg7
  let main_cst_13 : FVec F S_ .f32 := constant S_ .f32 0x7F800000#32
  let main_v36 : FVec F S2x2048x1024 .f32 := broadcastInDim S2x2048x1024 ![] bcast_S_S2x2048x1024 main_cst_13
  let main_v37 : IVec S2x2048x1024 1 := cmpf .olt main_v35 main_v36
  let main_c_14 : IVec S_ 1 := constantI S_ 1 1#1
  let main_v38 : IVec S_ 1 := (fun x v => Host.reduce IntOp.andi x v reducesTo_S2x2048x1024_S_d0_1_2 h_S_) main_v37 main_c_14
  let main_v39 : IVec S_ 1 := andi main_v34 main_v38
  main_v39

def fn_part1 {F : FTy → Type} [FloatOps F] (main_arg4 : FVec F S1x1024x4096 .f32) (main_arg5 : FVec F S1x4096x1024 .f32) (main_arg6 : FVec F S1x1024 .f32) (main_arg7 : FVec F S2x2048x1024 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1x1024x4096 .f32 := Host.absf main_arg4
  let main_cst_7 : FVec F S_ .f32 := constant S_ .f32 0x7F800000#32
  let main_v21 : FVec F S1x1024x4096 .f32 := broadcastInDim S1x1024x4096 ![] bcast_S_S1x1024x4096 main_cst_7
  let main_v22 : IVec S1x1024x4096 1 := cmpf .olt main_v20 main_v21
  let main_c_8 : IVec S_ 1 := constantI S_ 1 1#1
  let main_v23 : IVec S_ 1 := (fun x v => Host.reduce IntOp.andi x v reducesTo_S1x1024x4096_S_d0_1_2 h_S_) main_v22 main_c_8
  let main_v24 : IVec S_ 1 := andi main_v19 main_v23
  let main_v25 : FVec F S1x4096x1024 .f32 := Host.absf main_arg5
  let main_cst_9 : FVec F S_ .f32 := constant S_ .f32 0x7F800000#32
  let main_v26 : FVec F S1x4096x1024 .f32 := broadcastInDim S1x4096x1024 ![] bcast_S_S1x4096x1024 main_cst_9
  let main_v27 : IVec S1x4096x1024 1 := cmpf .olt main_v25 main_v26
  let main_c_10 : IVec S_ 1 := constantI S_ 1 1#1
  let main_v28 : IVec S_ 1 := (fun x v => Host.reduce IntOp.andi x v reducesTo_S1x4096x1024_S_d0_1_2 h_S_) main_v27 main_c_10
  let main_v29 : IVec S_ 1 := andi main_v24 main_v28
  let main_v30 : FVec F S1x1024 .f32 := Host.absf main_arg6
  let main_cst_11 : FVec F S_ .f32 := constant S_ .f32 0x7F800000#32
  let main_v31 : FVec F S1x1024 .f32 := broadcastInDim S1x1024 ![] bcast_S_S1x1024 main_cst_11
  let main_v32 : IVec S1x1024 1 := cmpf .olt main_v30 main_v31
  let main_c_12 : IVec S_ 1 := constantI S_ 1 1#1
  fn_part2 (F := F) main_arg7 main_v29 main_v32 main_c_12

def fn {F : FTy → Type} [FloatOps F] (main_arg0 : FVec F S2x2048x1024 .f32) (main_arg1 : FVec F S2x2048x1024 .f32) (main_arg2 : FVec F S1x1024 .f32) (main_arg3 : FVec F S1x1024 .f32) (main_arg4 : FVec F S1x1024x4096 .f32) (main_arg5 : FVec F S1x4096x1024 .f32) (main_arg6 : FVec F S1x1024 .f32) (main_arg7 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_c_0 : IVec S_ 1 := constantI S_ 1 1#1
  let main_v4 : IVec S_ 1 := andi main_c_0 main_v3
  let main_v5 : FVec F S2x2048x1024 .f32 := Host.absf main_arg1
  let main_cst_1 : FVec F S_ .f32 := constant S_ .f32 0x7F800000#32
  let main_v6 : FVec F S2x2048x1024 .f32 := broadcastInDim S2x2048x1024 ![] bcast_S_S2x2048x1024 main_cst_1
  let main_v7 : IVec S2x2048x1024 1 := cmpf .olt main_v5 main_v6
  let main_c_2 : IVec S_ 1 := constantI S_ 1 1#1
  let main_v8 : IVec S_ 1 := (fun x v => Host.reduce IntOp.andi x v reducesTo_S2x2048x1024_S_d0_1_2 h_S_) main_v7 main_c_2
  let main_v9 : IVec S_ 1 := andi main_v4 main_v8
  let main_v10 : FVec F S1x1024 .f32 := Host.absf main_arg2
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_arg5 main_arg6 main_arg7 main_v14 main_v15 main_cst_5
-- ==== Kernel.lean ====
abbrev S4096x1024 : Shape := ⟨2, ![4096, 1024]⟩
abbrev S2x2048x2048 : Shape := ⟨3, ![2, 2048, 2048]⟩
abbrev S4096x512 : Shape := ⟨2, ![4096, 512]⟩
abbrev S1x1024x1024 : Shape := ⟨3, ![1, 1024, 1024]⟩
abbrev S1x512x1024 : Shape := ⟨3, ![1, 512, 1024]⟩
abbrev S_ : Shape := ⟨0, ![]⟩
abbrev S4096x2048 : Shape := ⟨2, ![4096, 2048]⟩
abbrev S1024x1024 : Shape := ⟨2, ![1024, 1024]⟩
abbrev S512x1024 : Shape := ⟨2, ![512, 1024]⟩
abbrev S512x4x256 : Shape := ⟨3, ![512, 4, 256]⟩
abbrev S4x512x256 : Shape := ⟨3, ![4, 512, 256]⟩
abbrev S512x2048 : Shape := ⟨2, ![512, 2048]⟩
abbrev S512x512 : Shape := ⟨2, ![512, 512]⟩
abbrev S1x512x256 : Shape := ⟨3, ![1, 512, 256]⟩
abbrev S512x256 : Shape := ⟨2, ![512, 256]⟩

abbrev nBuf : Space → Nat
  | .hbm => 32
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S2x2048x2048, .f32⟩
  | .hbm, ⟨2, _⟩ => ⟨S4096x512, .bf16⟩
  | .hbm, ⟨3, _⟩ => ⟨S4096x512, .bf16⟩
  | .hbm, ⟨4, _⟩ => ⟨S1x1024x1024, .f32⟩
  | .hbm, ⟨5, _⟩ => ⟨S1x512x1024, .f32⟩
  | .hbm, ⟨6, _⟩ => ⟨S1x512x1024, .f32⟩
  | .hbm, ⟨7, _⟩ => ⟨S2x2048x2048, .f32⟩
  | .hbm, ⟨8, _⟩ => ⟨S2x2048x2048, .f32⟩
  | .hbm, ⟨9, _⟩ => ⟨S_, .f32⟩
  | .hbm, ⟨10, _⟩ => ⟨S2x2048x2048, .f32⟩
  | .hbm, ⟨11, _⟩ => ⟨S2x2048x2048, .f32⟩
  | .hbm, ⟨12, _⟩ => ⟨S_, .f32⟩
  | .hbm, ⟨13, _⟩ => ⟨S2x2048x2048, .f32⟩
  | .hbm, ⟨14, _⟩ => ⟨S2x2048x2048, .f32⟩
  | .hbm, ⟨15, _⟩ => ⟨S2x2048x2048, .bf16⟩
  | .hbm, ⟨16, _⟩ => ⟨S4096x2048, .bf16⟩
  | .hbm, ⟨17, _⟩ => ⟨S1024x1024, .f32⟩
  | .hbm, ⟨18, _⟩ => ⟨S1024x1024, .bf16⟩
  | .hbm, ⟨19, _⟩ => ⟨S512x1024, .f32⟩
  | .hbm, ⟨20, _⟩ => ⟨S512x1024, .bf16⟩
  | .hbm, ⟨21, _⟩ => ⟨S512x4x256, .bf16⟩
  | .hbm, ⟨22, _⟩ => ⟨S4x512x256, .bf16⟩
  | .hbm, ⟨23, _⟩ => ⟨S512x1024, .f32⟩
  | .hbm, ⟨24, _⟩ => ⟨S512x1024, .bf16⟩
  | .hbm, ⟨25, _⟩ => ⟨S512x4x256, .bf16⟩
  | .hbm, ⟨26, _⟩ => ⟨S4x512x256, .bf16⟩
  | .hbm, ⟨27, _⟩ => ⟨S4096x1024, .bf16⟩
  | .hbm, ⟨28, _⟩ => ⟨S4096x1024, .bf16⟩
  | .hbm, ⟨29, _⟩ => ⟨S4096x2048, .bf16⟩
  | .hbm, ⟨30, _⟩ => ⟨S4096x512, .f32⟩
  | .hbm, ⟨31, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S4x512x256, .bf16⟩
  | .local _ .vmem, ⟨10, _⟩ => ⟨S4x512x256, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x1024 : Shape := ⟨2, ![4096, 1024]⟩
abbrev S2x2048x2048 : Shape := ⟨3, ![2, 2048, 2048]⟩
abbrev S4096x512 : Shape := ⟨2, ![4096, 512]⟩
abbrev S1x1024x1024 : Shape := ⟨3, ![1, 1024, 1024]⟩
abbrev S1x512x1024 : Shape := ⟨3, ![1, 512, 1024]⟩
abbrev S2x2048x512 : Shape := ⟨3, ![2, 2048, 512]⟩
abbrev S2x2048x1024 : Shape := ⟨3, ![2, 2048, 1024]⟩
abbrev S512x1024 : Shape := ⟨2, ![512, 1024]⟩
abbrev S_ : Shape := ⟨0, ![]⟩
abbrev S1024x1024 : Shape := ⟨2, ![1024, 1024]⟩
abbrev S4096x2048 : Shape := ⟨2, ![4096, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x2048x2048, .f32⟩
  | .hbm, ⟨2, _⟩ => ⟨S4096x512, .bf16⟩
  | .hbm, ⟨3, _⟩ => ⟨S4096x512, .bf16⟩
  | .hbm, ⟨4, _⟩ => ⟨S1x1024x1024, .f32⟩
  | .hbm, ⟨5, _⟩ => ⟨S1x512x1024, .f32⟩
  | .hbm, ⟨6, _⟩ => ⟨S1x512x1024, .f32⟩
  | .hbm, ⟨7, _⟩ => ⟨S4096x512, .f32⟩
  | .hbm, ⟨8, _⟩ => ⟨S2x2048x512, .f32⟩
  | .hbm, ⟨9, _⟩ => ⟨S4096x512, .f32⟩
  | .hbm, ⟨10, _⟩ => ⟨S2x2048x512, .f32⟩
  | .hbm, ⟨11, _⟩ => ⟨S4096x1024, .f32⟩
  | .hbm, ⟨12, _⟩ => ⟨S2x2048x1024, .f32⟩
  | .hbm, ⟨13, _⟩ => ⟨S512x1024, .f32⟩
  | .hbm, ⟨14, _⟩ => ⟨S2x2048x1024, .f32⟩
  | .hbm, ⟨15, _⟩ => ⟨S512x1024, .f32⟩
  | .hbm, ⟨16, _⟩ => ⟨S2x2048x1024, .f32⟩
  | .hbm, ⟨17, _⟩ => ⟨S2x2048x2048, .f32⟩
  | .hbm, ⟨18, _⟩ => ⟨S2x2048x2048, .f32⟩
  | .hbm, ⟨19, _⟩ => ⟨S_, .f32⟩
  | .hbm, ⟨20, _⟩ => ⟨S2x2048x2048, .f32⟩
  | .hbm, ⟨21, _⟩ => ⟨S2x2048x2048, .f32⟩
  | .hbm, ⟨22, _⟩ => ⟨S_, .f32⟩
  | .hbm, ⟨23, _⟩ => ⟨S2x2048x2048, .f32⟩
  | .hbm, ⟨24, _⟩ => ⟨S2x2048x2048, .f32⟩
  | .hbm, ⟨25, _⟩ => ⟨S_, .f32⟩
  | .hbm, ⟨26, _⟩ => ⟨S2x2048x2048, .f32⟩
  | .hbm, ⟨27, _⟩ => ⟨S2x2048x2048, .f32⟩
  | .hbm, ⟨28, _⟩ => ⟨S2x2048x2048, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S1024x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S_, .f32⟩
  | .hbm, ⟨42, _⟩ => ⟨S2x2048x2048, .f32⟩
  | .hbm, ⟨43, _⟩ => ⟨S_, .f32⟩
  | .hbm, ⟨44, _⟩ => ⟨S2x2048x2048, .f32⟩
  | .hbm, ⟨45, _⟩ => ⟨S2x2048x2048, .f32⟩
  | .hbm, ⟨46, _⟩ => ⟨S2x2048x2048, .f32⟩
  | .hbm, ⟨47, _⟩ => ⟨S2x2048x512, .f32⟩
  | .hbm, ⟨48, _⟩ => ⟨S2x2048x512, .f32⟩
  | .hbm, ⟨49, _⟩ => ⟨S4096x1024, .f32⟩
  | .hbm, ⟨50, _⟩ => ⟨S4096x1024, .bf16⟩
  | .hbm, ⟨51, _⟩ => ⟨S4096x1024, .f32⟩
  | .hbm, ⟨52, _⟩ => ⟨S4096x1024, .bf16⟩
  | .hbm, ⟨53, _⟩ => ⟨S4096x2048, .f32⟩
  | .hbm, ⟨54, _⟩ => ⟨S4096x2048, .bf16⟩
  | .hbm, ⟨55, _⟩ => ⟨S4096x512, .f32⟩
  | .hbm, ⟨56, _⟩ => ⟨S4096x512, .f32⟩
  | .hbm, ⟨57, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Kernel2.lean ====
abbrev S2x2048x512 : Shape := ⟨3, ![2, 2048, 512]⟩
abbrev S2x2048x128 : Shape := ⟨3, ![2, 2048, 128]⟩
abbrev S1x8 : Shape := ⟨2, ![1, 8]⟩
abbrev S1x4x128x128 : Shape := ⟨4, ![1, 4, 128, 128]⟩
abbrev S1x512 : Shape := ⟨2, ![1, 512]⟩
abbrev S4096x512 : Shape := ⟨2, ![4096, 512]⟩
abbrev S2048 : Shape := ⟨1, ![2048]⟩
abbrev S8 : Shape := ⟨1, ![8]⟩
abbrev S_ : Shape := ⟨0, ![]⟩
abbrev S2048x1 : Shape := ⟨2, ![2048, 1]⟩
abbrev S2048x8 : Shape := ⟨2, ![2048, 8]⟩
abbrev S2x2048x8x64 : Shape := ⟨4, ![2, 2048, 8, 64]⟩
abbrev S2x2048x8x8 : Shape := ⟨4, ![2, 2048, 8, 8]⟩
abbrev S1x2048x1x8 : Shape := ⟨4, ![1, 2048, 1, 8]⟩
abbrev S2x2048x8x48 : Shape := ⟨4, ![2, 2048, 8, 48]⟩
abbrev S2x2048x2x64 : Shape := ⟨4, ![2, 2048, 2, 64]⟩
abbrev S2x2048x2x8 : Shape := ⟨4, ![2, 2048, 2, 8]⟩
abbrev S2x2048x2x48 : Shape := ⟨4, ![2, 2048, 2, 48]⟩
abbrev S2x2049x512 : Shape := ⟨3, ![2, 2049, 512]⟩
abbrev S2x2049x128 : Shape := ⟨3, ![2, 2049, 128]⟩
abbrev S2x2047x128 : Shape := ⟨3, ![2, 2047, 128]⟩
abbrev S1x2048x1 : Shape := ⟨3, ![1, 2048, 1]⟩
abbrev S2x2045x128 : Shape := ⟨3, ![2, 2045, 128]⟩
abbrev S2x2041x128 : Shape := ⟨3, ![2, 2041, 128]⟩
abbrev S2x2033x128 : Shape := ⟨3, ![2, 2033, 128]⟩
abbrev S2x2048x1x128 : Shape := ⟨4, ![2, 2048, 1, 128]⟩
abbrev S2x2048x4x128 : Shape := ⟨4, ![2, 2048, 4, 128]⟩
abbrev S4096x128 : Shape := ⟨2, ![4096, 128]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4x128x128 : Shape := ⟨3, ![4, 128, 128]⟩
abbrev S8x128 : Shape := ⟨2, ![8, 128]⟩
abbrev S2x128x512 : Shape := ⟨3, ![2, 128, 512]⟩
abbrev S2x128x128 : Shape := ⟨3, ![2, 128, 128]⟩
abbrev S128x128 : Shape := ⟨2, ![128, 128]⟩
abbrev S256x512 : Shape := ⟨2, ![256, 512]⟩
abbrev S16x512 : Shape := ⟨2, ![16, 512]⟩
abbrev S272x512 : Shape := ⟨2, ![272, 512]⟩
abbrev S272x1 : Shape := ⟨2, ![272, 1]⟩
abbrev S1x128x128 : Shape := ⟨3, ![1, 128, 128]⟩
abbrev S272x128 : Shape := ⟨2, ![272, 128]⟩
abbrev S256x128 : Shape := ⟨2, ![256, 128]⟩
abbrev S1x128 : Shape := ⟨2, ![1, 128]⟩
abbrev S128 : Shape := ⟨1, ![128]⟩
abbrev S512x256 : Shape := ⟨2, ![512, 256]⟩
abbrev S1x128x512 : Shape := ⟨3, ![1, 128, 512]⟩
abbrev S128x512 : Shape := ⟨2, ![128, 512]⟩
abbrev S512x128 : Shape := ⟨2, ![512, 128]⟩
abbrev S512x1 : Shape := ⟨2, ![512, 1]⟩
abbrev S1 : Shape := ⟨1, ![1]⟩
abbrev S512 : Shape := ⟨1, ![512]⟩
abbrev S128x1 : Shape := ⟨2, ![128, 1]⟩
abbrev S1x128x1 : Shape := ⟨3, ![1, 128, 1]⟩
abbrev S1x1x1 : Shape := ⟨3, ![1, 1, 1]⟩

abbrev nBuf : Space → Nat
  | .hbm => 217
  | .vmem => 45
  | .smem => 1
  | _ => 0

abbrev hbmTy0_0 (i : Nat) : BufTy := match i % 128 with
  | 0 => ⟨S2x2048x512, .f32⟩
  | 1 => ⟨S2x2048x128, .f32⟩
  | 2 => ⟨S2x2048x128, .f32⟩
  | 3 => ⟨S1x8, .f32⟩
  | 4 => ⟨S2x2048x512, .f32⟩
  | 5 => ⟨S1x4x128x128, .f32⟩
  | 6 => ⟨S1x512, .f32⟩
  | 7 => ⟨S4096x512, .bf16⟩
  | 8 => ⟨S4096x512, .f32⟩
  | 9 => ⟨S2048, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S2048x1, .f32⟩
  | 25 => ⟨S1x8, .f32⟩
  | 26 => ⟨S2048x8, .f32⟩
  | 27 => ⟨S2048x8, .f32⟩
  | 28 => ⟨S2048x8, .f32⟩
  | 29 => ⟨S2048x8, .f32⟩
  | 30 => ⟨S2048x8, .f32⟩
  | 31 => ⟨S2x2048x8x64, .f32⟩
  | 32 => ⟨S2x2048x8x8, .f32⟩
  | 33 => ⟨S2x2048x8x8, .f32⟩
  | 34 => ⟨S1x2048x1x8, .f32⟩
  | 35 => ⟨S1x2048x1x8, .f32⟩
  | 36 => ⟨S2x2048x8x8, .f32⟩
  | 37 => ⟨S2x2048x8x8, .f32⟩
  | 38 => ⟨S2x2048x8x8, .f32⟩
  | 39 => ⟨S2x2048x8x8, .f32⟩
  | 40 => ⟨S2x2048x8x8, .f32⟩
  | 41 => ⟨S2x2048x8x8, .f32⟩
  | 42 => ⟨S2x2048x8x8, .f32⟩
  | 43 => ⟨S2x2048x8x8, .f32⟩
  | 44 => ⟨S2x2048x8x8, .f32⟩
  | 45 => ⟨S2x2048x8x8, .f32⟩
  | 46 => ⟨S2x2048x8x48, .f32⟩
  | 47 => ⟨S2x2048x8x64, .f32⟩
  | 48 => ⟨S_, .f32⟩
  | 49 => ⟨S2x2048x8x64, .f32⟩
  | 50 => ⟨S2x2048x8x64, .f32⟩
  | 51 => ⟨S2x2048x2x64, .f32⟩
  | 52 => ⟨S2x2048x2x8, .f32⟩
  | 53 => ⟨S2x2048x2x8, .f32⟩
  | 54 => ⟨S1x2048x1x8, .f32⟩
  | 55 => ⟨S1x2048x1x8, .f32⟩
  | 56 => ⟨S2x2048x2x8, .f32⟩
  | 57 => ⟨S2x2048x2x8, .f32⟩
  | 58 => ⟨S2x2048x2x8, .f32⟩
  | 59 => ⟨S2x2048x2x8, .f32⟩
  | 60 => ⟨S2x2048x2x8, .f32⟩
  | 61 => ⟨S2x2048x2x8, .f32⟩
  | 62 => ⟨S2x2048x2x8, .f32⟩
  | 63 => ⟨S2x2048x2x8, .f32⟩
  | 64 => ⟨S2x2048x2x8, .f32⟩
  | 65 => ⟨S2x2048x2x8, .f32⟩
  | 66 => ⟨S2x2048x2x48, .f32⟩
  | 67 => ⟨S2x2048x2x64, .f32⟩
  | 68 => ⟨S_, .f32⟩
  | 69 => ⟨S_, .f32⟩
  | 70 => ⟨S2x2048x512, .f32⟩
  | 71 => ⟨S_, .i32⟩
  | 72 => ⟨S_, .f32⟩
  | 73 => ⟨S2x2049x512, .f32⟩
  | 74 => ⟨S2048, .i32⟩
  | 75 => ⟨S2x2049x128, .f32⟩
  | 76 => ⟨S2x2048x128, .f32⟩
  | 77 => ⟨S2x2047x128, .f32⟩
  | 78 => ⟨S_, .i32⟩
  | 79 => ⟨S_, .f32⟩
  | 80 => ⟨S2x2048x128, .f32⟩
  | 81 => ⟨S_, .i32⟩
  | 82 => ⟨S2048, .i32⟩
  | 83 => ⟨S2048, .i32⟩
  | 84 => ⟨S_, .i32⟩
  | 85 => ⟨S2048, .i32⟩
  | 86 => ⟨S2048, .i32⟩
  | 87 => ⟨S2048, .f32⟩
  | 88 => ⟨S1x2048x1, .f32⟩
  | 89 => ⟨S2x2048x128, .f32⟩
  | 90 => ⟨S2x2048x128, .f32⟩
  | 91 => ⟨S2x2048x128, .f32⟩
  | 92 => ⟨S2x2049x128, .f32⟩
  | 93 => ⟨S2x2048x128, .f32⟩
  | 94 => ⟨S2x2045x128, .f32⟩
  | 95 => ⟨S_, .i32⟩
  | 96 => ⟨S_, .f32⟩
  | 97 => ⟨S2x2048x128, .f32⟩
  | 98 => ⟨S_, .i32⟩
  | 99 => ⟨S2048, .i32⟩
  | 100 => ⟨S2048, .i32⟩
  | 101 => ⟨S_, .i32⟩
  | 102 => ⟨S2048, .i32⟩
  | 103 => ⟨S2048, .i32⟩
  | 104 => ⟨S2048, .f32⟩
  | 105 => ⟨S1x2048x1, .f32⟩
  | 106 => ⟨S2x2048x128, .f32⟩
  | 107 => ⟨S2x2048x128, .f32⟩
  | 108 => ⟨S2x2048x128, .f32⟩
  | 109 => ⟨S2x2049x128, .f32⟩
  | 110 => ⟨S2x2048x128, .f32⟩
  | 111 => ⟨S2x2041x128, .f32⟩
  | 112 => ⟨S_, .i32⟩
  | 113 => ⟨S_, .f32⟩
  | 114 => ⟨S2x2048x128, .f32⟩
  | 115 => ⟨S_, .i32⟩
  | 116 => ⟨S2048, .i32⟩
  | 117 => ⟨S2048, .i32⟩
  | 118 => ⟨S_, .i32⟩
  | 119 => ⟨S2048, .i32⟩
  | 120 => ⟨S2048, .i32⟩
  | 121 => ⟨S2048, .f32⟩
  | 122 => ⟨S1x2048x1, .f32⟩
  | 123 => ⟨S2x2048x128, .f32⟩
  | 124 => ⟨S2x2048x128, .f32⟩
  | 125 => ⟨S2x2048x128, .f32⟩
  | 126 => ⟨S2x2049x128, .f32⟩
  | 127 => ⟨S2x2048x128, .f32⟩
  | _ => ⟨S2x2048x512, .f32⟩

abbrev hbmTy0_1 (i : Nat) : BufTy := match i % 128 with
  | 0 => ⟨S2x2033x128, .f32⟩
  | 1 => ⟨S_, .i32⟩
  | 2 => ⟨S_, .f32⟩
  | 3 => ⟨S2x2048x128, .f32⟩
  | 4 => ⟨S_, .i32⟩
  | 5 => ⟨S2048, .i32⟩
  | 6 => ⟨S2048, .i32⟩
  | 7 => ⟨S_, .i32⟩
  | 8 => ⟨S2048, .i32⟩
  | 9 => ⟨S2048, .i32⟩
  | 10 => ⟨S2048, .f32⟩
  | 11 => ⟨S1x2048x1, .f32⟩
  | 12 => ⟨S2x2048x128, .f32⟩
  | 13 => ⟨S2x2048x128, .f32⟩
  | 14 => ⟨S2x2048x128, .f32⟩
  | 15 => ⟨S2x2048x1x128, .f32⟩
  | 16 => ⟨S2x2048x1x128, .f32⟩
  | 17 => ⟨S2x2048x1x128, .f32⟩
  | 18 => ⟨S2x2048x1x128, .f32⟩
  | 19 => ⟨S2x2048x4x128, .f32⟩
  | 20 => ⟨S2x2048x4x128, .f32⟩
  | 21 => ⟨S2x2048x4x128, .f32⟩
  | 22 => ⟨S4096x512, .f32⟩
  | 23 => ⟨S4096x512, .bf16⟩
  | 24 => ⟨S4096x128, .f32⟩
  | 25 => ⟨S4096x128, .bf16⟩
  | 26 => ⟨S4096x128, .f32⟩
  | 27 => ⟨S4096x128, .bf16⟩
  | 28 => ⟨S8, .f32⟩
  | 29 => ⟨S2048, .f32⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S2048x1, .f32⟩
  | 45 => ⟨S1x8, .f32⟩
  | 46 => ⟨S2048x8, .f32⟩
  | 47 => ⟨S2048x8, .f32⟩
  | 48 => ⟨S2048x8, .f32⟩
  | 49 => ⟨S2048x8, .f32⟩
  | 50 => ⟨S2048x8, .f32⟩
  | 51 => ⟨S_, .f32⟩
  | 52 => ⟨S2048x48, .f32⟩
  | 53 => ⟨S_, .f32⟩
  | 54 => ⟨S2048x8, .f32⟩
  | 55 => ⟨S_, .f32⟩
  | 56 => ⟨S2048x48, .f32⟩
  | 57 => ⟨S2048x64, .f32⟩
  | 58 => ⟨S2048x8, .f32⟩
  | 59 => ⟨S2048x64, .f32⟩
  | 60 => ⟨S2048x64, .f32⟩
  | 61 => ⟨S1x2048x1x64, .f32⟩
  | 62 => ⟨S1x2048x2x64, .f32⟩
  | 63 => ⟨S2048x128, .f32⟩
  | 64 => ⟨S1x2048x1x64, .f32⟩
  | 65 => ⟨S1x2048x2x64, .f32⟩
  | 66 => ⟨S2048x128, .f32⟩
  | 67 => ⟨S1x2048x1x64, .f32⟩
  | 68 => ⟨S1x2048x2x64, .f32⟩
  | 69 => ⟨S2048x128, .f32⟩
  | 70 => ⟨S4096x512, .f32⟩
  | 71 => ⟨S4096x512, .bf16⟩
  | 72 => ⟨S4x128x128, .f32⟩
  | 73 => ⟨S2x2048x512, .bf16⟩
  | 74 => ⟨S2x2048x512, .bf16⟩
  | 75 => ⟨S2x2048x128, .bf16⟩
  | 76 => ⟨S2x2048x128, .bf16⟩
  | 77 => ⟨S2x2048x128, .bf16⟩
  | 78 => ⟨S2x2048x128, .bf16⟩
  | 79 => ⟨S2x2048x512, .bf16⟩
  | 80 => ⟨S2x2048x128, .bf16⟩
  | 81 => ⟨S2x2048x128, .bf16⟩
  | 82 => ⟨S8x128, .f32⟩
  | 83 => ⟨S4096x512, .bf16⟩
  | 84 => ⟨S4x128x128, .f32⟩
  | 85 => ⟨S1x512, .f32⟩
  | 86 => ⟨S4096x512, .bf16⟩
  | 87 => ⟨S4096x128, .bf16⟩
  | 88 => ⟨S4096x128, .bf16⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | .local _ .vmem, ⟨0, _⟩ => ⟨S2x128x512, .bf16⟩
  | .local _ .vmem, ⟨1, _⟩ => ⟨S2x128x512, .bf16⟩
  | .local _ .vmem, ⟨2, _⟩ => ⟨S2x128x512, .bf16⟩
  | .local _ .vmem, ⟨3, _⟩ => ⟨S2x128x512, .bf16⟩
  | .local _ .vmem, ⟨4, _⟩ => ⟨S2x128x128, .bf16⟩
  | .local _ .vmem, ⟨5, _⟩ => ⟨S2x128x128, .bf16⟩
  | .local _ .vmem, ⟨6, _⟩ => ⟨S2x128x128, .bf16⟩
  | .local _ .vmem, ⟨7, _⟩ => ⟨S2x128x128, .bf16⟩
  | .local _ .vmem, ⟨8, _⟩ => ⟨S2x128x128, .bf16⟩
  | .local _ .vmem, ⟨9, _⟩ => ⟨S2x128x128, .bf16⟩
  | .local _ .vmem, ⟨10, _⟩ => ⟨S2x128x128, .bf16⟩
  | .local _ .vmem, ⟨11, _⟩ => ⟨S2x128x128, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S256x512, .f32⟩
  | .local _ .vmem, ⟨25, _⟩ => ⟨S256x512, .f32⟩
  | .local _ .vmem, ⟨26, _⟩ => ⟨S16x512, .f32⟩
  | .local _ .vmem, ⟨27, _⟩ => ⟨S16x512, .f32⟩
  | .local _ .vmem, ⟨28, _⟩ => ⟨S256x512, .bf16⟩
  | .local _ .vmem, ⟨29, _⟩ => ⟨S256x512, .bf16⟩
  | .local _ .vmem, ⟨30, _⟩ => ⟨S4x128x128, .f32⟩
  | .local _ .vmem, ⟨31, _⟩ => ⟨S1x512, .f32⟩
  | .local _ .vmem, ⟨32, _⟩ => ⟨S2x128x512, .bf16⟩
  | .local _ .vmem, ⟨33, _⟩ => ⟨S2x128x512, .bf16⟩
  | .local _ .vmem, ⟨34, _⟩ => ⟨S2x128x128, .bf16⟩
  | .local _ .vmem, ⟨35, _⟩ => ⟨S2x128x128, .bf16⟩
  | .local _ .vmem, ⟨36, _⟩ => ⟨S2x128x128, .bf16⟩
  | .local _ .vmem, ⟨37, _⟩ => ⟨S2x128x128, .bf16⟩
  | .local _ .vmem, ⟨38, _⟩ => ⟨S8x128, .f32⟩
  | .local _ .vmem, ⟨39, _⟩ => ⟨S256x512, .bf16⟩
  | .local _ .vmem, ⟨40, _⟩ => ⟨S256x512, .bf16⟩
  | .local _ .vmem, ⟨41, _⟩ => ⟨S4x128x128, .f32⟩
  | .local _ .vmem, ⟨42, _⟩ => ⟨S1x512, .f32⟩
  | .local _ .vmem, ⟨43, _⟩ => ⟨S2x128x128, .f32⟩
  | .local _ .vmem, ⟨44, _⟩ => ⟨S2x128x128, .f32⟩
  | .local _ .smem, ⟨0, _⟩ => ⟨S8, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .smem, ⟨0, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_call0_call0_cst : Ref sig .tc := ⟨.hbm, 68, rfl⟩
abbrev main_call0_call0_v0 : Ref sig .tc := ⟨.hbm, 69, rfl⟩
abbrev main_v54 : Ref sig .tc := ⟨.hbm, 70, rfl⟩
abbrev main_c : Ref sig .tc := ⟨.hbm, 71, rfl⟩
abbrev main_call1_v0 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_4 : Ref sig .tc := ⟨.hbm, 78, rfl⟩
abbrev main_call2_v0 : Ref sig .tc := ⟨.hbm, 79, rfl⟩
abbrev main_v60 : Ref sig .tc := ⟨.hbm, 80, rfl⟩
abbrev main_c_5 : Ref sig .tc := ⟨.hbm, 81, rfl⟩
abbrev main_v61 : Ref sig .tc := ⟨.hbm, 82, rfl⟩
abbrev main_v62 : Ref sig .tc := ⟨.hbm, 83, rfl⟩
abbrev main_c_6 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_7 : Ref sig .tc := ⟨.hbm, 95, rfl⟩
abbrev main_call3_v0 : Ref sig .tc := ⟨.hbm, 96, rfl⟩
abbrev main_v73 : Ref sig .tc := ⟨.hbm, 97, rfl⟩
abbrev main_c_8 : Ref sig .tc := ⟨.hbm, 98, rfl⟩
abbrev main_v74 : Ref sig .tc := ⟨.hbm, 99, rfl⟩
abbrev main_v75 : Ref sig .tc := ⟨.hbm, 100, rfl⟩
abbrev main_c_9 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_10 : Ref sig .tc := ⟨.hbm, 112, rfl⟩
abbrev main_call4_v0 : Ref sig .tc := ⟨.hbm, 113, rfl⟩
abbrev main_v86 : Ref sig .tc := ⟨.hbm, 114, rfl⟩
abbrev main_c_11 : Ref sig .tc := ⟨.hbm, 115, rfl⟩
abbrev main_v87 : Ref sig .tc := ⟨.hbm, 116, rfl⟩
abbrev main_v88 : Ref sig .tc := ⟨.hbm, 117, rfl⟩
abbrev main_c_12 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_13 : Ref sig .tc := ⟨.hbm, 129, rfl⟩
abbrev main_call5_v0 : Ref sig .tc := ⟨.hbm, 130, rfl⟩
abbrev main_v99 : Ref sig .tc := ⟨.hbm, 131, rfl⟩
abbrev main_c_14 : Ref sig .tc := ⟨.hbm, 132, rfl⟩
abbrev main_v100 : Ref sig .tc := ⟨.hbm, 133, rfl⟩
abbrev main_v101 : Ref sig .tc := ⟨.hbm, 134, rfl⟩
abbrev main_c_15 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_16 : Ref sig .tc := ⟨.hbm, 159, rfl⟩
abbrev main_v125 : Ref sig .tc := ⟨.hbm, 160, rfl⟩
abbrev main_v126 : Ref sig .tc := ⟨.hbm, 161, rfl⟩
abbrev main_cst_17 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_18 : Ref sig .tc := ⟨.hbm, 166, rfl⟩
abbrev main_v130 : Ref sig .tc := ⟨.hbm, 167, rfl⟩
abbrev main_v131 : Ref sig .tc := ⟨.hbm, 168, rfl⟩
abbrev main_cst_19 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_20 : Ref sig .tc := ⟨.hbm, 179, rfl⟩
abbrev main_v141 : Ref sig .tc := ⟨.hbm, 180, rfl⟩
abbrev main_cst_21 : Ref sig .tc := ⟨.hbm, 181, rfl⟩
abbrev main_v142 : Ref sig .tc := ⟨.hbm, 182, rfl⟩
abbrev main_cst_22 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166_0 : Ref sig .tc := ⟨.hbm, 207, rfl⟩
abbrev main_v166_1 : Ref sig .tc := ⟨.hbm, 208, rfl⟩
abbrev main_v166_2 : Ref sig .tc := ⟨.hbm, 209, rfl⟩
abbrev main_v166_3 : Ref sig .tc := ⟨.hbm, 210, rfl⟩
abbrev main_v166_4 : Ref sig .tc := ⟨.hbm, 211, rfl⟩
abbrev main_v166_5 : Ref sig .tc := ⟨.hbm, 212, rfl⟩
abbrev main_v166_6 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg24_0 : Ref sig .tc := ⟨.vmem, 42, rfl⟩
abbrev cc0_scratch0 : Ref sig .tc := ⟨.vmem, 43, rfl⟩
abbrev cc0_scratch1 : Ref sig .tc := ⟨.vmem, 44, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem17_0 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem22_0 : DmaSem sig := 40
abbrev cc0_sem22_1 : DmaSem sig := 41
abbrev cc0_sem23_0 : DmaSem sig := 42
abbrev cc0_sem24_0 : DmaSem sig := 43

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c16_i32_2 : BitVec 32 := 16#32
  let v6 : BitVec 1 := Scalar.cmpi .eq arg0 c16_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_6 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.minsi arg0 c15_i32
  let c1_i32 : BitVec 32 := 1#32
  let v1 : BitVec 32 := Scalar.addi v0 c1_i32
  let c16_i32 : BitVec 32 := 16#32
  let v2 : BitVec 32 := Scalar.muli v1 c16_i32
  let c255_i32 : BitVec 32 := 255#32
  let v3 : BitVec 32 := Scalar.minsi v2 c255_i32
  let c0_i32 : BitVec 32 := 0#32
  let c0_i32_0 : BitVec 32 := 0#32
  ![v3.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_19 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_20 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2x128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x128x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x128x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Kernel3.lean ====
abbrev S2x2048x1024 : Shape := ⟨3, ![2, 2048, 1024]⟩
abbrev S1x1024 : Shape := ⟨2, ![1, 1024]⟩
abbrev S1x1024x3328 : Shape := ⟨3, ![1, 1024, 3328]⟩
abbrev S1x3328 : Shape := ⟨2, ![1, 3328]⟩
abbrev S4096x1024 : Shape := ⟨2, ![4096, 1024]⟩
abbrev S4096x512 : Shape := ⟨2, ![4096, 512]⟩
abbrev S4096x128 : Shape := ⟨2, ![4096, 128]⟩
abbrev S4096x2048 : Shape := ⟨2, ![4096, 2048]⟩
abbrev S1024x3328 : Shape := ⟨2, ![1024, 3328]⟩
abbrev S3328x1024 : Shape := ⟨2, ![3328, 1024]⟩
abbrev S512x512 : Shape := ⟨2, ![512, 512]⟩
abbrev S512x128 : Shape := ⟨2, ![512, 128]⟩
abbrev S512x2048 : Shape := ⟨2, ![512, 2048]⟩
abbrev S512x1024 : Shape := ⟨2, ![512, 1024]⟩
abbrev S128x1024 : Shape := ⟨2, ![128, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x3328, .f32⟩
  | .hbm, ⟨3, _⟩ => ⟨S1x3328, .f32⟩
  | .hbm, ⟨4, _⟩ => ⟨S4096x1024, .f32⟩
  | .hbm, ⟨5, _⟩ => ⟨S4096x512, .bf16⟩
  | .hbm, ⟨6, _⟩ => ⟨S4096x512, .bf16⟩
  | .hbm, ⟨7, _⟩ => ⟨S4096x128, .bf16⟩
  | .hbm, ⟨8, _⟩ => ⟨S4096x128, .bf16⟩
  | .hbm, ⟨9, _⟩ => ⟨S4096x2048, .bf16⟩
  | .hbm, ⟨10, _⟩ => ⟨S4096x1024, .f32⟩
  | .hbm, ⟨11, _⟩ => ⟨S1024x3328, .f32⟩
  | .hbm, ⟨12, _⟩ => ⟨S3328x1024, .f32⟩
  | .hbm, ⟨13, _⟩ => ⟨S3328x1024, .bf16⟩
  | .hbm, ⟨14, _⟩ => ⟨S4096x1024, .f32⟩
  | .hbm, ⟨15, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S3328x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3328x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S2x2048x1024 : Shape := ⟨3, ![2, 2048, 1024]⟩
abbrev S1x1024 : Shape := ⟨2, ![1, 1024]⟩
abbrev S1x1024x3328 : Shape := ⟨3, ![1, 1024, 3328]⟩
abbrev S1x3328 : Shape := ⟨2, ![1, 3328]⟩
abbrev S4096x1024 : Shape := ⟨2, ![4096, 1024]⟩
abbrev S4096x512 : Shape := ⟨2, ![4096, 512]⟩
abbrev S4096x128 : Shape := ⟨2, ![4096, 128]⟩
abbrev S4096x2048 : Shape := ⟨2, ![4096, 2048]⟩
abbrev S4096x3328 : Shape := ⟨2, ![4096, 3328]⟩
abbrev S2x2048x3328 : Shape := ⟨3, ![2, 2048, 3328]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x3328 : Shape := ⟨2, ![1024, 3328]⟩
abbrev S3328 : Shape := ⟨1, ![3328]⟩
abbrev S1x1x3328 : Shape := ⟨3, ![1, 1, 3328]⟩

abbrev nBuf : Space → Nat
  | .hbm => 74
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x3328, .f32⟩
  | .hbm, ⟨3, _⟩ => ⟨S1x3328, .f32⟩
  | .hbm, ⟨4, _⟩ => ⟨S4096x1024, .f32⟩
  | .hbm, ⟨5, _⟩ => ⟨S4096x512, .bf16⟩
  | .hbm, ⟨6, _⟩ => ⟨S4096x512, .bf16⟩
  | .hbm, ⟨7, _⟩ => ⟨S4096x128, .bf16⟩
  | .hbm, ⟨8, _⟩ => ⟨S4096x128, .bf16⟩
  | .hbm, ⟨9, _⟩ => ⟨S4096x2048, .bf16⟩
  | .hbm, ⟨10, _⟩ => ⟨S4096x512, .f32⟩
  | .hbm, ⟨11, _⟩ => ⟨S4096x512, .f32⟩
  | .hbm, ⟨12, _⟩ => ⟨S4096x128, .f32⟩
  | .hbm, ⟨13, _⟩ => ⟨S4096x128, .f32⟩
  | .hbm, ⟨14, _⟩ => ⟨S4096x2048, .f32⟩
  | .hbm, ⟨15, _⟩ => ⟨S4096x3328, .f32⟩
  | .hbm, ⟨16, _⟩ => ⟨S2x2048x3328, .f32⟩
  | .hbm, ⟨17, _⟩ => ⟨S1024, .f32⟩
  | .hbm, ⟨18, _⟩ => ⟨S2x2048x1024, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | .hbm, ⟨38, _⟩ => ⟨S1024x3328, .f32⟩
  | .hbm, ⟨39, _⟩ => ⟨S2x2048x3328, .f32⟩
  | .hbm, ⟨40, _⟩ => ⟨S3328, .f32⟩
  | .hbm, ⟨41, _⟩ => ⟨S1x1x3328, .f32⟩
  | .hbm, ⟨42, _⟩ => ⟨S2x2048x3328, .f32⟩
  | .hbm, ⟨43, _⟩ => ⟨S2x2048x3328, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S2x2048x1, .f32⟩
  | .hbm, ⟨62, _⟩ => ⟨S_, .f32⟩
  | .hbm, ⟨63, _⟩ => ⟨S2x2048x1, .f32⟩
  | .hbm, ⟨64, _⟩ => ⟨S2x2048x1, .f32⟩
  | .hbm, ⟨65, _⟩ => ⟨S_, .f32⟩
  | .hbm, ⟨66, _⟩ => ⟨S2x2048, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S2x2048x1024, .f32⟩
  | .hbm, ⟨72, _⟩ => ⟨S1x1024, .f32⟩
  | .hbm, ⟨73, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel4.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S4x512x1024 : Shape := ⟨3, ![4, 512, 1024]⟩
abbrev S4096x4096 : Shape := ⟨2, ![4096, 4096]⟩
abbrev S8x128 : Shape := ⟨2, ![8, 128]⟩
abbrev S256x1024 : Shape := ⟨2, ![256, 1024]⟩
abbrev S256x4096 : Shape := ⟨2, ![256, 4096]⟩
abbrev S4 : Shape := ⟨1, ![4]⟩
abbrev S1 : Shape := ⟨1, ![1]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩

abbrev nBuf : Space → Nat
  | .hbm => 70
  | .vmem => 28
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S1x1024, .f32⟩
  | .hbm, ⟨7, _⟩ => ⟨S2x2048x1024, .f32⟩
  | .hbm, ⟨8, _⟩ => ⟨S1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S2x2048x1, .f32⟩
  | .hbm, ⟨38, _⟩ => ⟨S2x2048x1024, .f32⟩
  | .hbm, ⟨39, _⟩ => ⟨S2x2048x1024, .f32⟩
  | .hbm, ⟨40, _⟩ => ⟨S1x1x1024, .f32⟩
  | .hbm, ⟨41, _⟩ => ⟨S2x2048x1024, .f32⟩
  | .hbm, ⟨42, _⟩ => ⟨S2x2048x1024, .f32⟩
  | .hbm, ⟨43, _⟩ => ⟨S2x2048x1024, .bf16⟩
  | .hbm, ⟨44, _⟩ => ⟨S1024x4096, .f32⟩
  | .hbm, ⟨45, _⟩ => ⟨S1024x4x1024, .f32⟩
  | .hbm, ⟨46, _⟩ => ⟨S4x1024x1024, .f32⟩
  | .hbm, ⟨47, _⟩ => ⟨S4096x1024, .f32⟩
  | .hbm, ⟨48, _⟩ => ⟨S4x1024x1024, .f32⟩
  | .hbm, ⟨49, _⟩ => ⟨S4096x1024, .bf16⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4x512x1024, .f32⟩
  | .hbm, ⟨54, _⟩ => ⟨S4x512x1024, .bf16⟩
  | .hbm, ⟨55, _⟩ => ⟨S4x512x1024, .f32⟩
  | .hbm, ⟨56, _⟩ => ⟨S4x512x1024, .bf16⟩
  | .hbm, ⟨57, _⟩ => ⟨S4x512x1024, .f32⟩
  | .hbm, ⟨58, _⟩ => ⟨S4x512x1024, .bf16⟩
  | .hbm, ⟨59, _⟩ => ⟨S4x512x1024, .f32⟩
  | .hbm, ⟨60, _⟩ => ⟨S4x512x1024, .bf16⟩
  | .hbm, ⟨61, _⟩ => ⟨S4096x4096, .bf16⟩
  | .hbm, ⟨62, _⟩ => ⟨S4096x1024, .bf16⟩
  | .hbm, ⟨63, _⟩ => ⟨S4096x4096, .bf16⟩
  | .hbm, ⟨64, _⟩ => ⟨S4096x1024, .f32⟩
  | .hbm, ⟨65, _⟩ => ⟨S4096x1024, .bf16⟩
  | .hbm, ⟨66, _⟩ => ⟨S8x128, .f32⟩
  | .hbm, ⟨67, _⟩ => ⟨S1x1024, .f32⟩
  | .hbm, ⟨68, _⟩ => ⟨S1x1024, .f32⟩
  | .hbm, ⟨69, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S256x4096, .bf16⟩
  | .local _ .vmem, ⟨12, _⟩ => ⟨S256x4096, .bf16⟩
  | .local _ .vmem, ⟨13, _⟩ => ⟨S256x1024, .bf16⟩
  | .local _ .vmem, ⟨14, _⟩ => ⟨S256x1024, .bf16⟩
  | .local _ .vmem, ⟨15, _⟩ => ⟨S256x4096, .bf16⟩
  | .local _ .vmem, ⟨16, _⟩ => ⟨S256x4096, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S8x128, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S4x1024x1024, .bf16⟩
  | .local _ .vmem, ⟨26, _⟩ => ⟨S4x1024x1024, .bf16⟩
  | .local _ .vmem, ⟨27, _⟩ => ⟨S256x4096, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47_0 : Ref sig .tc := ⟨.hbm, 61, rfl⟩
abbrev main_v47_1 : Ref sig .tc := ⟨.hbm, 62, rfl⟩
abbrev main_v47_2 : Ref sig .tc := ⟨.hbm, 63, rfl⟩
abbrev main_v47_3 : Ref sig .tc := ⟨.hbm, 64, rfl⟩
abbrev main_v47_4 : Ref sig .tc := ⟨.hbm, 65, rfl⟩
abbrev main_v47_5 : Ref sig .tc := ⟨.hbm, 66, rfl⟩
abbrev main_v47_6 : Ref sig .tc := ⟨.hbm, 67, rfl⟩
abbrev main_v47_7 : Ref sig .tc := ⟨.hbm, 68, rfl⟩
abbrev main_v47_8 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference4Ideal.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x4096 : Shape := ⟨2, ![1024, 4096]⟩
abbrev S2x2048x4096 : Shape := ⟨3, ![2, 2048, 4096]⟩
abbrev S4096x1024 : Shape := ⟨2, ![4096, 1024]⟩
abbrev S4096x4096 : Shape := ⟨2, ![4096, 4096]⟩
abbrev S8x128 : Shape := ⟨2, ![8, 128]⟩

abbrev nBuf : Space → Nat
  | .hbm => 207
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S1x1024, .f32⟩
  | 3 => ⟨S1x1024, .f32⟩
  | 4 => ⟨S1x1024x4096, .f32⟩
  | 5 => ⟨S1x4096x1024, .f32⟩
  | 6 => ⟨S1x1024, .f32⟩
  | 7 => ⟨S2x2048x1024, .f32⟩
  | 8 => ⟨S1024, .f32⟩
  | 9 => ⟨S2x2048x1024, .f32⟩
  | 10 => ⟨S_, .f32⟩
  | 11 => ⟨S2x2048, .f32⟩
  | 12 => ⟨S2x2048x1, .f32⟩
  | 13 => ⟨S_, .f32⟩
  | 14 => ⟨S2x2048x1, .f32⟩
  | 15 => ⟨S2x2048x1, .f32⟩
  | 16 => ⟨S_, .f32⟩
  | 17 => ⟨S2x2048x1, .f32⟩
  | 18 => ⟨S2x2048x1, .f32⟩
  | 19 => ⟨S2x2048x1, .f32⟩
  | 20 => ⟨S2x2048x1, .f32⟩
  | 21 => ⟨S_, .f32⟩
  | 22 => ⟨S2x2048x1, .f32⟩
  | 23 => ⟨S2x2048x1, .f32⟩
  | 24 => ⟨S2x2048x1024, .f32⟩
  | 25 => ⟨S2x2048x1024, .f32⟩
  | 26 => ⟨S1x1x1024, .f32⟩
  | 27 => ⟨S2x2048x1024, .f32⟩
  | 28 => ⟨S2x2048x1024, .f32⟩
  | 29 => ⟨S2x2048x1024, .f32⟩
  | 30 => ⟨S1024, .f32⟩
  | 31 => ⟨S2x2048x1024, .f32⟩
  | 32 => ⟨S_, .f32⟩
  | 33 => ⟨S2x2048, .f32⟩
  | 34 => ⟨S2x2048x1, .f32⟩
  | 35 => ⟨S_, .f32⟩
  | 36 => ⟨S2x2048x1, .f32⟩
  | 37 => ⟨S2x2048x1, .f32⟩
  | 38 => ⟨S_, .f32⟩
  | 39 => ⟨S2x2048x1, .f32⟩
  | 40 => ⟨S2x2048x1, .f32⟩
  | 41 => ⟨S2x2048x1, .f32⟩
  | 42 => ⟨S2x2048x1, .f32⟩
  | 43 => ⟨S_, .f32⟩
  | 44 => ⟨S2x2048x1, .f32⟩
  | 45 => ⟨S2x2048x1, .f32⟩
  | 46 => ⟨S2x2048x1024, .f32⟩
  | 47 => ⟨S2x2048x1024, .f32⟩
  | 48 => ⟨S1x1x1024, .f32⟩
  | 49 => ⟨S2x2048x1024, .f32⟩
  | 50 => ⟨S2x2048x1024, .f32⟩
  | 51 => ⟨S1024x4096, .f32⟩
  | 52 => ⟨S2x2048x4096, .f32⟩
  | 53 => ⟨S_, .f32⟩
  | 54 => ⟨S2x2048x4096, .f32⟩
  | 55 => ⟨S2x2048x4096, .f32⟩
  | 56 => ⟨S_, .f32⟩
  | 57 => ⟨S2x2048x4096, .f32⟩
  | 58 => ⟨S2x2048x4096, .i1⟩
  | 59 => ⟨S_, .f32⟩
  | 60 => ⟨S2x2048x4096, .f32⟩
  | 61 => ⟨S2x2048x4096, .f32⟩
  | 62 => ⟨S_, .f32⟩
  | 63 => ⟨S2x2048x4096, .f32⟩
  | 64 => ⟨S2x2048x4096, .f32⟩
  | 65 => ⟨S4096x1024, .f32⟩
  | 66 => ⟨S2x2048x1024, .f32⟩
  | 67 => ⟨S1024, .f32⟩
  | 68 => ⟨S2x2048x1024, .f32⟩
  | 69 => ⟨S_, .f32⟩
  | 70 => ⟨S2x2048, .f32⟩
  | 71 => ⟨S2x2048x1, .f32⟩
  | 72 => ⟨S_, .f32⟩
  | 73 => ⟨S2x2048x1, .f32⟩
  | 74 => ⟨S2x2048x1, .f32⟩
  | 75 => ⟨S_, .f32⟩
  | 76 => ⟨S2x2048x1, .f32⟩
  | 77 => ⟨S2x2048x1, .f32⟩
  | 78 => ⟨S2x2048x1, .f32⟩
  | 79 => ⟨S2x2048x1, .f32⟩
  | 80 => ⟨S_, .f32⟩
  | 81 => ⟨S2x2048x1, .f32⟩
  | 82 => ⟨S2x2048x1, .f32⟩
  | 83 => ⟨S2x2048x1024, .f32⟩
  | 84 => ⟨S2x2048x1024, .f32⟩
  | 85 => ⟨S1x1x1024, .f32⟩
  | 86 => ⟨S2x2048x1024, .f32⟩
  | 87 => ⟨S2x2048x1024, .f32⟩
  | 88 => ⟨S2x2048x1024, .f32⟩
  | 89 => ⟨S2x2048x1024, .f32⟩
  | 90 => ⟨S2x2048x1024, .f32⟩
  | 91 => ⟨S_, .f32⟩
  | 92 => ⟨S2x2048x1024, .f32⟩
  | 93 => ⟨S2x2048x1024, .f32⟩
  | 94 => ⟨S_, .f32⟩
  | 95 => ⟨S2x2048, .f32⟩
  | 96 => ⟨S_, .f32⟩
  | 97 => ⟨S2x2048, .f32⟩
  | 98 => ⟨S2x2048, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S2x2048, .f32⟩
  | 107 => ⟨S_, .f32⟩
  | 108 => ⟨S2x2048, .f32⟩
  | 109 => ⟨S2x2048, .f32⟩
  | 110 => ⟨S2x2048x1024, .f32⟩
  | 111 => ⟨S2x2048x1024, .f32⟩
  | 112 => ⟨S2x2048x1024, .f32⟩
  | 113 => ⟨S_, .f32⟩
  | 114 => ⟨S1024, .f32⟩
  | 115 => ⟨S1x1x1024, .f32⟩
  | 116 => ⟨S2x2048x1024, .f32⟩
  | 117 => ⟨S2x2048x1024, .f32⟩
  | 118 => ⟨S_, .f32⟩
  | 119 => ⟨S1024, .f32⟩
  | 120 => ⟨S2x2048x1024, .f32⟩
  | 121 => ⟨S_, .f32⟩
  | 122 => ⟨S2x2048, .f32⟩
  | 123 => ⟨S2x2048x1, .f32⟩
  | 124 => ⟨S2x2048x1024, .f32⟩
  | 125 => ⟨S2x2048x1024, .f32⟩
  | 126 => ⟨S2x2048x1, .f32⟩
  | 127 => ⟨S_, .f32⟩
  | _ => ⟨S2x2048x1024, .f32⟩

abbrev hbmTy0_1 (i : Nat) : BufTy := match i % 128 with
  | 0 => ⟨S2x2048x1, .f32⟩
  | 1 => ⟨S2x2048x1, .f32⟩
  | 2 => ⟨S_, .f32⟩
  | 3 => ⟨S2x2048, .f32⟩
  | 4 => ⟨S2x2048x1024, .f32⟩
  | 5 => ⟨S2x2048x1024, .f32⟩
  | 6 => ⟨S2x2048x1024, .f32⟩
  | 7 => ⟨S2x2048x1024, .f32⟩
  | 8 => ⟨S2x2048x1024, .f32⟩
  | 9 => ⟨S1x1024, .f32⟩
  | 10 => ⟨S2x2048x4096, .f32⟩
  | 11 => ⟨S2x2048x4096, .f32⟩
  | 12 => ⟨S_, .f32⟩
  | 13 => ⟨S2x2048x4096, .f32⟩
  | 14 => ⟨S2x2048x4096, .f32⟩
  | 15 => ⟨S2x2048x1024, .f32⟩
  | 16 => ⟨S2x2048x1024, .f32⟩
  | 17 => ⟨S_, .f32⟩
  | 18 => ⟨S1024, .f32⟩
  | 19 => ⟨S1x1x1024, .f32⟩
  | 20 => ⟨S2x2048x1024, .f32⟩
  | 21 => ⟨S2x2048x1024, .f32⟩
  | 22 => ⟨S_, .f32⟩
  | 23 => ⟨S1024, .f32⟩
  | 24 => ⟨S2x2048x1024, .f32⟩
  | 25 => ⟨S_, .f32⟩
  | 26 => ⟨S2x2048, .f32⟩
  | 27 => ⟨S2x2048x1, .f32⟩
  | 28 => ⟨S2x2048x1024, .f32⟩
  | 29 => ⟨S2x2048x1024, .f32⟩
  | 30 => ⟨S2x2048x1024, .f32⟩
  | 31 => ⟨S2x2048x1, .f32⟩
  | 32 => ⟨S_, .f32⟩
  | 33 => ⟨S2x2048x1, .f32⟩
  | 34 => ⟨S2x2048x1, .f32⟩
  | 35 => ⟨S_, .f32⟩
  | 36 => ⟨S2x2048, .f32⟩
  | 37 => ⟨S2x2048x1024, .f32⟩
  | 38 => ⟨S2x2048x1024, .f32⟩
  | 39 => ⟨S2x2048x1024, .f32⟩
  | 40 => ⟨S2x2048x1024, .f32⟩
  | 41 => ⟨S2x2048x1024, .f32⟩
  | 42 => ⟨S1x1024, .f32⟩
  | 43 => ⟨S2x2048x1024, .f32⟩
  | 44 => ⟨S_, .f32⟩
  | 45 => ⟨S1024, .f32⟩
  | 46 => ⟨S1x1x1024, .f32⟩
  | 47 => ⟨S2x2048x1024, .f32⟩
  | 48 => ⟨S2x2048x1024, .f32⟩
  | 49 => ⟨S_, .f32⟩
  | 50 => ⟨S1024, .f32⟩
  | 51 => ⟨S2x2048x1024, .f32⟩
  | 52 => ⟨S_, .f32⟩
  | 53 => ⟨S2x2048, .f32⟩
  | 54 => ⟨S2x2048x1, .f32⟩
  | 55 => ⟨S2x2048x1024, .f32⟩
  | 56 => ⟨S2x2048x1024, .f32⟩
  | 57 => ⟨S2x2048x1, .f32⟩
  | 58 => ⟨S_, .f32⟩
  | 59 => ⟨S2x2048x1, .f32⟩
  | 60 => ⟨S2x2048x1, .f32⟩
  | 61 => ⟨S_, .f32⟩
  | 62 => ⟨S2x2048, .f32⟩
  | 63 => ⟨S2x2048x1024, .f32⟩
  | 64 => ⟨S2x2048x1024, .f32⟩
  | 65 => ⟨S2x2048x1024, .f32⟩
  | 66 => ⟨S2x2048x1024, .f32⟩
  | 67 => ⟨S2x2048x1024, .f32⟩
  | 68 => ⟨S1x1024, .f32⟩
  | 69 => ⟨S4096x4096, .f32⟩
  | 70 => ⟨S4096x4096, .bf16⟩
  | 71 => ⟨S4096x1024, .f32⟩
  | 72 => ⟨S4096x1024, .bf16⟩
  | 73 => ⟨S4096x4096, .f32⟩
  | 74 => ⟨S4096x4096, .bf16⟩
  | 75 => ⟨S4096x1024, .f32⟩
  | 76 => ⟨S4096x1024, .f32⟩
  | 77 => ⟨S4096x1024, .bf16⟩
  | 78 => ⟨S8x128, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_cst : Ref sig .tc := ⟨.hbm, 53, rfl⟩
abbrev main_call0_v0 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_cst_19 : Ref sig .tc := ⟨.hbm, 103, rfl⟩
abbrev main_cst_20 : Ref sig .tc := ⟨.hbm, 104, rfl⟩
abbrev main_v73 : Ref sig .tc := ⟨.hbm, 105, rfl⟩
abbrev main_v74 : Ref sig .tc := ⟨.hbm, 106, rfl⟩
abbrev main_cst_21 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_22 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_23 : Ref sig .tc := ⟨.hbm, 118, rfl⟩
abbrev main_v84 : Ref sig .tc := ⟨.hbm, 119, rfl⟩
abbrev main_v85 : Ref sig .tc := ⟨.hbm, 120, rfl⟩
abbrev main_cst_24 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_25 : Ref sig .tc := ⟨.hbm, 127, rfl⟩
abbrev main_v91 : Ref sig .tc := ⟨.hbm, 128, rfl⟩
abbrev main_v92 : Ref sig .tc := ⟨.hbm, 129, rfl⟩
abbrev main_cst_26 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_27 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_28 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_29 : Ref sig .tc := ⟨.hbm, 150, rfl⟩
abbrev main_v110 : Ref sig .tc := ⟨.hbm, 151, rfl⟩
abbrev main_v111 : Ref sig .tc := ⟨.hbm, 152, rfl⟩
abbrev main_cst_30 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_31 : Ref sig .tc := ⟨.hbm, 160, rfl⟩
abbrev main_v118 : Ref sig .tc := ⟨.hbm, 161, rfl⟩
abbrev main_v119 : Ref sig .tc := ⟨.hbm, 162, rfl⟩
abbrev main_cst_32 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_33 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_34 : Ref sig .tc := ⟨.hbm, 177, rfl⟩
abbrev main_v132 : Ref sig .tc := ⟨.hbm, 178, rfl⟩
abbrev main_v133 : Ref sig .tc := ⟨.hbm, 179, rfl⟩
abbrev main_cst_35 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_36 : Ref sig .tc := ⟨.hbm, 186, rfl⟩
abbrev main_v139 : Ref sig .tc := ⟨.hbm, 187, rfl⟩
abbrev main_v140 : Ref sig .tc := ⟨.hbm, 188, rfl⟩
abbrev main_cst_37 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩

abbrev nD : Nat := 1
abbrev τ : Topo := Topo.v7x

variable {F : FTy → Type} [FloatOps F]
-- ==== Kernel5.lean ====
abbrev S2x2048x8x64 : Shape := ⟨4, ![2, 2048, 8, 64]⟩
abbrev S2x2048x2x64 : Shape := ⟨4, ![2, 2048, 2, 64]⟩
abbrev S1x8 : Shape := ⟨2, ![1, 8]⟩
abbrev S2x2048x512 : Shape := ⟨3, ![2, 2048, 512]⟩
abbrev S1x4x128x128 : Shape := ⟨4, ![1, 4, 128, 128]⟩
abbrev S1x512 : Shape := ⟨2, ![1, 512]⟩
abbrev S_ : Shape := ⟨0, ![]⟩
abbrev S4096x512 : Shape := ⟨2, ![4096, 512]⟩
abbrev S4096x128 : Shape := ⟨2, ![4096, 128]⟩
abbrev S8 : Shape := ⟨1, ![8]⟩
abbrev S4x128x128 : Shape := ⟨3, ![4, 128, 128]⟩
abbrev S2x2048x128 : Shape := ⟨3, ![2, 2048, 128]⟩
abbrev S2x128x512 : Shape := ⟨3, ![2, 128, 512]⟩
abbrev S2x128x128 : Shape := ⟨3, ![2, 128, 128]⟩
abbrev S256x512 : Shape := ⟨2, ![256, 512]⟩
abbrev S16x512 : Shape := ⟨2, ![16, 512]⟩
abbrev S512x256 : Shape := ⟨2, ![512, 256]⟩
abbrev S128x128 : Shape := ⟨2, ![128, 128]⟩
abbrev S1x128x128 : Shape := ⟨3, ![1, 128, 128]⟩
abbrev S256x128 : Shape := ⟨2, ![256, 128]⟩
abbrev S1x128x512 : Shape := ⟨3, ![1, 128, 512]⟩
abbrev S128x512 : Shape := ⟨2, ![128, 512]⟩
abbrev S512x128 : Shape := ⟨2, ![512, 128]⟩
abbrev S512x1 : Shape := ⟨2, ![512, 1]⟩
abbrev S1 : Shape := ⟨1, ![1]⟩
abbrev S512 : Shape := ⟨1, ![512]⟩
abbrev S272x512 : Shape := ⟨2, ![272, 512]⟩
abbrev S256x1 : Shape := ⟨2, ![256, 1]⟩
abbrev S272x128 : Shape := ⟨2, ![272, 128]⟩
abbrev S1x128 : Shape := ⟨2, ![1, 128]⟩

abbrev nBuf : Space → Nat
  | .hbm => 27
  | .vmem => 22
  | .smem => 1
  | _ => 0

abbrev bufTy : (tb : Table) → Fin (tcTables nBuf tb) → BufTy
  | .hbm, ⟨0, _⟩ => ⟨S2x2048x8x64, .f32⟩
  | .hbm, ⟨1, _⟩ => ⟨S2x2048x2x64, .f32⟩
  | .hbm, ⟨2, _⟩ => ⟨S2x2048x2x64, .f32⟩
  | .hbm, ⟨3, _⟩ => ⟨S1x8, .f32⟩
  | .hbm, ⟨4, _⟩ => ⟨S2x2048x512, .f32⟩
  | .hbm, ⟨5, _⟩ => ⟨S1x4x128x128, .f32⟩
  | .hbm, ⟨6, _⟩ => ⟨S1x512, .f32⟩
  | .hbm, ⟨7, _⟩ => ⟨S_, .f32⟩
  | .hbm, ⟨8, _⟩ => ⟨S2x2048x8x64, .f32⟩
  | .hbm, ⟨9, _⟩ => ⟨S2x2048x8x64, .f32⟩
  | .hbm, ⟨10, _⟩ => ⟨S4096x512, .f32⟩
  | .hbm, ⟨11, _⟩ => ⟨S4096x512, .bf16⟩
  | .hbm, ⟨12, _⟩ => ⟨S4096x128, .f32⟩
  | .hbm, ⟨13, _⟩ => ⟨S4096x128, .bf16⟩
  | .hbm, ⟨14, _⟩ => ⟨S4096x128, .f32⟩
  | .hbm, ⟨15, _⟩ => ⟨S4096x128, .bf16⟩
  | .hbm, ⟨16, _⟩ => ⟨S8, .f32⟩
  | .hbm, ⟨17, _⟩ => ⟨S4096x512, .f32⟩
  | .hbm, ⟨18, _⟩ => ⟨S4x128x128, .f32⟩
  | .hbm, ⟨19, _⟩ => ⟨S2x2048x512, .bf16⟩
  | .hbm, ⟨20, _⟩ => ⟨S2x2048x128, .bf16⟩
  | .hbm, ⟨21, _⟩ => ⟨S2x2048x128, .bf16⟩
  | .hbm, ⟨22, _⟩ => ⟨S2x2048x128, .bf16⟩
  | .hbm, ⟨23, _⟩ => ⟨S2x2048x128, .bf16⟩
  | .hbm, ⟨24, _⟩ => ⟨S2x2048x512, .bf16⟩
  | .hbm, ⟨25, _⟩ => ⟨S4096x512, .bf16⟩
  | .hbm, ⟨26, _⟩ => ⟨S4096x512, .bf16⟩
  | .local _ .vmem, ⟨0, _⟩ => ⟨S2x128x512, .bf16⟩
  | .local _ .vmem, ⟨1, _⟩ => ⟨S2x128x512, .bf16⟩
  | .local _ .vmem, ⟨2, _⟩ => ⟨S2x128x128, .bf16⟩
  | .local _ .vmem, ⟨3, _⟩ => ⟨S2x128x128, .bf16⟩
  | .local _ .vmem, ⟨4, _⟩ => ⟨S2x128x128, .bf16⟩
  | .local _ .vmem, ⟨5, _⟩ => ⟨S2x128x128, .bf16⟩
  | .local _ .vmem, ⟨6, _⟩ => ⟨S2x128x128, .bf16⟩
  | .local _ .vmem, ⟨7, _⟩ => ⟨S2x128x128, .bf16⟩
  | .local _ .vmem, ⟨8, _⟩ => ⟨S2x128x128, .bf16⟩
  | .local _ .vmem, ⟨9, _⟩ => ⟨S2x128x128, .bf16⟩
  | .local _ .vmem, ⟨10, _⟩ => ⟨S256x512, .f32⟩
  | .local _ .vmem, ⟨11, _⟩ => ⟨S256x512, .f32⟩
  | .local _ .vmem, ⟨12, _⟩ => ⟨S16x512, .f32⟩
  | .local _ .vmem, ⟨13, _⟩ => ⟨S16x512, .f32⟩
  | .local _ .vmem, ⟨14, _⟩ => ⟨S4x128x128, .f32⟩
  | .local _ .vmem, ⟨15, _⟩ => ⟨S1x512, .f32⟩
  | .local _ .vmem, ⟨16, _⟩ => ⟨S2x128x512, .bf16⟩
  | .local _ .vmem, ⟨17, _⟩ => ⟨S2x128x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .smem, ⟨0, _⟩ => ⟨S8, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel5Ideal.lean ====
variable {F : FTy → Type} [FloatOps F] [Named F]
def κ : String → Option EReal := fun
  | "mask" => some ⊥
  | _ => none
-- ==== Reference5Ideal.lean ====
abbrev S2x2048x8x64 : Shape := ⟨4, ![2, 2048, 8, 64]⟩
abbrev S2x2048x2x64 : Shape := ⟨4, ![2, 2048, 2, 64]⟩
abbrev S1x8 : Shape := ⟨2, ![1, 8]⟩
abbrev S2x2048x512 : Shape := ⟨3, ![2, 2048, 512]⟩
abbrev S1x4x128x128 : Shape := ⟨4, ![1, 4, 128, 128]⟩
abbrev S1x512 : Shape := ⟨2, ![1, 512]⟩
abbrev S2x2048x2x4x64 : Shape := ⟨5, ![2, 2048, 2, 4, 64]⟩
abbrev S8 : Shape := ⟨1, ![8]⟩
abbrev S2x16x128x2x4x64 : Shape := ⟨6, ![2, 16, 128, 2, 4, 64]⟩
abbrev S2x16x128x2x64 : Shape := ⟨5, ![2, 16, 128, 2, 64]⟩
abbrev S2x15x128x2x64 : Shape := ⟨5, ![2, 15, 128, 2, 64]⟩
abbrev S_ : Shape := ⟨0, ![]⟩
abbrev S2x16x256x2x64 : Shape := ⟨5, ![2, 16, 256, 2, 64]⟩
abbrev S2x16x2x256x128x4 : Shape := ⟨6, ![2, 16, 2, 256, 128, 4]⟩
abbrev S2x16x2x4x128x256 : Shape := ⟨6, ![2, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S1x1x2x4x1x1 : Shape := ⟨6, ![1, 1, 2, 4, 1, 1]⟩
abbrev S2x16x2x4x128x1 : Shape := ⟨6, ![2, 16, 2, 4, 128, 1]⟩
abbrev S2x16x2x4x128x257 : Shape := ⟨6, ![2, 16, 2, 4, 128, 257]⟩
abbrev S2x16x2x4x128 : Shape := ⟨5, ![2, 16, 2, 4, 128]⟩
abbrev S2x16x2x64x4x128 : Shape := ⟨6, ![2, 16, 2, 64, 4, 128]⟩
abbrev S2x2049x512 : Shape := ⟨3, ![2, 2049, 512]⟩
abbrev S2048 : Shape := ⟨1, ![2048]⟩
abbrev S2x2049x128 : Shape := ⟨3, ![2, 2049, 128]⟩
abbrev S2x2048x128 : Shape := ⟨3, ![2, 2048, 128]⟩
abbrev S2x2047x128 : Shape := ⟨3, ![2, 2047, 128]⟩
abbrev S1x2048x1 : Shape := ⟨3, ![1, 2048, 1]⟩
abbrev S2x2045x128 : Shape := ⟨3, ![2, 2045, 128]⟩
abbrev S2x2041x128 : Shape := ⟨3, ![2, 2041, 128]⟩
abbrev S2x2033x128 : Shape := ⟨3, ![2, 2033, 128]⟩
abbrev S2x2048x1x128 : Shape := ⟨4, ![2, 2048, 1, 128]⟩
abbrev S2x2048x4x128 : Shape := ⟨4, ![2, 2048, 4, 128]⟩
abbrev S4x128x128 : Shape := ⟨3, ![4, 128, 128]⟩
abbrev S4x128x2x2048 : Shape := ⟨4, ![4, 128, 2, 2048]⟩
abbrev S512 : Shape := ⟨1, ![512]⟩
abbrev S1x1x512 : Shape := ⟨3, ![1, 1, 512]⟩
abbrev S4096x512 : Shape := ⟨2, ![4096, 512]⟩

abbrev nBuf : Space → Nat
  | .hbm => 182
  | .vmem => 0
  | .smem => 0
  | _ => 0

abbrev hbmTy0_0 (i : Nat) : BufTy := match i % 128 with
  | 0 => ⟨S2x2048x8x64, .f32⟩
  | 1 => ⟨S2x2048x2x64, .f32⟩
  | 2 => ⟨S2x2048x2x64, .f32⟩
  | 3 => ⟨S1x8, .f32⟩
  | 4 => ⟨S2x2048x512, .f32⟩
  | 5 => ⟨S1x4x128x128, .f32⟩
  | 6 => ⟨S1x512, .f32⟩
  | 7 => ⟨S2x2048x2x4x64, .f32⟩
  | 8 => ⟨S8, .f32⟩
  | 9 => ⟨S2x16x128x2x4x64, .f32⟩
  | 10 => ⟨S2x16x128x2x64, .f32⟩
  | 11 => ⟨S2x15x128x2x64, .f32⟩
  | 12 => ⟨S_, .i32⟩
  | 13 => ⟨S_, .f32⟩
  | 14 => ⟨S2x16x128x2x64, .f32⟩
  | 15 => ⟨S2x16x256x2x64, .f32⟩
  | 16 => ⟨S2x16x128x2x64, .f32⟩
  | 17 => ⟨S2x15x128x2x64, .f32⟩
  | 18 => ⟨S_, .i32⟩
  | 19 => ⟨S_, .f32⟩
  | 20 => ⟨S2x16x128x2x64, .f32⟩
  | 21 => ⟨S2x16x256x2x64, .f32⟩
  | 22 => ⟨S2x16x2x256x128x4, .f32⟩
  | 23 => ⟨S2x16x2x4x128x256, .f32⟩
  | 24 => ⟨S_, .f32⟩
  | 25 => ⟨S2x16x2x4x128x256, .f32⟩
  | 26 => ⟨S2x16x2x4x128x256, .f32⟩
  | 27 => ⟨S128, .i32⟩
  | 28 => ⟨S128x1, .i32⟩
  | 29 => ⟨S256, .i32⟩
  | 30 => ⟨S1x256, .i32⟩
  | 31 => ⟨S_, .i32⟩
  | 32 => ⟨S128x1, .i32⟩
  | 33 => ⟨S128x1, .i32⟩
  | 34 => ⟨S128x256, .i32⟩
  | 35 => ⟨S128x256, .i32⟩
  | 36 => ⟨S128x256, .i32⟩
  | 37 => ⟨S_, .i32⟩
  | 38 => ⟨S128x256, .i32⟩
  | 39 => ⟨S128x256, .i1⟩
  | 40 => ⟨S_, .i32⟩
  | 41 => ⟨S128x256, .i32⟩
  | 42 => ⟨S128x256, .i1⟩
  | 43 => ⟨S128x256, .i1⟩
  | 44 => ⟨S16, .i32⟩
  | 45 => ⟨S_, .i32⟩
  | 46 => ⟨S16, .i32⟩
  | 47 => ⟨S16, .i1⟩
  | 48 => ⟨S16x1x1, .i1⟩
  | 49 => ⟨S_, .i32⟩
  | 50 => ⟨S1x256, .i32⟩
  | 51 => ⟨S1x256, .i1⟩
  | 52 => ⟨S1x1x256, .i1⟩
  | 53 => ⟨S16x1x256, .i1⟩
  | 54 => ⟨S16x1x256, .i1⟩
  | 55 => ⟨S16x1x256, .i1⟩
  | 56 => ⟨S1x128x256, .i1⟩
  | 57 => ⟨S16x128x256, .i1⟩
  | 58 => ⟨S16x128x256, .i1⟩
  | 59 => ⟨S16x128x256, .i1⟩
  | 60 => ⟨S1x16x1x1x128x256, .i1⟩
  | 61 => ⟨S_, .f32⟩
  | 62 => ⟨S_, .f32⟩
  | 63 => ⟨S2x16x2x4x128x256, .i1⟩
  | 64 => ⟨S2x16x2x4x128x256, .f32⟩
  | 65 => ⟨S2x16x2x4x128x256, .f32⟩
  | 66 => ⟨S1x1x2x4x1x1, .f32⟩
  | 67 => ⟨S2x16x2x4x128x1, .f32⟩
  | 68 => ⟨S2x16x2x4x128x257, .f32⟩
  | 69 => ⟨S_, .f32⟩
  | 70 => ⟨S2x16x2x4x128, .f32⟩
  | 71 => ⟨S_, .f32⟩
  | 72 => ⟨S2x16x2x4x128, .f32⟩
  | 73 => ⟨S2x16x2x4x128, .f32⟩
  | 74 => ⟨S2x16x2x4x128x1, .f32⟩
  | 75 => ⟨S2x16x2x4x128x257, .f32⟩
  | 76 => ⟨S2x16x2x4x128x257, .f32⟩
  | 77 => ⟨S2x16x2x4x128x257, .f32⟩
  | 78 => ⟨S_, .f32⟩
  | 79 => ⟨S2x16x2x4x128, .f32⟩
  | 80 => ⟨S2x16x2x4x128x1, .f32⟩
  | 81 => ⟨S2x16x2x4x128x257, .f32⟩
  | 82 => ⟨S2x16x2x4x128x257, .f32⟩
  | 83 => ⟨S2x16x2x4x128x256, .f32⟩
  | 84 => ⟨S2x16x2x64x4x128, .f32⟩
  | 85 => ⟨S2x16x128x2x4x64, .f32⟩
  | 86 => ⟨S2x2048x512, .f32⟩
  | 87 => ⟨S_, .f32⟩
  | 88 => ⟨S_, .f32⟩
  | 89 => ⟨S2x2048x512, .f32⟩
  | 90 => ⟨S_, .i32⟩
  | 91 => ⟨S_, .f32⟩
  | 92 => ⟨S2x2049x512, .f32⟩
  | 93 => ⟨S2048, .i32⟩
  | 94 => ⟨S2x2049x128, .f32⟩
  | 95 => ⟨S2x2048x128, .f32⟩
  | 96 => ⟨S2x2047x128, .f32⟩
  | 97 => ⟨S_, .i32⟩
  | 98 => ⟨S_, .f32⟩
  | 99 => ⟨S2x2048x128, .f32⟩
  | 100 => ⟨S_, .i32⟩
  | 101 => ⟨S2048, .i32⟩
  | 102 => ⟨S2048, .i32⟩
  | 103 => ⟨S_, .i32⟩
  | 104 => ⟨S2048, .i32⟩
  | 105 => ⟨S2048, .i32⟩
  | 106 => ⟨S2048, .f32⟩
  | 107 => ⟨S1x2048x1, .f32⟩
  | 108 => ⟨S2x2048x128, .f32⟩
  | 109 => ⟨S2x2048x128, .f32⟩
  | 110 => ⟨S2x2048x128, .f32⟩
  | 111 => ⟨S2x2049x128, .f32⟩
  | 112 => ⟨S2x2048x128, .f32⟩
  | 113 => ⟨S2x2045x128, .f32⟩
  | 114 => ⟨S_, .i32⟩
  | 115 => ⟨S_, .f32⟩
  | 116 => ⟨S2x2048x128, .f32⟩
  | 117 => ⟨S_, .i32⟩
  | 118 => ⟨S2048, .i32⟩
  | 119 => ⟨S2048, .i32⟩
  | 120 => ⟨S_, .i32⟩
  | 121 => ⟨S2048, .i32⟩
  | 122 => ⟨S2048, .i32⟩
  | 123 => ⟨S2048, .f32⟩
  | 124 => ⟨S1x2048x1, .f32⟩
  | 125 => ⟨S2x2048x128, .f32⟩
  | 126 => ⟨S2x2048x128, .f32⟩
  | 127 => ⟨S2x2048x128, .f32⟩
  | _ => ⟨S2x2048x8x64, .f32⟩

abbrev hbmTy0_1 (i : Nat) : BufTy := match i % 128 with
  | 0 => ⟨S2x2049x128, .f32⟩
  | 1 => ⟨S2x2048x128, .f32⟩
  | 2 => ⟨S2x2041x128, .f32⟩
  | 3 => ⟨S_, .i32⟩
  | 4 => ⟨S_, .f32⟩
  | 5 => ⟨S2x2048x128, .f32⟩
  | 6 => ⟨S_, .i32⟩
  | 7 => ⟨S2048, .i32⟩
  | 8 => ⟨S2048, .i32⟩
  | 9 => ⟨S_, .i32⟩
  | 10 => ⟨S2048, .i32⟩
  | 11 => ⟨S2048, .i32⟩
  | 12 => ⟨S2048, .f32⟩
  | 13 => ⟨S1x2048x1, .f32⟩
  | 14 => ⟨S2x2048x128, .f32⟩
  | 15 => ⟨S2x2048x128, .f32⟩
  | 16 => ⟨S2x2048x128, .f32⟩
  | 17 => ⟨S2x2049x128, .f32⟩
  | 18 => ⟨S2x2048x128, .f32⟩
  | 19 => ⟨S2x2033x128, .f32⟩
  | 20 => ⟨S_, .i32⟩
  | 21 => ⟨S_, .f32⟩
  | 22 => ⟨S2x2048x128, .f32⟩
  | 23 => ⟨S_, .i32⟩
  | 24 => ⟨S2048, .i32⟩
  | 25 => ⟨S2048, .i32⟩
  | 26 => ⟨S_, .i32⟩
  | 27 => ⟨S2048, .i32⟩
  | 28 => ⟨S2048, .i32⟩
  | 29 => ⟨S2048, .f32⟩
  | 30 => ⟨S1x2048x1, .f32⟩
  | 31 => ⟨S2x2048x128, .f32⟩
  | 32 => ⟨S2x2048x128, .f32⟩
  | 33 => ⟨S2x2048x128, .f32⟩
  | 34 => ⟨S2x2048x1x128, .f32⟩
  | 35 => ⟨S2x2048x1x128, .f32⟩
  | 36 => ⟨S2x2048x1x128, .f32⟩
  | 37 => ⟨S2x2048x1x128, .f32⟩
  | 38 => ⟨S2x2048x4x128, .f32⟩
  | 39 => ⟨S2x2048x4x128, .f32⟩
  | 40 => ⟨S2x2048x4x128, .f32⟩
  | 41 => ⟨S4x128x128, .f32⟩
  | 42 => ⟨S4x128x2x2048, .f32⟩
  | 43 => ⟨S2x2048x4x128, .f32⟩
  | 44 => ⟨S2x2048x512, .f32⟩
  | 45 => ⟨S512, .f32⟩
  | 46 => ⟨S1x1x512, .f32⟩
  | 47 => ⟨S2x2048x512, .f32⟩
  | 48 => ⟨S2x2048x512, .f32⟩
  | 49 => ⟨S2x2048x512, .bf16⟩
  | 50 => ⟨S4096x512, .f32⟩
  | 51 => ⟨S4096x512, .bf16⟩
  | 52 => ⟨S4096x512, .f32⟩
  | 53 => ⟨S4096x512, .bf16⟩
  | _ => ⟨S2x2048x8x64, .f32⟩

abbrev hbmTy (i : Nat) : BufTy := match i / 128 with
  | 0 => hbmTy0_0 i
  | 1 => hbmTy0_1 i
  | _ => ⟨S2x2048x8x64, .f32⟩

abbrev bufTy : (tb : Table) → Fin (tcTables nBuf tb) → BufTy
  | .hbm, ⟨i, _⟩ => hbmTy i
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call3_call0_cst : Ref sig .tc := ⟨.hbm, 87, rfl⟩
abbrev main_call3_call0_v0 : Ref sig .tc := ⟨.hbm, 88, rfl⟩
abbrev main_v63 : Ref sig .tc := ⟨.hbm, 89, rfl⟩
abbrev main_c_10 : Ref sig .tc := ⟨.hbm, 90, rfl⟩
abbrev main_call4_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_11 : Ref sig .tc := ⟨.hbm, 97, rfl⟩
abbrev main_call5_v0 : Ref sig .tc := ⟨.hbm, 98, rfl⟩
abbrev main_v69 : Ref sig .tc := ⟨.hbm, 99, rfl⟩
abbrev main_c_12 : Ref sig .tc := ⟨.hbm, 100, rfl⟩
abbrev main_v70 : Ref sig .tc := ⟨.hbm, 101, rfl⟩
abbrev main_v71 : Ref sig .tc := ⟨.hbm, 102, rfl⟩
abbrev main_c_13 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_14 : Ref sig .tc := ⟨.hbm, 114, rfl⟩
abbrev main_call6_v0 : Ref sig .tc := ⟨.hbm, 115, rfl⟩
abbrev main_v82 : Ref sig .tc := ⟨.hbm, 116, rfl⟩
abbrev main_c_15 : Ref sig .tc := ⟨.hbm, 117, rfl⟩
abbrev main_v83 : Ref sig .tc := ⟨.hbm, 118, rfl⟩
abbrev main_v84 : Ref sig .tc := ⟨.hbm, 119, rfl⟩
abbrev main_c_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_call7_v0 : Ref sig .tc := ⟨.hbm, 132, rfl⟩
abbrev main_v95 : Ref sig .tc := ⟨.hbm, 133, rfl⟩
abbrev main_c_18 : Ref sig .tc := ⟨.hbm, 134, rfl⟩
abbrev main_v96 : Ref sig .tc := ⟨.hbm, 135, rfl⟩
abbrev main_v97 : Ref sig .tc := ⟨.hbm, 136, rfl⟩
abbrev main_c_19 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_20 : Ref sig .tc := ⟨.hbm, 148, rfl⟩
abbrev main_call8_v0 : Ref sig .tc := ⟨.hbm, 149, rfl⟩
abbrev main_v108 : Ref sig .tc := ⟨.hbm, 150, rfl⟩
abbrev main_c_21 : Ref sig .tc := ⟨.hbm, 151, rfl⟩
abbrev main_v109 : Ref sig .tc := ⟨.hbm, 152, rfl⟩
abbrev main_v110 : Ref sig .tc := ⟨.hbm, 153, rfl⟩
abbrev main_c_22 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩

abbrev nD : Nat := 1
abbrev τ : Topo := Topo.v7x

variable {F : FTy → Type} [FloatOps F]
-- ==== Kernel6.lean ====
abbrev S2x2048x2048 : Shape := ⟨3, ![2, 2048, 2048]⟩
abbrev S4096x512 : Shape := ⟨2, ![4096, 512]⟩
abbrev S2x2048x1024 : Shape := ⟨3, ![2, 2048, 1024]⟩
abbrev S1x1024x1024 : Shape := ⟨3, ![1, 1024, 1024]⟩
abbrev S1x512x1024 : Shape := ⟨3, ![1, 512, 1024]⟩
abbrev S1x1024 : Shape := ⟨2, ![1, 1024]⟩
abbrev S_ : Shape := ⟨0, ![]⟩
abbrev S4096x2048 : Shape := ⟨2, ![4096, 2048]⟩
abbrev S4096x1024 : Shape := ⟨2, ![4096, 1024]⟩
abbrev S512x1024 : Shape := ⟨2, ![512, 1024]⟩
abbrev S512x4x256 : Shape := ⟨3, ![512, 4, 256]⟩
abbrev S4x512x256 : Shape := ⟨3, ![4, 512, 256]⟩
abbrev S1024x1024 : Shape := ⟨2, ![1024, 1024]⟩
abbrev S512x512 : Shape := ⟨2, ![512, 512]⟩
abbrev S512x2048 : Shape := ⟨2, ![512, 2048]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 34
  | .vmem => 21
  | .smem => 0
  | _ => 0

abbrev bufTy : (tb : Table) → Fin (tcTables nBuf tb) → BufTy
  | .hbm, ⟨0, _⟩ => ⟨S2x2048x2048, .f32⟩
  | .hbm, ⟨1, _⟩ => ⟨S4096x512, .bf16⟩
  | .hbm, ⟨2, _⟩ => ⟨S4096x512, .bf16⟩
  | .hbm, ⟨3, _⟩ => ⟨S2x2048x1024, .f32⟩
  | .hbm, ⟨4, _⟩ => ⟨S1x1024x1024, .f32⟩
  | .hbm, ⟨5, _⟩ => ⟨S1x512x1024, .f32⟩
  | .hbm, ⟨6, _⟩ => ⟨S1x512x1024, .f32⟩
  | .hbm, ⟨7, _⟩ => ⟨S1x1024, .f32⟩
  | .hbm, ⟨8, _⟩ => ⟨S1x1024, .f32⟩
  | .hbm, ⟨9, _⟩ => ⟨S2x2048x2048, .f32⟩
  | .hbm, ⟨10, _⟩ => ⟨S2x2048x2048, .f32⟩
  | .hbm, ⟨11, _⟩ => ⟨S_, .f32⟩
  | .hbm, ⟨12, _⟩ => ⟨S2x2048x2048, .f32⟩
  | .hbm, ⟨13, _⟩ => ⟨S2x2048x2048, .f32⟩
  | .hbm, ⟨14, _⟩ => ⟨S_, .f32⟩
  | .hbm, ⟨15, _⟩ => ⟨S2x2048x2048, .f32⟩
  | .hbm, ⟨16, _⟩ => ⟨S2x2048x2048, .f32⟩
  | .hbm, ⟨17, _⟩ => ⟨S2x2048x2048, .bf16⟩
  | .hbm, ⟨18, _⟩ => ⟨S4096x2048, .bf16⟩
  | .hbm, ⟨19, _⟩ => ⟨S4096x1024, .f32⟩
  | .hbm, ⟨20, _⟩ => ⟨S512x1024, .f32⟩
  | .hbm, ⟨21, _⟩ => ⟨S512x1024, .bf16⟩
  | .hbm, ⟨22, _⟩ => ⟨S512x4x256, .bf16⟩
  | .hbm, ⟨23, _⟩ => ⟨S4x512x256, .bf16⟩
  | .hbm, ⟨24, _⟩ => ⟨S512x1024, .f32⟩
  | .hbm, ⟨25, _⟩ => ⟨S512x1024, .bf16⟩
  | .hbm, ⟨26, _⟩ => ⟨S512x4x256, .bf16⟩
  | .hbm, ⟨27, _⟩ => ⟨S4x512x256, .bf16⟩
  | .hbm, ⟨28, _⟩ => ⟨S1024x1024, .f32⟩
  | .hbm, ⟨29, _⟩ => ⟨S1024x1024, .bf16⟩
  | .hbm, ⟨30, _⟩ => ⟨S4096x1024, .bf16⟩
  | .hbm, ⟨31, _⟩ => ⟨S4096x1024, .f32⟩
  | .hbm, ⟨32, _⟩ => ⟨S4096x1024, .f32⟩
  | .hbm, ⟨33, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S4x512x256, .bf16⟩
  | .local _ .vmem, ⟨9, _⟩ => ⟨S4x512x256, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S2x2048x2048 : Shape := ⟨3, ![2, 2048, 2048]⟩
abbrev S4096x512 : Shape := ⟨2, ![4096, 512]⟩
abbrev S2x2048x1024 : Shape := ⟨3, ![2, 2048, 1024]⟩
abbrev S1x1024x1024 : Shape := ⟨3, ![1, 1024, 1024]⟩
abbrev S1x512x1024 : Shape := ⟨3, ![1, 512, 1024]⟩
abbrev S1x1024 : Shape := ⟨2, ![1, 1024]⟩
abbrev S2x2048x512 : Shape := ⟨3, ![2, 2048, 512]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S4096x512, .bf16⟩
  | .hbm, ⟨2, _⟩ => ⟨S4096x512, .bf16⟩
  | .hbm, ⟨3, _⟩ => ⟨S2x2048x1024, .f32⟩
  | .hbm, ⟨4, _⟩ => ⟨S1x1024x1024, .f32⟩
  | .hbm, ⟨5, _⟩ => ⟨S1x512x1024, .f32⟩
  | .hbm, ⟨6, _⟩ => ⟨S1x512x1024, .f32⟩
  | .hbm, ⟨7, _⟩ => ⟨S1x1024, .f32⟩
  | .hbm, ⟨8, _⟩ => ⟨S1x1024, .f32⟩
  | .hbm, ⟨9, _⟩ => ⟨S4096x512, .f32⟩
  | .hbm, ⟨10, _⟩ => ⟨S2x2048x512, .f32⟩
  | .hbm, ⟨11, _⟩ => ⟨S4096x512, .f32⟩
  | .hbm, ⟨12, _⟩ => ⟨S2x2048x512, .f32⟩
  | .hbm, ⟨13, _⟩ => ⟨S2x2048x2048, .f32⟩
  | .hbm, ⟨14, _⟩ => ⟨S2x2048x2048, .f32⟩
  | .hbm, ⟨15, _⟩ => ⟨S_, .f32⟩
  | .hbm, ⟨16, _⟩ => ⟨S2x2048x2048, .f32⟩
  | .hbm, ⟨17, _⟩ => ⟨S2x2048x2048, .f32⟩
  | .hbm, ⟨18, _⟩ => ⟨S_, .f32⟩
  | .hbm, ⟨19, _⟩ => ⟨S2x2048x2048, .f32⟩
  | .hbm, ⟨20, _⟩ => ⟨S2x2048x2048, .f32⟩
  | .hbm, ⟨21, _⟩ => ⟨S2x2048x1024, .f32⟩
  | .hbm, ⟨22, _⟩ => ⟨S2x2048x1024, .f32⟩
  | .hbm, ⟨23, _⟩ => ⟨S512x1024, .f32⟩
  | .hbm, ⟨24, _⟩ => ⟨S2x2048x1024, .f32⟩
  | .hbm, ⟨25, _⟩ => ⟨S2x2048x1024, .f32⟩
  | .hbm, ⟨26, _⟩ => ⟨S512x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S1024x1024, .f32⟩
  | .hbm, ⟨31, _⟩ => ⟨S2x2048x1024, .f32⟩
  | .hbm, ⟨32, _⟩ => ⟨S1024, .f32⟩
  | .hbm, ⟨33, _⟩ => ⟨S2x2048x1024, .f32⟩
  | .hbm, ⟨34, _⟩ => ⟨S_, .f32⟩
  | .hbm, ⟨35, _⟩ => ⟨S2x2048, .f32⟩
  | .hbm, ⟨36, _⟩ => ⟨S2x2048x1, .f32⟩
  | .hbm, ⟨37, _⟩ => ⟨S_, .f32⟩
  | .hbm, ⟨38, _⟩ => ⟨S2x2048x1, .f32⟩
  | .hbm, ⟨39, _⟩ => ⟨S2x2048x1, .f32⟩
  | .hbm, ⟨40, _⟩ => ⟨S_, .f32⟩
  | .hbm, ⟨41, _⟩ => ⟨S2x2048x1, .f32⟩
  | .hbm, ⟨42, _⟩ => ⟨S2x2048x1, .f32⟩
  | .hbm, ⟨43, _⟩ => ⟨S2x2048x1, .f32⟩
  | .hbm, ⟨44, _⟩ => ⟨S2x2048x1024, .f32⟩
  | .hbm, ⟨45, _⟩ => ⟨S2x2048x1024, .f32⟩
  | .hbm, ⟨46, _⟩ => ⟨S1x1x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S1024, .f32⟩
  | .hbm, ⟨51, _⟩ => ⟨S2x2048x1024, .f32⟩
  | .hbm, ⟨52, _⟩ => ⟨S_, .f32⟩
  | .hbm, ⟨53, _⟩ => ⟨S2x2048, .f32⟩
  | .hbm, ⟨54, _⟩ => ⟨S2x2048x1, .f32⟩
  | .hbm, ⟨55, _⟩ => ⟨S_, .f32⟩
  | .hbm, ⟨56, _⟩ => ⟨S2x2048x1, .f32⟩
  | .hbm, ⟨57, _⟩ => ⟨S2x2048x1, .f32⟩
  | .hbm, ⟨58, _⟩ => ⟨S_, .f32⟩
  | .hbm, ⟨59, _⟩ => ⟨S2x2048x1, .f32⟩
  | .hbm, ⟨60, _⟩ => ⟨S2x2048x1, .f32⟩
  | .hbm, ⟨61, _⟩ => ⟨S2x2048x1, .f32⟩
  | .hbm, ⟨62, _⟩ => ⟨S2x2048x1024, .f32⟩
  | .hbm, ⟨63, _⟩ => ⟨S2x2048x1024, .f32⟩
  | .hbm, ⟨64, _⟩ => ⟨S1x1x1024, .f32⟩
  | .hbm, ⟨65, _⟩ => ⟨S2x2048x1024, .f32⟩
  | .hbm, ⟨66, _⟩ => ⟨S2x2048x1024, .f32⟩
  | .hbm, ⟨67, _⟩ => ⟨S4096x1024, .f32⟩
  | .hbm, ⟨68, _⟩ => ⟨S4096x1024, .bf16⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Proof.Sums.lean ====
module

public import Mathlib.Algebra.BigOperators.Fin
public import Idealize.ShloMosaic.Lib.Pointwise

@[expose] public section

noncomputable section

namespace Cert.Sums

open scoped BigOperators
open Idealize.ShloMosaic

/-- A sum over four slabs of 256 columns is the sum over the 1024 columns. -/
theorem sum_four {M : Type*} [AddCommMonoid M] (f : Fin 1024 → M) :
    (∑ x : Fin 256, f ⟨x.val, by omega⟩) + (∑ x : Fin 256, f ⟨256 + x.val, by omega⟩)
      + (∑ x : Fin 256, f ⟨512 + x.val, by omega⟩) + (∑ x : Fin 256, f ⟨768 + x.val, by omega⟩) = ∑ x, f x := by
  rw [Fin.sum_univ_tiles 4 256 rfl f, Fin.sum_univ_four]
  simp

end Cert.Sums
-- ==== Proof.Merge.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise
public import Idealize.ShloMosaic.Lib.Claim
public import proofs.«01_k».proof.Proof.Sums

@[expose] public section

set_option maxRecDepth 16384

noncomputable section

namespace Cert.KernelIdeal.Merge

open Cert.KernelIdeal Cert.KernelIdeal.Gen Idealize.ShloMosaic Idealize.ShloMosaic.TcCoe Idealize.SL.Sem
open Idealize.ShloMosaic.Pipeline (Dat)
open Cert.ReferenceIdeal.Read

variable (m : (ℓ : Loc nD τ sig) → Buf (Elt Ideal) ℓ)

/-- Where each window's block stands at a grid point: the row blocks move with the point, the weights stay. -/
theorem idx_val : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0, 0] ∧ win0_6.index t = ![0, 0, 0] ∧ win0_7.index t = ![t.val, 0]
    ∧ win0_8.index t = ![t.val, 0] ∧ win0_9.index t = ![t.val, 0] ∧ win0_10.index t = ![t.val, 0]
    ∧ win0_11.index t = ![t.val, 0] ∧ t.val < 8 :=
  (by decide +kernel : ∀ t : Fin grid0.N, _)

/-- The row of the whole array that row `a` of point `t`'s block is. -/
def row (t : Fin cfg0.N) (a : Fin 512) : Fin 4096 := ⟨t.val * 512 + a.val, by have := (idx_val t).2.2.2.2.2.2.2.2.2.2.2.2; omega⟩

theorem blk0 (c : Dev nD) (t : Fin cfg0.N) (a : Fin 512) (b : Fin 1024) :
    iblk m c 0 t (ix2 a b) = m ((c : Thread nD τ).loc main_arg0) (ix2 (row t a) b) := by
  blk_ext! [iblk, V, idx_val t, row]

theorem blk2 (c : Dev nD) (t : Fin cfg0.N) (a : Fin 512) (b : Fin 512) :
    iblk m c 2 t (ix2 a b) = m ((c : Thread nD τ).loc main_arg2) (ix2 (row t a) b) := by
  blk_ext! [iblk, V, idx_val t, row]

theorem blk4 (c : Dev nD) (t : Fin cfg0.N) (a : Fin 1024) (b : Fin 1024) :
    iblk m c 4 t (ix2 a b) = m ((c : Thread nD τ).loc main_arg4) (ix3 0 a b) := by
  blk_simp [iblk, idx_val t]
  entry_read
  pointwise
  blk_ext [idx_val t]

theorem blk5 (c : Dev nD) (t : Fin cfg0.N) (j : Fin 4) (a : Fin 512) (b : Fin 256) :
    iblk m c 5 t (ix3 j a b) = m ((c : Thread nD τ).loc main_arg5) (ix3 0 a ⟨j.val * 256 + b.val, by omega⟩) := by
  blk_simp [iblk, idx_val t]
  entry_read
  pointwise
  blk_ext [idx_val t]

theorem blk6 (c : Dev nD) (t : Fin cfg0.N) (j : Fin 4) (a : Fin 512) (b : Fin 256) :
    iblk m c 6 t (ix3 j a b) = m ((c : Thread nD τ).loc main_arg6) (ix3 0 a ⟨j.val * 256 + b.val, by omega⟩) := by
  blk_simp [iblk, idx_val t]
  entry_read
  pointwise
  blk_ext [idx_val t]

/-- The logistic function as both programs spell it. -/
def sigmoid (x : EReal) : EReal := Ideal.div 1 (1 + Ideal.exp (-x))

theorem blk1 (c : Dev nD) (t : Fin cfg0.N) (a : Fin 512) (b : Fin 2048) :
    iblk m c 1 t (ix2 a b) = sigmoid (m ((c : Thread nD τ).loc main_arg1) (ix3 ⟨(row t a).val / 2048, by omega⟩ ⟨(row t a).val % 2048, by omega⟩ b)) := by
  blk_simp [iblk, idx_val t]
  entry_read
  pointwise [sigmoid]
  blk_point [idx_val t, row]

theorem emb7 (t : Fin cfg0.N) (a : Fin 512) (b : Fin 1024) : ((cfg0.win 7).blk t).view.emb (ix2 a b) = ix2 (row t a) b := by
  blk_ext [idx_val t, row]

theorem final7 (c : Dev nD) : (dats m 0 c).arrAt 7 (cfgs 0).N
    = val_main_v38 (F := Ideal) (m ((c : Thread nD τ).loc main_arg0)) (m ((c : Thread nD τ).loc main_arg1)) (m ((c : Thread nD τ).loc main_arg4)) := by
  refine (dats m 0 c).arrAt_eq_of_covers 7 _ (by decide +kernel) fun t _ y => ?_
  idx_vars y
  rw [emb7]
  blk_simp
  rw [after0_7]; frame_out
  pointwise [k0_pay4, k0_pay2, k0_pay3, val_main_v38, val_main_v37, val_main_v29, val_main_v19, val_main_v15, val_main_v14, val_main_cst_0, val_main_v13, val_main_v12, val_main_cst, val_main_v11, val_main_v10, val_main_v26, val_main_v24, val_main_v5, val_main_v4, blk0, blk4, blk1, sigmoid]
  exact @mul_comm EReal _ _ _

theorem emb8 (t : Fin cfg0.N) (a : Fin 512) (b : Fin 1024) : ((cfg0.win 8).blk t).view.emb (ix2 a b) = ix2 (row t a) b := by
  blk_ext [idx_val t, row]

theorem emb9 (t : Fin cfg0.N) (y : S512x2048.Idx) : ((cfg0.win 9).blk t).view.emb y = ix2 (row t (y 0)) (y 1) := by
  blk_ext [idx_val t, row]

theorem emb10 (t : Fin cfg0.N) (a : Fin 512) (b : Fin 512) : ((cfg0.win 10).blk t).view.emb (ix2 a b) = ix2 (row t a) b := by
  blk_ext [idx_val t, row]

theorem emb11 (t : Fin cfg0.N) (a : Fin 512) (b : Fin 512) : ((cfg0.win 11).blk t).view.emb (ix2 a b) = ix2 (row t a) b := by
  blk_ext [idx_val t, row]

theorem blk3 (c : Dev nD) (t : Fin cfg0.N) (a : Fin 512) (b : Fin 512) :
    iblk m c 3 t (ix2 a b) = m ((c : Thread nD τ).loc main_arg3) (ix2 (row t a) b) := by
  blk_ext! [iblk, V, idx_val t, row]

theorem final8 (c : Dev nD) : (dats m 0 c).arrAt 8 (cfgs 0).N
    = val_main_v40 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  idx_vars y
  rw [emb8]
  blk_simp
  rw [after0_8]; frame_out
  pointwise [k0_pay8, k0_pay13, k0_pay2, k0_pay7, val_main_v40, val_main_v39, val_main_v27, val_main_v20, val_main_v15, val_main_v14, val_main_cst_0, val_main_v13, val_main_v12, val_main_cst, val_main_v11, val_main_v10, val_main_v26, val_main_v24, val_main_v5, val_main_v4, blk0, blk4, blk1, sigmoid]
  exact @mul_comm EReal _ _ _

/-- The gate's gradient: the kernel multiplies from the left, the reference pads each half, adds the halves and multiplies
    by the sigmoid's own derivative. -/
theorem gate_core {p q : Prop} [Decidable p] [Decidable q] (D L g v : EReal) (a : p → EReal) (b : q → EReal)
    (hv : (dite p a fun _ => 0) + (dite q b fun _ => 0) = v) (hL : D * L = v) :
    D * L * g * (1 - g) = ((dite p a fun _ => 0) + (dite q b fun _ => 0)) * (g * (1 - g)) := by
  rw [hv, hL, mul_assoc]

set_option maxHeartbeats 1000000 in
theorem final9 (c : Dev nD) : (dats m 0 c).arrAt 9 (cfgs 0).N
    = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  rw [emb9]
  blk_simp
  rw [after0_9]
  unfold_out out0_9
  canon_tiles x h
  · idx_vars x
    idx_vars y
    have hb : 1024 + x1.val < 2048 := by omega
    obtain rfl : y0 = x0 := Fin.ext h0
    obtain rfl : y1 = ⟨1024 + x1.val, hb⟩ := Fin.ext h1
    pointwise [k0_pay9, k0_pay7, k0_pay5, k0_pay3, k0_pay2, val_main_v42, val_main_v41, val_main_v34, val_main_v33, val_main_v31, val_main_v32, val_main_cst_2, val_main_cst_3, val_main_v28, val_main_v30, val_main_v18, val_main_v17, val_main_v16, val_main_cst_1, val_main_v9, val_main_v7, val_main_v8, val_main_v6, val_main_v3, val_main_v1, val_main_v2, val_main_v0, val_main_v15, val_main_v14, val_main_cst_0, val_main_v13, val_main_v12, val_main_cst, val_main_v11, val_main_v10, val_main_v26, val_main_v24, val_main_v5, val_main_v4, blk0, blk1, blk2, blk3, blk4, blk5, blk6, sigmoid]
    have hr := (row t y0).isLt
    refine gate_core _ _ _ _ _ _ ((congrArg₂ _ (dif_pos ⟨by omega, by omega⟩) (dif_neg fun h => h.2.2)).trans (add_zero _)) ?_
    refine congrArg _ ?_
    split_ifs with h2 h3 h4
    · rfl
    all_goals exact Finset.sum_congr rfl fun x _ => by congr 3; apply Fin.ext; show _ = x1.val; dsimp only; omega
  · idx_vars x
    idx_vars y
    have hb : x1.val < 2048 := by omega
    obtain rfl : y0 = x0 := Fin.ext h0
    obtain rfl : y1 = ⟨x1.val, hb⟩ := Fin.ext h1
    pointwise [k0_pay9, k0_pay7, k0_pay5, k0_pay3, k0_pay2, val_main_v42, val_main_v41, val_main_v34, val_main_v33, val_main_v31, val_main_v32, val_main_cst_2, val_main_cst_3, val_main_v28, val_main_v30, val_main_v18, val_main_v17, val_main_v16, val_main_cst_1, val_main_v9, val_main_v7, val_main_v8, val_main_v6, val_main_v3, val_main_v1, val_main_v2, val_main_v0, val_main_v15, val_main_v14, val_main_cst_0, val_main_v13, val_main_v12, val_main_cst, val_main_v11, val_main_v10, val_main_v26, val_main_v24, val_main_v5, val_main_v4, blk0, blk1, blk2, blk3, blk4, blk5, blk6, sigmoid]
    have hr := (row t y0).isLt
    refine gate_core _ _ _ _ _ _ ((congrArg₂ _ (dif_neg fun h => h.2.2.1) (dif_pos ⟨by omega, by omega⟩)).trans (zero_add _)) ?_
    refine congrArg _ ?_
    split_ifs with h2 h3 h4
    · rfl
    all_goals exact Finset.sum_congr rfl fun x _ => by congr 3; apply Fin.ext; show _ = x1.val; dsimp only; omega

theorem final10 (c : Dev nD) : (dats m 0 c).arrAt 10 (cfgs 0).N
    = val_main_v43 (F := Ideal) (m ((c : Thread nD τ).loc main_arg0)) (m ((c : Thread nD τ).loc main_arg1)) (m ((c : Thread nD τ).loc main_arg4)) (m ((c : Thread nD τ).loc main_arg5)) := by
  refine (dats m 0 c).arrAt_eq_of_covers 10 _ (by decide +kernel) fun t _ y => ?_
  idx_vars y
  rw [emb10]
  blk_simp
  rw [after0_10]; frame_out
  pointwise [k0_pay6, k0_pay4, k0_pay2, k0_pay3, val_main_v43, val_main_v36, val_main_v29, val_main_v6, val_main_v19, val_main_v15, val_main_v14, val_main_cst_0, val_main_v13, val_main_v12, val_main_cst, val_main_v11, val_main_v10, val_main_v26, val_main_v24, val_main_v5, val_main_v4, blk0, blk4, blk1, blk5, sigmoid]
  simp only [mul_comm (Finset.sum _ _) (Ideal.div _ _)]
  refine @Eq.trans EReal _ _ _ ?_ (Sums.sum_four (M := EReal) _)
  dsimp only

theorem final11 (c : Dev nD) : (dats m 0 c).arrAt 11 (cfgs 0).N
    = val_main_v45 (F := Ideal) (m ((c : Thread nD τ).loc main_arg0)) (m ((c : Thread nD τ).loc main_arg1)) (m ((c : Thread nD τ).loc main_arg4)) (m ((c : Thread nD τ).loc main_arg6)) := by
  refine (dats m 0 c).arrAt_eq_of_covers 11 _ (by decide +kernel) fun t _ y => ?_
  idx_vars y
  rw [emb11]
  blk_simp
  rw [after0_11]; frame_out
  pointwise [k0_pay1, k0_pay10, k0_pay11, k0_pay12, k0_pay14, k0_pay13, k0_pay8, k0_pay7, k0_pay2, val_main_v45, val_main_v44, val_main_v35, val_main_v27, val_main_v8, val_main_v20, val_main_v15, val_main_v14, val_main_cst_0, val_main_v13, val_main_v12, val_main_cst, val_main_v11, val_main_v10, val_main_v26, val_main_v24, val_main_v5, val_main_v4, blk0, blk4, blk1, blk6, sigmoid]
  simp only [mul_comm (Finset.sum _ _) (Ideal.div _ _)]
  refine @Eq.trans EReal _ _ _ ?_ (Sums.sum_four (M := EReal) _)
  dsimp only

end Cert.KernelIdeal.Merge
-- ==== Proof.Norm.lean ====
/-
The gradient of a root-mean-square norm, on one row of finite entries: the two ways in which the programs write it are
equal. The kernels multiply the normalised row's gradient, less its mean against the row, by the reciprocal root; the
references differentiate the reciprocal root as a function of the mean of squares.
-/
module

public import Idealize.ShloMosaic.Lib.Pointwise

@[expose] public section

noncomputable section

namespace Cert.Norm

open Idealize.ShloMosaic

/-- A value of the extended reals that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (x ⊔ y) := by
  rcases le_total x y with h | h
  · rwa [max_eq_right h]
  · rwa [max_eq_left h]

theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem IsReal.sum {n : ℕ} {f : Fin n → EReal} (h : ∀ k, IsReal (f k)) : IsReal (∑ k, f k) := by
  choose g hg using h
  exact ⟨∑ k, g k, by rw [← coe_sum]; exact Finset.sum_congr rfl fun k _ => hg k⟩

/-- A real number divided by the length of the row. -/
theorem div_real {N : ℝ} (hN : N ≠ 0) (a : ℝ) : Ideal.div (a : EReal) (N : EReal) = ((a / N : ℝ) : EReal) := by
  rw [Ideal.div_coe hN, ← EReal.coe_mul]; congr 1; field_simp

/-- The mean of squares and the small constant under the root. -/
def msq {n : ℕ} (X : Fin n → EReal) (N e : EReal) : EReal := Ideal.div (∑ k, X k * X k) N + e

theorem msq_real {n : ℕ} (x : Fin n → ℝ) {N e : ℝ} (hN : 0 < N) :
    msq (fun k => (x k : EReal)) N e = (((∑ k, x k * x k) / N + e : ℝ) : EReal) := by
  unfold msq
  have : ∑ k, (x k : EReal) * (x k : EReal) = ((∑ k, x k * x k : ℝ) : EReal) := by
    rw [← coe_sum]; exact Finset.sum_congr rfl fun k _ => (EReal.coe_mul _ _).symm
  rw [this, div_real hN.ne', ← EReal.coe_add]

theorem msq_pos {n : ℕ} (x : Fin n → ℝ) {N e : ℝ} (hN : 0 < N) (he : 0 < e) : 0 < (∑ k, x k * x k) / N + e :=
  add_pos_of_nonneg_of_pos (div_nonneg (Finset.sum_nonneg fun k _ => mul_self_nonneg _) hN.le) he

theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

theorem rsqrt_msq_isReal {n : ℕ} {X : Fin n → EReal} {N e : ℝ} (hX : ∀ k, IsReal (X k)) (hN : 0 < N) (he : 0 < e) :
    IsReal (Ideal.rsqrt (msq X N e)) := by
  choose x hx using hX
  obtain rfl : X = fun k => (x k : EReal) := funext hx
  rw [msq_real x hN, rsqrt_pos (msq_pos x hN he)]
  exact ⟨_, rfl⟩

/-- The kernels' form of the norm's gradient at one entry of a row. -/
def back {n : ℕ} (X D : Fin n → EReal) (N R : EReal) (j : Fin n) : EReal :=
  R * (D j - X j * R * Ideal.div (∑ k, D k * (X k * R)) N)

/-- The reciprocal root's share of the references' gradient, the same for a whole row. -/
def slope {n : ℕ} (X D : Fin n → EReal) (N h R V : EReal) : EReal :=
  Ideal.div ((∑ k, X k * D k) * (h * Ideal.div R V)) N

theorem slope_isReal {n : ℕ} {X D : Fin n → EReal} {N e : ℝ} (h : ℝ) (hX : ∀ k, IsReal (X k))
    (hD : ∀ k, IsReal (D k)) (hN : 0 < N) (he : 0 < e) :
    IsReal (slope X D N h (Ideal.rsqrt (msq X N e)) (msq X N e)) := by
  choose x hx using hX
  obtain rfl : X = fun k => (x k : EReal) := funext hx
  choose d hd using hD
  obtain rfl : D = fun k => (d k : EReal) := funext hd
  have hv := msq_pos x hN he
  unfold slope
  rw [msq_real x hN, rsqrt_pos hv, div_real hv.ne']
  have : ∑ k, (x k : EReal) * (d k : EReal) = ((∑ k, x k * d k : ℝ) : EReal) := by
    rw [← coe_sum]; exact Finset.sum_congr rfl fun k _ => (EReal.coe_mul _ _).symm
  rw [this, ← EReal.coe_mul, ← EReal.coe_mul, div_real hN.ne']
  exact ⟨_, rfl⟩

/-- On rows of real numbers the two forms are the same number. -/
theorem back_eq {n : ℕ} {X D : Fin n → EReal} {N e : ℝ} (hX : ∀ k, IsReal (X k)) (hD : ∀ k, IsReal (D k))
    (hN : 0 < N) (he : 0 < e) (j : Fin n) :
    back X D N (Ideal.rsqrt (msq X N e)) j
      = D j * Ideal.rsqrt (msq X N e)
        + (X j * slope X D N ((-(1/2) : ℝ) : EReal) (Ideal.rsqrt (msq X N e)) (msq X N e)
          + slope X D N ((-(1/2) : ℝ) : EReal) (Ideal.rsqrt (msq X N e)) (msq X N e) * X j) := by
  choose x hx using hX
  obtain rfl : X = fun k => (x k : EReal) := funext hx
  choose d hd using hD
  obtain rfl : D = fun k => (d k : EReal) := funext hd
  have hv := msq_pos x hN he
  unfold back slope
  rw [msq_real x hN, rsqrt_pos hv, div_real hv.ne']
  generalize (∑ k, x k * x k) / N + e = v at hv
  have h1 : ∑ k, (x k : EReal) * (d k : EReal) = ((∑ k, x k * d k : ℝ) : EReal) := by
    rw [← coe_sum]; exact Finset.sum_congr rfl fun k _ => (EReal.coe_mul _ _).symm
  have h2 : ∑ k, (d k : EReal) * ((x k : EReal) * (((Real.sqrt v)⁻¹ : ℝ) : EReal))
      = (((∑ k, x k * d k) * (Real.sqrt v)⁻¹ : ℝ) : EReal) := by
    rw [Finset.sum_mul, ← coe_sum]
    refine Finset.sum_congr rfl fun k _ => ?_
    rw [← EReal.coe_mul, ← EReal.coe_mul]; congr 1; ring
  rw [h1, h2]
  simp only [← EReal.coe_mul, ← EReal.coe_sub, ← EReal.coe_add, div_real hN.ne']
  congr 1
  have hs : Real.sqrt v ≠ 0 := (Real.sqrt_pos.mpr hv).ne'
  have hs2 : v = Real.sqrt v * Real.sqrt v := (Real.mul_self_sqrt hv.le).symm
  rw [hs2, Real.sqrt_mul_self (Real.sqrt_nonneg v)]
  field_simp
  ring

end Cert.Norm

end
-- ==== Proof.MergeOut.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.Claim
public import proofs.«01_k».proof.Proof.Norm

@[expose] public section

set_option maxRecDepth 16384

/-!
# The gated merge, its projection and the two norms behind it

The kernel works on blocks of 512 rows with the branches' weights in four column slabs; a row of a result depends on the
same row of the arguments, so each entry is read beside the reference's.
-/

noncomputable section

namespace Cert.Kernel6Ideal.MergeOut

open Cert.Kernel6Ideal Cert.Kernel6Ideal.Gen Idealize.ShloMosaic Idealize.ShloMosaic.TcCoe Idealize.SL.Sem
open Idealize.ShloMosaic.Pipeline (Dat)
open Cert.Reference6Ideal.Read Cert.Norm

variable (m : (ℓ : Loc nD τ sig) → Buf (Elt Ideal) ℓ) (c : Dev nD)

/-- Where each window's block stands at a grid point: the row blocks move with the point, weights and gains stay. -/
theorem idx_val : ∀ t : Fin cfg0.N, win0_0.index t = ![t.val, 0] ∧ win0_1.index t = ![t.val, 0]
    ∧ win0_2.index t = ![t.val, 0] ∧ win0_3.index t = ![t.val, 0] ∧ win0_4.index t = ![0, 0, 0]
    ∧ win0_5.index t = ![0, 0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0]
    ∧ win0_12.index t = ![t.val, 0] ∧ t.val < 8 :=
  (by decide +kernel : ∀ t : Fin grid0.N, _)

/-- The row of the whole array that row `a` of point `t`'s block is. -/
def row (t : Fin cfg0.N) (a : Fin 512) : Fin 4096 := ⟨t.val * 512 + a.val, by have := (idx_val t).2.2.2.2.2.2.2.2.2.2.2.2.2; omega⟩

/-- An index by example, position and channel, from the row of the flat arrays. -/
abbrev at3 {n : ℕ} (r : Fin 4096) (b : Fin n) : (⟨3, ![2, 2048, n]⟩ : Shape).Idx := ix3 ⟨r.val / 2048, by omega⟩ ⟨r.val % 2048, by omega⟩ b

theorem blk0 (t : Fin cfg0.N) (a : Fin 512) (b : Fin 512) :
    iblk m c 0 t (ix2 a b) = m ((c : Thread nD τ).loc main_arg1) (ix2 (row t a) b) := by
  blk_ext! [iblk, V, idx_val t, row]

theorem blk1 (t : Fin cfg0.N) (a : Fin 512) (b : Fin 512) :
    iblk m c 1 t (ix2 a b) = m ((c : Thread nD τ).loc main_arg2) (ix2 (row t a) b) := by
  blk_ext! [iblk, V, idx_val t, row]

/-- The logistic function as both programs spell it. -/
def sigmoid (x : EReal) : EReal := Ideal.div 1 (1 + Ideal.exp (-x))

theorem blk2 (t : Fin cfg0.N) (a : Fin 512) (b : Fin 2048) :
    iblk m c 2 t (ix2 a b) = sigmoid (m ((c : Thread nD τ).loc main_arg0) (ix3 ⟨(row t a).val / 2048, by omega⟩ ⟨(row t a).val % 2048, by omega⟩ b)) := by
  blk_simp [iblk, idx_val t]
  entry_read
  pointwise [sigmoid]
  blk_point [idx_val t, row]

theorem blk3 (t : Fin cfg0.N) (a : Fin 512) (b : Fin 1024) :
    iblk m c 3 t (ix2 a b) = m ((c : Thread nD τ).loc main_arg3) (ix3 ⟨(row t a).val / 2048, by omega⟩ ⟨(row t a).val % 2048, by omega⟩ b) := by
  blk_simp [iblk, idx_val t]
  entry_read
  pointwise
  blk_ext [idx_val t, row]

theorem blk4 (t : Fin cfg0.N) (j : Fin 4) (a : Fin 512) (b : Fin 256) :
    iblk m c 4 t (ix3 j a b) = m ((c : Thread nD τ).loc main_arg5) (ix3 0 a ⟨j.val * 256 + b.val, by omega⟩) := by
  blk_simp [iblk, idx_val t]
  entry_read
  pointwise
  blk_ext [idx_val t]

theorem blk5 (t : Fin cfg0.N) (j : Fin 4) (a : Fin 512) (b : Fin 256) :
    iblk m c 5 t (ix3 j a b) = m ((c : Thread nD τ).loc main_arg6) (ix3 0 a ⟨j.val * 256 + b.val, by omega⟩) := by
  blk_simp [iblk, idx_val t]
  entry_read
  pointwise
  blk_ext [idx_val t]

theorem blk6 (t : Fin cfg0.N) (a : Fin 1024) (b : Fin 1024) :
    iblk m c 6 t (ix2 a b) = m ((c : Thread nD τ).loc main_arg4) (ix3 0 a b) := by
  blk_simp [iblk, idx_val t]
  entry_read
  pointwise
  blk_ext [idx_val t]

theorem blk7 (t : Fin cfg0.N) (b : Fin 1024) : iblk m c 7 t (ix2 0 b) = m ((c : Thread nD τ).loc main_arg7) (ix2 0 b) := by
  blk_ext! [iblk, V, idx_val t]

theorem blk8 (t : Fin cfg0.N) (b : Fin 1024) : iblk m c 8 t (ix2 0 b) = m ((c : Thread nD τ).loc main_arg8) (ix2 0 b) := by
  blk_ext! [iblk, V, idx_val t]

section Payloads

variable (v13 : FVec Ideal S512x1024 .f32) (v14 : Vec Ideal S512x512 .bf16) (v17 v20 v23 : FVec Ideal S512x256 .f32)
  (v24 : Vec Ideal S1x512x256 .bf16) (v28 v32 : Vec Ideal S512x1024 .bf16) (v39 : Vec Ideal S1024x1024 .bf16)
  (v43 : Vec Ideal S512x1024 .f32) (v55 : Vec Ideal S1x1024 .f32)

theorem pay7_eq (a : Fin 512) (b : Fin 1024) : k0_pay7 v13 v14 v17 v20 v23 v24 v28 v32 v39 (ix2 a b)
    = ∑ k : Fin 1024, k0_pay6 v13 v14 v17 v20 v23 v24 v28 v32 (ix2 a k) * v39 (ix2 k b) := by
  unfold k0_pay7
  generalize k0_pay6 v13 v14 v17 v20 v23 v24 v28 v32 = p
  pointwise

theorem pay8_eq (a : Fin 512) (b : Fin 1024) : k0_pay8 v13 v14 v17 v20 v23 v24 v28 v32 v39 v43 v55 (ix2 a b)
    = v43 (ix2 a b) + k0_pay7 v13 v14 v17 v20 v23 v24 v28 v32 v39 (ix2 a b)
      * Ideal.rsqrt (msq (fun k => k0_pay7 v13 v14 v17 v20 v23 v24 v28 v32 v39 (ix2 a k)) (Ideal.ofBits .f32 0x44800000#32) (Ideal.ofBits .f32 0x358637BD#32))
      * v55 (ix2 0 b) := by
  unfold k0_pay8
  generalize k0_pay7 v13 v14 v17 v20 v23 v24 v28 v32 v39 = p
  pointwise [msq]

theorem pay1_eq (v58 : FVec Ideal S512x1024 .f32) (a : Fin 512) (b : Fin 1024) : k0_pay1 v58 v55 (ix2 a b)
    = v58 (ix2 a b) * Ideal.rsqrt (msq (fun k => v58 (ix2 a k)) (Ideal.ofBits .f32 0x44800000#32) (Ideal.ofBits .f32 0x358637BD#32)) * v55 (ix2 0 b) := by
  pointwise [k0_pay1, msq]

end Payloads

/-- The branch of the pooling mixer, on a block. -/
abbrev pool (t : Fin cfg0.N) := k0_pay2 (F := Ideal) (iblk m c 0 t) (View.ld (iblk m c 4 t) r0_1) (View.ld (iblk m c 4 t) r0_2)
  (View.ld (iblk m c 4 t) r0_3) (View.ld (iblk m c 4 t) r0_4)
/-- The first three column pieces of the attention's branch. -/
abbrev attn0 (t : Fin cfg0.N) := k0_pay3 (F := Ideal) (iblk m c 1 t) (View.ld (iblk m c 5 t) r0_1)
abbrev attn1 (t : Fin cfg0.N) := k0_pay4 (F := Ideal) (iblk m c 1 t) (View.ld (iblk m c 5 t) r0_2)
abbrev attn2 (t : Fin cfg0.N) := k0_pay5 (F := Ideal) (iblk m c 1 t) (View.ld (iblk m c 5 t) r0_3)
/-- The weights of the fourth, and the gate's halves. -/
abbrev slab3 (t : Fin cfg0.N) := View.ld (iblk m c 5 t) r0_4
abbrev gate0 (t : Fin cfg0.N) := View.ld (iblk m c 2 t) r0_5
abbrev gate1 (t : Fin cfg0.N) := View.ld (iblk m c 2 t) r0_6

theorem merged_eq (t : Fin cfg0.N) (a : Fin 512) (b : Fin 1024) :
    k0_pay6 (pool m c t) (iblk m c 1 t) (attn0 m c t) (attn1 m c t) (attn2 m c t) (slab3 m c t) (gate0 m c t) (gate1 m c t) (ix2 a b)
      = val_main_v18 (F := Ideal) (m ((c : Thread nD τ).loc main_arg0)) (m ((c : Thread nD τ).loc main_arg1)) (m ((c : Thread nD τ).loc main_arg2))
          (m ((c : Thread nD τ).loc main_arg5)) (m ((c : Thread nD τ).loc main_arg6)) (at3 (row t a) b) := by
  unfold pool attn0 attn1 attn2 slab3 gate0 gate1
  pointwise [k0_pay6, k0_pay2, k0_pay3, k0_pay4, k0_pay5, val_main_v18, val_main_v17, val_main_v14, val_main_v16, val_main_v13, val_main_v15, val_main_v12, val_main_v11, val_main_v10, val_main_v9, val_main_v8, val_main_v7, val_main_v6, val_main_v5, val_main_v4, val_main_cst, val_main_cst_0, val_main_v3, val_main_v2, val_main_v1, val_main_v0, blk0, blk1, blk2, blk4, blk5, sigmoid]
  refine congrArg₂ _ (congrArg _ ?_) (congrArg _ ?_)
  all_goals
    split_ifs
    · rfl
    all_goals exact Finset.sum_congr rfl fun x _ => by congr 3; apply Fin.ext; show _ = b.val; dsimp only; omega

theorem mix_eq (t : Fin cfg0.N) (a : Fin 512) (b : Fin 1024) :
    k0_pay7 (pool m c t) (iblk m c 1 t) (attn0 m c t) (attn1 m c t) (attn2 m c t) (slab3 m c t) (gate0 m c t) (gate1 m c t) (iblk m c 6 t) (ix2 a b)
      = val_main_v20 (F := Ideal) (m ((c : Thread nD τ).loc main_arg0)) (m ((c : Thread nD τ).loc main_arg1)) (m ((c : Thread nD τ).loc main_arg2))
          (m ((c : Thread nD τ).loc main_arg4)) (m ((c : Thread nD τ).loc main_arg5)) (m ((c : Thread nD τ).loc main_arg6)) (at3 (row t a) b) := by
  rw [pay7_eq]
  simp only [merged_eq, blk6]
  unfold val_main_v20
  generalize val_main_v18 (F := Ideal) _ _ _ _ _ = p
  pointwise [val_main_v19]

section Reference

variable (x0 : (⟨Reference6Ideal.S2x2048x2048, .f32⟩ : BufTy).Contents (Elt Ideal)) (x1 x2 : (⟨Reference6Ideal.S4096x512, .bf16⟩ : BufTy).Contents (Elt Ideal))
  (x3 : (⟨Reference6Ideal.S2x2048x1024, .f32⟩ : BufTy).Contents (Elt Ideal)) (x4 : (⟨Reference6Ideal.S1x1024x1024, .f32⟩ : BufTy).Contents (Elt Ideal))
  (x5 x6 : (⟨Reference6Ideal.S1x512x1024, .f32⟩ : BufTy).Contents (Elt Ideal)) (x7 x8 : (⟨Reference6Ideal.S1x1024, .f32⟩ : BufTy).Contents (Elt Ideal))

theorem v35_eq (q : Fin 2) (s : Fin 2048) (b : Fin 1024) : val_main_v35 (F := Ideal) x0 x1 x2 x3 x4 x5 x6 x7 (ix3 q s b)
    = x3 (ix3 q s b) + val_main_v20 (F := Ideal) x0 x1 x2 x4 x5 x6 (ix3 q s b)
      * Ideal.rsqrt (msq (fun k => val_main_v20 (F := Ideal) x0 x1 x2 x4 x5 x6 (ix3 q s k)) (Ideal.ofBits .f32 0x44800000#32) (Ideal.ofBits .f32 0x358637BD#32))
      * x7 (ix2 0 b) := by
  unfold val_main_v35 val_main_v34 val_main_v31 val_main_v30 val_main_v29 val_main_v28 val_main_v26 val_main_v24 val_main_v23 val_main_v22
  generalize val_main_v20 (F := Ideal) x0 x1 x2 x4 x5 x6 = p
  pointwise [val_main_v33, val_main_v32, val_main_v21, val_main_v27, val_main_v25, val_main_cst_1, val_main_cst_2, val_main_cst_3, msq]

theorem v49_eq (q : Fin 2) (s : Fin 2048) (b : Fin 1024) : val_main_v49 (F := Ideal) x0 x1 x2 x3 x4 x5 x6 x7 x8 (ix3 q s b)
    = val_main_v35 (F := Ideal) x0 x1 x2 x3 x4 x5 x6 x7 (ix3 q s b)
      * Ideal.rsqrt (msq (fun k => val_main_v35 (F := Ideal) x0 x1 x2 x3 x4 x5 x6 x7 (ix3 q s k)) (Ideal.ofBits .f32 0x44800000#32) (Ideal.ofBits .f32 0x358637BD#32))
      * x8 (ix2 0 b) := by
  unfold val_main_v49 val_main_v46 val_main_v45 val_main_v44 val_main_v43 val_main_v41 val_main_v39 val_main_v38 val_main_v37
  generalize val_main_v35 (F := Ideal) x0 x1 x2 x3 x4 x5 x6 x7 = p
  pointwise [val_main_v48, val_main_v47, val_main_v36, val_main_v42, val_main_v40, val_main_cst_4, val_main_cst_5, val_main_cst_6, msq]

end Reference

theorem x1_eq (t : Fin cfg0.N) (a : Fin 512) (b : Fin 1024) :
    k0_pay8 (pool m c t) (iblk m c 1 t) (attn0 m c t) (attn1 m c t) (attn2 m c t) (slab3 m c t) (gate0 m c t) (gate1 m c t) (iblk m c 6 t)
        (iblk m c 3 t) (iblk m c 7 t) (ix2 a b)
      = val_main_v35 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (at3 (row t a) b) := by
  rw [pay8_eq, v35_eq]
  simp only [mix_eq, blk3, blk7]

theorem h2_eq (t : Fin cfg0.N) (a : Fin 512) (b : Fin 1024) :
    k0_pay1 (k0_pay8 (pool m c t) (iblk m c 1 t) (attn0 m c t) (attn1 m c t) (attn2 m c t) (slab3 m c t) (gate0 m c t) (gate1 m c t) (iblk m c 6 t)
        (iblk m c 3 t) (iblk m c 7 t)) (iblk m c 8 t) (ix2 a b)
      = val_main_v49 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (at3 (row t a) b) := by
  rw [pay1_eq, v49_eq]
  simp only [x1_eq, blk8]

theorem emb9 (t : Fin cfg0.N) (a : Fin 512) (b : Fin 1024) : ((cfg0.win 9).blk t).view.emb (ix2 a b) = ix2 (row t a) b := by
  blk_ext [idx_val t, row]

theorem emb10 (t : Fin cfg0.N) (a : Fin 512) (b : Fin 1024) : ((cfg0.win 10).blk t).view.emb (ix2 a b) = ix2 (row t a) b := by
  blk_ext [idx_val t, row]

theorem emb11 (t : Fin cfg0.N) (a : Fin 512) (b : Fin 1024) : ((cfg0.win 11).blk t).view.emb (ix2 a b) = ix2 (row t a) b := by
  blk_ext [idx_val t, row]

theorem emb12 (t : Fin cfg0.N) (a : Fin 512) (b : Fin 1024) : ((cfg0.win 12).blk t).view.emb (ix2 a b) = ix2 (row t a) b := by
  blk_ext [idx_val t, row]

theorem idx50 (r : Fin 4096) (b : Fin 1024) : idx_main_v50 (ix2 r b) = at3 r b := by unfold at3; blk_ext
theorem idx52 (r : Fin 4096) (b : Fin 1024) : idx_main_v52 (ix2 r b) = at3 r b := by unfold at3; blk_ext
theorem idx53 (r : Fin 4096) (b : Fin 1024) : idx_main_v53 (ix2 r b) = at3 r b := by unfold at3; blk_ext
theorem idx54 (r : Fin 4096) (b : Fin 1024) : idx_main_v54 (ix2 r b) = at3 r b := by unfold at3; blk_ext

theorem final9 : (dats m 0 c).arrAt 9 (cfgs 0).N
    = val_main_v51 (F := Ideal) (m ((c : Thread nD τ).loc main_arg0)) (m ((c : Thread nD τ).loc main_arg1)) (m ((c : Thread nD τ).loc main_arg2))
        (m ((c : Thread nD τ).loc main_arg5)) (m ((c : Thread nD τ).loc main_arg6)) := by
  refine (dats m 0 c).arrAt_eq_of_covers 9 _ (by decide +kernel) fun t _ y => ?_
  idx_vars y
  rw [emb9, val_main_v51_apply, val_main_v50_apply, idx50]
  blk_simp
  rw [after0_9]
  unfold_out out0_9
  frame_out
  exact merged_eq m c t y0 y1

theorem final10 : (dats m 0 c).arrAt 10 (cfgs 0).N
    = val_main_v52 (F := Ideal) (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6)) := by
  refine (dats m 0 c).arrAt_eq_of_covers 10 _ (by decide +kernel) fun t _ y => ?_
  idx_vars y
  rw [emb10, val_main_v52_apply, idx52]
  blk_simp
  rw [after0_10]
  unfold_out out0_10
  frame_out
  exact mix_eq m c t y0 y1

theorem final11 : (dats m 0 c).arrAt 11 (cfgs 0).N
    = val_main_v53 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 11 _ (by decide +kernel) fun t _ y => ?_
  idx_vars y
  rw [emb11, val_main_v53_apply, idx53]
  blk_simp
  rw [after0_11]
  unfold_out out0_11
  frame_out
  exact x1_eq m c t y0 y1

theorem final12 : (dats m 0 c).arrAt 12 (cfgs 0).N
    = val_main_v55 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 12 _ (by decide +kernel) fun t _ y => ?_
  idx_vars y
  rw [emb12, val_main_v55_apply, val_main_v54_apply, idx54]
  blk_simp
  rw [after0_12]
  unfold_out out0_12
  frame_out
  exact h2_eq m c t y0 y1

end Cert.Kernel6Ideal.MergeOut

end
-- ==== Proof.AttnMath.lean ====
module

public import Idealize.ShloMosaic.Lib.Pipeline.ValueKit
public import Idealize.ShloMosaic.Lib.Pointwise
public import Idealize.ShloMosaic.Lib.Claim
public import Idealize.ShloMosaic.Lib.Ring

@[expose] public section

set_option maxRecDepth 16384

/-!
# One row's attention over a window with a sink, as mathematics
-/

noncomputable section

namespace Cert.Mix

open Idealize.ShloMosaic Idealize.ShloMosaic.TcCoe

/-! ## One row's attention -/

/-- Whether the row sees the column: the last 128 of them, none before the sequence's first. -/
def seen (later : Bool) (r : Fin 128) (c : Fin 256) : BitVec 1 :=
  if r.val < c.val ∧ c.val ≤ r.val + 128 ∧ (later = true ∨ 128 ≤ c.val) then 1#1 else 0#1

/-- The score of key `c`, minus infinity where the window does not reach it. -/
def logit (vb : Fin 256 → BitVec 1) (q : Fin 64 → EReal) (K : Fin 256 → Fin 64 → EReal) (c : Fin 256) : EReal :=
  Scalar.select (vb c) (∑ d, q d * K c d) ⊥

/-- The greatest score, the sink's among them. -/
def top (L : Fin 256 → EReal) (s : EReal) : EReal := max (Finset.fold max ⊥ L Finset.univ) s

/-- The weighted sum of the values. -/
def attn (L : Fin 256 → EReal) (s : EReal) (v : Fin 256 → EReal) : EReal :=
  ∑ c, Ideal.exp (L c - top L s) * Ideal.div 1 (∑ c, Ideal.exp (L c - top L s) + Ideal.exp (s - top L s)) * v c

theorem pick1 {α : Type} (a b : α) : Scalar.select 1#1 a b = a := rfl

theorem pick0 {α : Type} (a b : α) : Scalar.select 0#1 a b = b := rfl

theorem coe_total {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

/-! ## The softmax with the sink as its last entry -/

/-- The scores with the sink behind them. -/
def withSink (L : Fin 256 → EReal) (s : EReal) (c : Fin 257) : EReal := if h : c.val < 256 then L ⟨c.val, h⟩ else s

theorem withSink_cast (L : Fin 256 → EReal) (s : EReal) (c : Fin 256) : withSink L s c.castSucc = L c := by
  simp [withSink]

theorem withSink_last (L : Fin 256 → EReal) (s : EReal) : withSink L s (Fin.last 256) = s := by
  simp [withSink]

theorem fold_sup {n : ℕ} (f : Fin n → EReal) : Finset.fold max ⊥ f Finset.univ = Finset.univ.sup f := rfl

theorem top_withSink (L : Fin 256 → EReal) (s : EReal) :
    max ⊥ (Finset.fold max ⊥ (withSink L s) Finset.univ) = top L s := by
  rw [max_eq_right bot_le, top, fold_sup, fold_sup]
  apply le_antisymm
  · refine Finset.sup_le fun c _ => ?_
    induction c using Fin.lastCases with
    | last => rw [withSink_last]; exact le_max_right ..
    | cast c => rw [withSink_cast]; exact le_max_of_le_left (Finset.le_sup (Finset.mem_univ c))
  · refine max_le (Finset.sup_le fun c _ => ?_) ?_
    · rw [← withSink_cast L s]; exact Finset.le_sup (Finset.mem_univ _)
    · conv_lhs => rw [← withSink_last L s]
      exact Finset.le_sup (Finset.mem_univ _)

theorem sum_withSink (L : Fin 256 → EReal) (s : EReal) (f : EReal → EReal) :
    ∑ c, f (withSink L s c) = ∑ c, f (L c) + f s := by
  rw [Fin.sum_univ_castSucc]; simp only [withSink_cast, withSink_last]

theorem exp_nonneg (x : EReal) : 0 ≤ Ideal.exp x := by
  induction x using EReal.rec with
  | bot => simp
  | top => simp
  | coe r => rw [Ideal.exp_coe]; exact_mod_cast (Real.exp_pos r).le

theorem top_attained (L : Fin 256 → EReal) (s : EReal) : top L s = s ∨ ∃ c, top L s = L c := by
  rcases max_choice (Finset.fold max ⊥ L Finset.univ) s with h | h
  · right
    obtain ⟨c, -, hc⟩ := Finset.exists_mem_eq_sup Finset.univ ⟨0, Finset.mem_univ _⟩ L
    exact ⟨c, by rw [top, h, fold_sup, hc]⟩
  · left; exact h

/-- Where the scores are below plus infinity and the sink is a number, the weights' sum is not zero. -/
theorem total_ne (L : Fin 256 → EReal) (s : EReal) (hL : ∀ c, L c ≠ ⊤) (hs : s ≠ ⊤) (hs' : s ≠ ⊥) :
    ∑ c, Ideal.exp (L c - top L s) + Ideal.exp (s - top L s) ≠ 0 := by
  have hb : top L s ≠ ⊥ := fun h => hs' (le_bot_iff.1 (h ▸ le_max_right _ s))
  have key : ∀ x, x ≠ ⊤ → top L s = x → 0 < Ideal.exp (x - top L s) := by
    intro x hx h
    rw [h]
    lift x to ℝ using ⟨hx, by rw [← h]; exact hb⟩
    rw [← EReal.coe_sub, sub_self, Ideal.exp_coe, Real.exp_zero]; norm_num
  have h0 : 0 ≤ ∑ c, Ideal.exp (L c - top L s) := Finset.sum_nonneg fun c _ => exp_nonneg _
  rcases top_attained L s with h | ⟨c, h⟩
  · exact ((key s hs h).trans_le (le_add_of_nonneg_left h0)).ne'
  · refine (lt_of_lt_of_le ?_ (le_add_of_nonneg_right (exp_nonneg _))).ne'
    exact (key _ (hL c) h).trans_le (Finset.single_le_sum (f := fun c => Ideal.exp (L c - top L s)) (fun c _ => exp_nonneg _) (Finset.mem_univ c))

theorem div_inv {y : EReal} (h : y ≠ 0) (x : EReal) : Ideal.div x y = x * Ideal.div 1 y := by
  simp [Ideal.div, h]

/-- The weights taken by a division, the sink in the sum, are the kernel's. -/
theorem attn_softmax (L : Fin 256 → EReal) (s : EReal) (v : Fin 256 → EReal) (hL : ∀ c, L c ≠ ⊤) (hs : s ≠ ⊤)
    (hs' : s ≠ ⊥) :
    ∑ c, v c * Ideal.div (Ideal.exp (L c - top L s)) (0 + ∑ k, Ideal.exp (withSink L s k - top L s)) = attn L s v := by
  refine Finset.sum_congr rfl fun c _ => ?_
  rw [zero_add, sum_withSink L s fun x => Ideal.exp (x - top L s), div_inv (total_ne L s hL hs hs'), mul_comm]

/-- Attention asks nothing of the keys and the values a row does not see. -/
theorem attn_congr {vb : Fin 256 → BitVec 1} {q : Fin 64 → EReal} {K K' : Fin 256 → Fin 64 → EReal} {s : EReal}
    {v v' : Fin 256 → EReal} (hK : ∀ c, vb c = 1#1 → K c = K' c) (hv : ∀ c, vb c = 1#1 → v c = v' c) :
    attn (logit vb q K) s v = attn (logit vb q K') s v' := by
  have hL : logit vb q K = logit vb q K' := by
    funext c
    by_cases h : vb c = 1#1
    · rw [logit, logit, hK c h]
    · have h0 : vb c = 0#1 := (BitVec.eq_zero_or_eq_one _).resolve_right h
      rw [logit, logit, h0, pick0, pick0]
  rw [attn, attn, hL]
  refine Finset.sum_congr rfl fun c _ => ?_
  by_cases h : vb c = 1#1
  · rw [hv c h]
  · have h0 : vb c = 0#1 := (BitVec.eq_zero_or_eq_one _).resolve_right h
    have hl : logit vb q K' c = ⊥ := by rw [logit, h0, pick0]
    rw [hl, EReal.bot_sub, Ideal.exp_bot, zero_mul, zero_mul, zero_mul]

/-- A scale moved from the sum to a factor. -/
theorem sum_scale {q k : Fin 64 → EReal} {w : ℝ} (hq : ∀ d, ∃ r : ℝ, q d = r) (hk : ∀ d, ∃ r : ℝ, k d = r) :
    (∑ d, k d * q d) * (w : EReal) = ∑ d, q d * w * k d := by
  choose qr hqr using hq
  choose kr hkr using hk
  simp only [hqr, hkr, ← EReal.coe_mul, coe_total]
  rw [Finset.sum_mul]
  congr 1
  exact Finset.sum_congr rfl fun d _ => by ring

theorem logit_ne_top {vb : Fin 256 → BitVec 1} {q : Fin 64 → EReal} {K : Fin 256 → Fin 64 → EReal} (hq : ∀ d, ∃ r : ℝ, q d = r)
    (hK : ∀ c d, ∃ r : ℝ, K c d = r) (c : Fin 256) : logit vb q K c ≠ ⊤ := by
  choose qr hqr using hq
  choose kr hkr using hK
  rw [logit]
  simp only [hqr, hkr, ← EReal.coe_mul, coe_total]
  rw [Scalar.select]
  split
  · exact EReal.coe_ne_top _
  · simp
-- ==== Proof.PoolMath.lean ====
module

public import Idealize.ShloMosaic.Lib.Pipeline.ValueKit
public import Idealize.ShloMosaic.Lib.Pointwise
public import Idealize.ShloMosaic.Lib.Claim
public import Idealize.ShloMosaic.Lib.Ring
public import proofs.«01_k».proof.Proof.AttnMath

@[expose] public section

set_option maxRecDepth 16384

/-!
# A mean over the last positions, as mathematics
-/

noncomputable section

namespace Cert.Mix

open Idealize.ShloMosaic Idealize.ShloMosaic.TcCoe

/-! ## Sums over the last positions -/

/-- The sum of the last `w` values up to position `p`, those before the first left out. -/
def pooled (w : ℕ) (g : Fin 2048 → EReal) (p : Fin 2048) : EReal :=
  ∑ m ∈ Finset.range w, if m ≤ p.val then g ⟨p.val - m, by have := p.isLt; omega⟩ else 0

/-- The sum of all values up to position `p`, as a window over a padded sequence. -/
def cum (g : Fin 2048 → EReal) (p : Fin 2048) : EReal :=
  ∑ k : Fin 2048, if h : 2047 ≤ p.val + k.val then g ⟨p.val + k.val - 2047, by have := p.isLt; have := k.isLt; omega⟩ else 0

theorem coe_range (n : ℕ) (f : ℕ → ℝ) : ∑ i ∈ Finset.range n, ((f i : ℝ) : EReal) = ((∑ i ∈ Finset.range n, f i : ℝ) : EReal) := by
  induction n with
  | zero => simp
  | succ n ih => rw [Finset.sum_range_succ, Finset.sum_range_succ, ih, EReal.coe_add]

/-- The running sum is the window as long as the sequence. -/
theorem cum_pooled (g : Fin 2048 → EReal) (p : Fin 2048) : cum g p = pooled 2048 g p := by
  have e : ∀ k : Fin 2048, (if h : 2047 ≤ p.val + k.val then g ⟨p.val + k.val - 2047, by have := p.isLt; have := k.isLt; omega⟩ else 0)
      = (fun m : ℕ => if m ≤ p.val then g ⟨p.val - m, by have := p.isLt; omega⟩ else 0) (2048 - 1 - k.val) := fun k => by
    have := k.isLt
    by_cases h : 2047 ≤ p.val + k.val
    · rw [dif_pos h]
      simp only
      rw [if_pos (by omega)]
      exact congrArg g (Fin.ext (by simp only; omega))
    · rw [dif_neg h]
      simp only
      rw [if_neg (by omega)]
  unfold cum pooled
  rw [Finset.sum_congr rfl fun k _ => e k]
  rw [Fin.sum_univ_eq_sum_range (fun k => (fun m : ℕ => if m ≤ p.val then g ⟨p.val - m, by have := p.isLt; omega⟩ else 0) (2048 - 1 - k)) 2048]
  exact Finset.sum_range_reflect (fun m : ℕ => if m ≤ p.val then g ⟨p.val - m, by have := p.isLt; omega⟩ else 0) 2048

/-- A window's sum of real numbers is a difference of two sums from the first position on. -/
theorem pooled_real (g : Fin 2048 → EReal) (r : ℕ → ℝ) (hr : ∀ i : Fin 2048, g i = ((r i.val : ℝ) : EReal)) (w : ℕ) (p : Fin 2048) :
    pooled w g p = ((∑ i ∈ Finset.range (p.val + 1), r i - ∑ i ∈ Finset.range (p.val + 1 - w), r i : ℝ) : EReal) := by
  have e : pooled w g p = ((∑ m ∈ Finset.range w, (if m ≤ p.val then r (p.val - m) else 0) : ℝ) : EReal) := by
    rw [← coe_range]
    refine Finset.sum_congr rfl fun m _ => ?_
    by_cases h : m ≤ p.val
    · rw [if_pos h, if_pos h, hr]
    · rw [if_neg h, if_neg h, EReal.coe_zero]
  rw [e]
  congr 1
  clear e
  induction w with
  | zero => simp
  | succ w ih =>
    rw [Finset.sum_range_succ, ih]
    by_cases h : w ≤ p.val
    · rw [if_pos h, show p.val + 1 - w = (p.val - w) + 1 by omega, show p.val + 1 - (w + 1) = p.val - w by omega,
        Finset.sum_range_succ r (p.val - w)]
      ring
    · rw [if_neg h, show p.val + 1 - w = 0 by omega, show p.val + 1 - (w + 1) = 0 by omega]
      ring

/-- The difference of two running sums is the sum between them. -/
theorem cum_sub (g : Fin 2048 → EReal) (hg : ∀ i, ∃ r : ℝ, g i = (r : EReal)) (w : ℕ) (p : Fin 2048) :
    cum g p - (if h : w ≤ p.val then cum g ⟨p.val - w, by have := p.isLt; omega⟩ else 0) = pooled w g p := by
  choose r hr using hg
  obtain ⟨f, hs⟩ : ∃ f : ℕ → ℝ, ∀ i : Fin 2048, g i = ((f i.val : ℝ) : EReal) :=
    ⟨fun n => if h : n < 2048 then r ⟨n, h⟩ else 0, fun i => by simp only [i.isLt, dif_pos]; exact hr i⟩
  have z : ∀ q : Fin 2048, q.val + 1 - 2048 = 0 := fun q => by have := q.isLt; omega
  rw [pooled_real g _ hs w p]
  by_cases h : w ≤ p.val
  · rw [dif_pos h, cum_pooled, cum_pooled, pooled_real g _ hs, pooled_real g _ hs, z, z, Finset.sum_range_zero, sub_zero, sub_zero,
      show (⟨p.val - w, by have := p.isLt; omega⟩ : Fin 2048).val + 1 = p.val + 1 - w by simp only; omega, EReal.coe_sub]
  · rw [dif_neg h, cum_pooled, pooled_real g _ hs, z, show p.val + 1 - w = 0 by omega]
    simp

/-! ## Sums by doubling -/

/-- The sum of the `w` rows up to row `r`. -/
def win {n : ℕ} (Y : Fin n → EReal) (w : ℕ) (r : Fin n) : EReal :=
  ∑ m ∈ Finset.range w, Y ⟨r.val - m, by have := r.isLt; omega⟩

/-- Each row with the one `k` rows before it added. -/
def roll {n : ℕ} (Y : Fin n → EReal) (k : ℕ) (r : Fin n) : EReal :=
  Y r + Y ⟨(r.val + n - k) % n, Nat.mod_lt _ (by have := r.isLt; omega)⟩

theorem win_one {n : ℕ} (Y : Fin n → EReal) (r : Fin n) : Y r = win Y 1 r := by
  simp [win]

theorem roll_win {n : ℕ} (Y Z : Fin n → EReal) (w : ℕ) (hw : w ≤ n) (hZ : ∀ r : Fin n, w ≤ r.val + 1 → Z r = win Y w r)
    (r : Fin n) (hr : w + w ≤ r.val + 1) : roll Z w r = win Y (w + w) r := by
  have := r.isLt
  have e : (⟨(r.val + n - w) % n, Nat.mod_lt _ (by omega)⟩ : Fin n) = ⟨r.val - w, by omega⟩ :=
    Fin.ext (by
      show (r.val + n - w) % n = r.val - w
      rcases Nat.eq_zero_or_pos w with rfl | h
      · simp [Nat.mod_eq_of_lt this]
      rw [show r.val + n - w = (r.val - w) + n by omega, Nat.add_mod_right, Nat.mod_eq_of_lt (by omega)])
  unfold roll
  rw [e, hZ r (by omega), hZ _ (by simp only; omega)]
  unfold win
  rw [Finset.sum_range_add]
  refine congrArg₂ (· + ·) rfl (Finset.sum_congr rfl fun m _ => congrArg Y (Fin.ext ?_))
  show r.val - w - m = r.val - (w + m)
  omega

/-! ## The mean -/

/-- The number of positions in the window. -/
def count (w : BitVec 32) (p : Fin 2048) : BitVec 32 := IntOp.minsi (BitVec.ofNat 32 p.val + 1#32) w

/-- A sum times one over a number that is not zero is the sum divided by it. -/
theorem mul_div_one (s c : EReal) (hc : c ≠ 0) : s * Ideal.div 1 c = Ideal.div s c := by
  unfold Ideal.div
  rw [if_neg hc, if_neg hc, one_mul]

/-- The mean of the window less the value itself. -/
def excess (w : ℕ) (wb : BitVec 32) (g : Fin 2048 → EReal) (p : Fin 2048) : EReal :=
  Ideal.div (pooled w g p) (FloatOps.sitofp (F := Ideal) .f32 (count wb p)) - g p

theorem count_ne (wb : BitVec 32) (hw : wb = 2#32 ∨ wb = 4#32 ∨ wb = 8#32 ∨ wb = 16#32) (p : Fin 2048) :
    FloatOps.sitofp (F := Ideal) .f32 (count wb p) ≠ (0 : EReal) := by
  have h : (count wb p).toInt ≠ 0 := by
    rcases hw with rfl | rfl | rfl | rfl <;> (revert p; decide +kernel)
  show (((count wb p).toInt : ℝ) : EReal) ≠ 0
  rw [← EReal.coe_zero]
  exact fun e => h (by exact_mod_cast EReal.coe_injective e)

/-- The sum by doubling over rows of which sixteen lie before the block's first. -/
theorem win_pooled (Y : Fin 272 → EReal) (g : Fin 2048 → EReal) (p : Fin 2048) (a : Fin 256) (w : ℕ) (hw : w ≤ 16)
    (hY : ∀ m, m ≤ 16 → ∀ r : Fin 272, r.val = 16 + a.val - m →
      Y r = if h : m ≤ p.val then g ⟨p.val - m, by have := p.isLt; omega⟩ else 0) :
    win Y w ⟨16 + a.val, by have := a.isLt; omega⟩ = pooled w g p := by
  refine Finset.sum_congr rfl fun m hm => ?_
  have := Finset.mem_range.1 hm
  rw [hY m (by omega) _ rfl]
  by_cases h : m ≤ p.val
  · rw [dif_pos h, if_pos h]
  · rw [dif_neg h, if_neg h]

end Cert.Mix
-- ==== Proof.Pool.lean ====
module

public import proofs.«01_k».proof.Proof.Gen.Kernel5Ideal.Skeleton
public import Idealize.ShloMosaic.Lib.Pipeline.ValueKit
public import Idealize.ShloMosaic.Lib.Pointwise
public import Idealize.ShloMosaic.Lib.Claim
public import Idealize.ShloMosaic.Lib.Ring
public import proofs.«01_k».proof.Proof.PoolMath

@[expose] public section

set_option maxRecDepth 16384

/-!
# A mean over the last positions: what one step computes

A step has 256 rows in hand and the 16 before them. Each of the four groups of 128 columns sums the last 2, 4, 8 or 16
rows by doubling: each row and the one before it, those sums and the ones two before them, and so on.
-/

noncomputable section

namespace Cert.Kernel5Ideal.Mix

open Cert.Mix Cert.Kernel5Ideal Cert.Kernel5Ideal.Gen Idealize.ShloMosaic Idealize.ShloMosaic.TcCoe

/-- Column `d` of group `g`. -/
def lanes (g : Fin 4) (d : Fin 128) : Fin 512 := ⟨g.val * 128 + d.val, by omega⟩

/-- A column of a group. -/
def colOf (X : FVec Ideal S272x512 .f32) (g : Fin 4) (d : Fin 128) (r : Fin 272) : EReal := X (ix2 r (lanes g d))

/-- Rows with the ones some rows before them added. -/
def step (k : BitVec 32) (Z : FVec Ideal S272x128 .f32) : FVec Ideal S272x128 .f32 :=
  addf Z (dynamicRotate 0 k none Z rotates_S272x128_d0)

theorem step1_at (Z : FVec Ideal S272x128 .f32) (r : Fin 272) (d : Fin 128) :
    step 1#32 Z (ix2 r d) = roll (fun r => Z (ix2 r d)) 1 r := by pointwise [step, roll]

theorem step2_at (Z : FVec Ideal S272x128 .f32) (r : Fin 272) (d : Fin 128) :
    step 2#32 Z (ix2 r d) = roll (fun r => Z (ix2 r d)) 2 r := by pointwise [step, roll]

theorem step4_at (Z : FVec Ideal S272x128 .f32) (r : Fin 272) (d : Fin 128) :
    step 4#32 Z (ix2 r d) = roll (fun r => Z (ix2 r d)) 4 r := by pointwise [step, roll]

theorem step8_at (Z : FVec Ideal S272x128 .f32) (r : Fin 272) (d : Fin 128) :
    step 8#32 Z (ix2 r d) = roll (fun r => Z (ix2 r d)) 8 r := by pointwise [step, roll]

/-- The sums of two rows. -/
theorem sums2 (Z : FVec Ideal S272x128 .f32) (d : Fin 128) (r : Fin 272) (hr : 2 ≤ r.val + 1) :
    step 1#32 Z (ix2 r d) = win (fun r => Z (ix2 r d)) 2 r := by
  rw [step1_at]
  exact roll_win _ _ 1 (by omega) (fun r _ => win_one _ r) r hr

/-- The sums of four rows. -/
theorem sums4 (Z : FVec Ideal S272x128 .f32) (d : Fin 128) (r : Fin 272) (hr : 4 ≤ r.val + 1) :
    step 2#32 (step 1#32 Z) (ix2 r d) = win (fun r => Z (ix2 r d)) 4 r := by
  rw [step2_at]
  exact roll_win _ _ 2 (by omega) (fun r h => sums2 Z d r h) r hr

/-- The sums of eight rows. -/
theorem sums8 (Z : FVec Ideal S272x128 .f32) (d : Fin 128) (r : Fin 272) (hr : 8 ≤ r.val + 1) :
    step 4#32 (step 2#32 (step 1#32 Z)) (ix2 r d) = win (fun r => Z (ix2 r d)) 8 r := by
  rw [step4_at]
  exact roll_win _ _ 4 (by omega) (fun r h => sums4 Z d r h) r hr

/-- The sums of sixteen rows. -/
theorem sums16 (Z : FVec Ideal S272x128 .f32) (d : Fin 128) (r : Fin 272) (hr : 16 ≤ r.val + 1) :
    step 8#32 (step 4#32 (step 2#32 (step 1#32 Z))) (ix2 r d) = win (fun r => Z (ix2 r d)) 16 r := by
  rw [step8_at]
  exact roll_win _ _ 8 (by omega) (fun r h => sums8 Z d r h) r hr

/-- The mean less the row itself, from the sums. -/
def piece (w : BitVec 32) (v : IVec S256x1 32) (Z S : FVec Ideal S272x128 .f32) : FVec Ideal S256x128 .bf16 :=
  truncf .bf16 (subf (mulf (extractStridedSlice S256x128 ![16, 0] S slices_S272x128_o16_0_S256x128)
      (broadcastTo S256x128 (divf (broadcast S256x1 (Scalar.ofBits (F := Ideal) .f32 0x3F800000#32))
        (sitofp .f32 (minsi (addi v (broadcast S256x1 1#32)) (broadcast S256x1 w)))) broadcasts_S256x1_S256x128))
    (extractStridedSlice S256x128 ![16, 0] Z slices_S272x128_o16_0_S256x128)) bitsLt_bf16_f32

theorem piece_at (w : BitVec 32) (v : IVec S256x1 32) (Z S : FVec Ideal S272x128 .f32) (a : Fin 256) (d : Fin 128) :
    piece w v Z S (ix2 a d)
      = S (ix2 ⟨16 + a.val, by omega⟩ d) * Ideal.div 1 (FloatOps.sitofp (F := Ideal) .f32 (IntOp.minsi (v (ix2 a 0) + 1#32) w))
        - Z (ix2 ⟨16 + a.val, by omega⟩ d) := by
  pointwise [piece]
  rfl

/-- The rows a step has in hand are a sequence's, up to its row `p` at the step's row `a`. -/
def Rows (Y : Fin 272 → EReal) (f : Fin 2048 → EReal) (p : Fin 2048) (a : Fin 256) : Prop :=
  ∀ m, m ≤ 16 → ∀ r : Fin 272, r.val = 16 + a.val - m →
    Y r = if h : m ≤ p.val then f ⟨p.val - m, by have := p.isLt; omega⟩ else 0

theorem mean_at (w : ℕ) (hw : w ≤ 16) (wb : BitVec 32) (hwb : wb = 2#32 ∨ wb = 4#32 ∨ wb = 8#32 ∨ wb = 16#32)
    (v : IVec S256x1 32) (Z S : FVec Ideal S272x128 .f32) (a : Fin 256) (d : Fin 128) (f : Fin 2048 → EReal) (p : Fin 2048)
    (hv : v (ix2 a 0) = BitVec.ofNat 32 p.val) (hY : Rows (fun r => Z (ix2 r d)) f p a)
    (hS : ∀ r : Fin 272, w ≤ r.val + 1 → S (ix2 r d) = win (fun r => Z (ix2 r d)) w r) :
    piece wb v Z S (ix2 a d) = excess w wb f p := by
  rw [piece_at, hS _ (by simp only; omega), win_pooled _ f p a w hw hY, hv]
  refine congrArg₂ (· - ·) ?_ ?_
  · exact mul_div_one _ _ (count_ne wb hwb p)
  · have := hY 0 (by omega) ⟨16 + a.val, by omega⟩ rfl
    rw [dif_pos (Nat.zero_le _)] at this
    exact this

/-! ## The four groups -/

section

variable (X : FVec Ideal S272x512 .f32) (v : IVec S256x1 32) (a : Fin 256) (d : Fin 128) (f : Fin 2048 → EReal) (p : Fin 2048)
  (hv : v (ix2 a 0) = BitVec.ofNat 32 p.val)

theorem slice0_at (r : Fin 272) : extractStridedSlice S272x128 ![0, 0] X slices_S272x512_o0_0_S272x128 (ix2 r d) = colOf X 0 d r := by
  pointwise [colOf, lanes]

theorem slice1_at (r : Fin 272) : extractStridedSlice S272x128 ![0, 128] X slices_S272x512_o0_128_S272x128 (ix2 r d) = colOf X 1 d r := by
  pointwise [colOf, lanes]

theorem slice2_at (r : Fin 272) : extractStridedSlice S272x128 ![0, 256] X slices_S272x512_o0_256_S272x128 (ix2 r d) = colOf X 2 d r := by
  pointwise [colOf, lanes]

theorem slice3_at (r : Fin 272) : k0_pay59 (F := Ideal) X (ix2 r d) = colOf X 3 d r := by
  pointwise [k0_pay59, colOf, lanes]

include hv

theorem group1_at (hY : Rows (colOf X 1 d) f p a) : k0_pay55 (F := Ideal) X v (ix2 a d) = excess 4 4#32 f p :=
  mean_at 4 (by omega) 4#32 (by simp) v _ (step 2#32 (step 1#32 _)) a d f p hv
    (by rw [show (fun r => _) = colOf X 1 d from funext fun r => slice1_at X d r]; exact hY) (fun r h => sums4 _ d r h)

theorem group2_at (hY : Rows (colOf X 2 d) f p a) : k0_pay57 (F := Ideal) X v (ix2 a d) = excess 8 8#32 f p :=
  mean_at 8 (by omega) 8#32 (by simp) v _ (step 4#32 (step 2#32 (step 1#32 _))) a d f p hv
    (by rw [show (fun r => _) = colOf X 2 d from funext fun r => slice2_at X d r]; exact hY) (fun r h => sums8 _ d r h)

theorem group3_at (hY : Rows (colOf X 3 d) f p a) :
    k0_pay1 (F := Ideal) v (k0_pay59 X) (k0_pay60 X) (ix2 a d) = excess 16 16#32 f p :=
  mean_at 16 (by omega) 16#32 (by simp) v (k0_pay59 X) (step 8#32 (step 4#32 (step 2#32 (step 1#32 (k0_pay59 X))))) a d f p hv
    (by rw [show (fun r => _) = colOf X 3 d from funext fun r => slice3_at X d r]; exact hY) (fun r h => sums16 _ d r h)

end

theorem group0_at (arg0 v485 : BitVec 32) (h : Vec Ideal S16x512 .f32) (u : Vec Ideal S256x512 .f32) (a : Fin 256) (d : Fin 128)
    (f : Fin 2048 → EReal) (p : Fin 2048) (hv : k0_pay52 arg0 (ix2 a 0) = BitVec.ofNat 32 p.val)
    (hY : Rows (colOf (k0_pay51 v485 h u) 0 d) f p a) : k0_pay53 (F := Ideal) arg0 v485 h u (ix2 a d) = excess 2 2#32 f p :=
  mean_at 2 (by omega) 2#32 (by simp) (k0_pay52 arg0) _ (step 1#32 _) a d f p hv
    (by rw [show (fun r => _) = colOf (k0_pay51 v485 h u) 0 d from funext fun r => slice0_at _ d r]; exact hY)
    (fun r h => sums2 _ d r h)

/-! ## The products -/

section

variable (D : FVec Ideal S256x128 .bf16) (X : FVec Ideal S272x512 .f32) (v : IVec S256x1 32) (w : Vec Ideal S1x128x128 .f32)
  (s : Vec Ideal S1x128 .f32) (a : Fin 256) (d : Fin 128)

theorem out0_at : k0_pay54 (F := Ideal) D w s (ix2 a d) = (∑ x : Fin 128, D (ix2 a x) * w (ix3 0 x d)) * s (ix2 0 d) := by
  pointwise [k0_pay54]

theorem out1_at : k0_pay56 (F := Ideal) X v w s (ix2 a d) = (∑ x : Fin 128, k0_pay55 X v (ix2 a x) * w (ix3 0 x d)) * s (ix2 0 d) := by
  pointwise [k0_pay56]

theorem out2_at : k0_pay58 (F := Ideal) X v w s (ix2 a d) = (∑ x : Fin 128, k0_pay57 X v (ix2 a x) * w (ix3 0 x d)) * s (ix2 0 d) := by
  pointwise [k0_pay58]

theorem out3_at (Z S : FVec Ideal S272x128 .f32) :
    k0_pay2 (F := Ideal) v Z S w s (ix2 a d) = (∑ x : Fin 128, k0_pay1 v Z S (ix2 a x) * w (ix3 0 x d)) * s (ix2 0 d) := by
  pointwise [k0_pay2]

end

/-! ## Positions and rows -/

theorem where_at (n : Fin 16) (a : Fin 256) :
    k0_pay52 (BitVec.ofNat 32 n.val) (ix2 a 0) = BitVec.ofNat 32 (n.val % 8 * 256 + a.val) := by
  pointwise [k0_pay52]
  revert a n
  decide +kernel

theorem rows_at (c : BitVec 32) (h : Vec Ideal S16x512 .f32) (u : Vec Ideal S256x512 .f32) (g : Fin 4) (d : Fin 128) (r : Fin 272) :
    colOf (k0_pay51 (F := Ideal) c h u) g d r
      = if hr : r.val < 16 then Scalar.select (Scalar.cmpi CmpIPredicate.eq c 0#32) 0 (h (ix2 ⟨r.val, hr⟩ (lanes g d)))
        else u (ix2 ⟨r.val - 16, by omega⟩ (lanes g d)) := by
  unfold colOf
  pointwise [k0_pay51]

end Cert.Kernel5Ideal.Mix
-- ==== Proof.Attn.lean ====
module

public import proofs.«01_k».proof.Proof.Gen.Kernel5Ideal.Skeleton
public import Idealize.ShloMosaic.Lib.Pipeline.ValueKit
public import Idealize.ShloMosaic.Lib.Pointwise
public import Idealize.ShloMosaic.Lib.Claim
public import Idealize.ShloMosaic.Lib.Ring
public import proofs.«01_k».proof.Proof.AttnMath

@[expose] public section

set_option maxRecDepth 16384

/-!
# Attention over a window with a sink: what the kernel's values are

A step has a block of 128 rows of each of two examples in hand, with the keys and the values of the block and of the
block before it. It lays the four query heads that share a key head under one another, 512 rows: row `st g r` is row
`r` of the `g`-th of them. A row of 128 lanes holds two heads of 64.
-/

noncomputable section

namespace Cert.Kernel5Ideal.Mix

open Cert.Mix Cert.Kernel5Ideal Cert.Kernel5Ideal.Gen Idealize.ShloMosaic Idealize.ShloMosaic.TcCoe

/-- Row `r` of the `g`-th head in the stack. -/
def st (g : Fin 4) (r : Fin 128) : Fin 512 := ⟨g.val * 128 + r.val, by omega⟩

/-- Lane `d` of the `e`-th head in a row of two. -/
def lane (e : Fin 2) (d : Fin 64) : Fin 128 := ⟨e.val * 64 + d.val, by omega⟩

/-- The four heads of a group, pair by pair. -/
def hd (j e : Fin 2) : Fin 4 := ⟨j.val * 2 + e.val, by omega⟩

/-! ## Queries, keys, values -/

theorem below (e : Fin 2) (d : Fin 64) :
    IntOp.cmpi CmpIPredicate.slt (BitVec.ofNat 32 (lane e d).val) 64#32 = if e = 0 then 1#1 else 0#1 := by
  revert e d; decide +kernel

/-- The lane half a row further on. -/
def rot (l : Fin 128) : Fin 128 := ⟨(l.val + 128 - 64) % 128, by omega⟩

theorem rot_lane (e : Fin 2) (d : Fin 64) : rot (lane e d) = lane (1 - e) d := by revert e d; decide +kernel

section
variable (x y : FVec Ideal S128x128 .bf16) (r l : Fin 128)
theorem stack0_0 : k0_pay7 (F := Ideal) k0_pay4 x y (ix2 (st 0 r) l)
    = Scalar.select (IntOp.cmpi CmpIPredicate.slt (BitVec.ofNat 32 l.val) 64#32) (x (ix2 r l)) (0 : EReal) := by
  pointwise [k0_pay7, k0_pay4]
  rw [dif_pos (by simp [st])]
  congr 2; blk_ext [st]
theorem stack0_1 : k0_pay7 (F := Ideal) k0_pay4 x y (ix2 (st 1 r) l)
    = Scalar.select (IntOp.cmpi CmpIPredicate.slt (BitVec.ofNat 32 l.val) 64#32) (x (ix2 r (rot l))) (0 : EReal) := by
  pointwise [k0_pay7, k0_pay4]
  rw [dif_neg (by simp [st]), dif_pos (by simp [st])]
  congr 2; blk_ext [st, rot]
theorem stack0_2 : k0_pay7 (F := Ideal) k0_pay4 x y (ix2 (st 2 r) l)
    = Scalar.select (IntOp.cmpi CmpIPredicate.slt (BitVec.ofNat 32 l.val) 64#32) (y (ix2 r l)) (0 : EReal) := by
  pointwise [k0_pay7, k0_pay4]
  rw [dif_neg (by simp [st]; omega), dif_neg (by simp [st]; omega), dif_pos (by simp [st]; omega)]
  congr 2; blk_ext [st]
theorem stack0_3 : k0_pay7 (F := Ideal) k0_pay4 x y (ix2 (st 3 r) l)
    = Scalar.select (IntOp.cmpi CmpIPredicate.slt (BitVec.ofNat 32 l.val) 64#32) (y (ix2 r (rot l))) (0 : EReal) := by
  pointwise [k0_pay7, k0_pay4]
  rw [dif_neg (by simp [st]; omega), dif_neg (by simp [st]; omega), dif_neg (by simp [st]; omega)]
  congr 2; blk_ext [st, rot]
theorem stack1_0 : k0_pay42 (F := Ideal) k0_pay4 x y (ix2 (st 0 r) l)
    = Scalar.select (IntOp.xori (IntOp.cmpi CmpIPredicate.slt (BitVec.ofNat 32 l.val) 64#32) 1#1) (x (ix2 r (rot l))) (0 : EReal) := by
  pointwise [k0_pay42, k0_pay4]
  rw [dif_pos (by simp [st])]
  congr 2; blk_ext [st, rot]
theorem stack1_1 : k0_pay42 (F := Ideal) k0_pay4 x y (ix2 (st 1 r) l)
    = Scalar.select (IntOp.xori (IntOp.cmpi CmpIPredicate.slt (BitVec.ofNat 32 l.val) 64#32) 1#1) (x (ix2 r l)) (0 : EReal) := by
  pointwise [k0_pay42, k0_pay4]
  rw [dif_neg (by simp [st]), dif_pos (by simp [st])]
  congr 2; blk_ext [st]
theorem stack1_2 : k0_pay42 (F := Ideal) k0_pay4 x y (ix2 (st 2 r) l)
    = Scalar.select (IntOp.xori (IntOp.cmpi CmpIPredicate.slt (BitVec.ofNat 32 l.val) 64#32) 1#1) (y (ix2 r (rot l))) (0 : EReal) := by
  pointwise [k0_pay42, k0_pay4]
  rw [dif_neg (by simp [st]; omega), dif_neg (by simp [st]; omega), dif_pos (by simp [st]; omega)]
  congr 2; blk_ext [st, rot]
theorem stack1_3 : k0_pay42 (F := Ideal) k0_pay4 x y (ix2 (st 3 r) l)
    = Scalar.select (IntOp.xori (IntOp.cmpi CmpIPredicate.slt (BitVec.ofNat 32 l.val) 64#32) 1#1) (y (ix2 r l)) (0 : EReal) := by
  pointwise [k0_pay42, k0_pay4]
  rw [dif_neg (by simp [st]; omega), dif_neg (by simp [st]; omega), dif_neg (by simp [st]; omega)]
  congr 2; blk_ext [st]
end

/-- The rows laid under one another for key head 0 carry their head in the lanes of key head 0, zeros elsewhere. -/
theorem stack0 (x y : FVec Ideal S128x128 .bf16) (j e h : Fin 2) (r : Fin 128) (d : Fin 64) :
    k0_pay7 (F := Ideal) k0_pay4 x y (ix2 (st (hd j e) r) (lane h d))
      = if h = 0 then (if j = 0 then x else y) (ix2 r (lane e d)) else (0 : EReal) := by
  match j, e, h with
  | 0, 0, 0 => exact (stack0_0 x y r _).trans (by rw [below]; rfl)
  | 0, 0, 1 => exact (stack0_0 x y r _).trans (by rw [below]; rfl)
  | 0, 1, 0 => exact (stack0_1 x y r _).trans (by rw [below, rot_lane]; rfl)
  | 0, 1, 1 => exact (stack0_1 x y r _).trans (by rw [below]; rfl)
  | 1, 0, 0 => exact (stack0_2 x y r _).trans (by rw [below]; rfl)
  | 1, 0, 1 => exact (stack0_2 x y r _).trans (by rw [below]; rfl)
  | 1, 1, 0 => exact (stack0_3 x y r _).trans (by rw [below, rot_lane]; rfl)
  | 1, 1, 1 => exact (stack0_3 x y r _).trans (by rw [below]; rfl)

theorem stack1 (x y : FVec Ideal S128x128 .bf16) (j e h : Fin 2) (r : Fin 128) (d : Fin 64) :
    k0_pay42 (F := Ideal) k0_pay4 x y (ix2 (st (hd j e) r) (lane h d))
      = if h = 1 then (if j = 0 then x else y) (ix2 r (lane e d)) else (0 : EReal) := by
  match j, e, h with
  | 0, 0, 0 => exact (stack1_0 x y r _).trans (by rw [below]; rfl)
  | 0, 0, 1 => exact (stack1_0 x y r _).trans (by rw [below, rot_lane]; rfl)
  | 0, 1, 0 => exact (stack1_1 x y r _).trans (by rw [below]; rfl)
  | 0, 1, 1 => exact (stack1_1 x y r _).trans (by rw [below]; rfl)
  | 1, 0, 0 => exact (stack1_2 x y r _).trans (by rw [below]; rfl)
  | 1, 0, 1 => exact (stack1_2 x y r _).trans (by rw [below, rot_lane]; rfl)
  | 1, 1, 0 => exact (stack1_3 x y r _).trans (by rw [below]; rfl)
  | 1, 1, 1 => exact (stack1_3 x y r _).trans (by rw [below]; rfl)

theorem pay14_at {vv : FVec Ideal S256x128 .bf16} {snk mx : FVec Ideal S512x1 .f32} {sc mb : FVec Ideal S512x256 .f32}
    {L : Fin 512 → Fin 256 → EReal} {s : Fin 512 → EReal}
    (hs : ∀ a, snk (ix2 a 0) = s a) (hm : ∀ a, mx (ix2 a 0) = top (L a) (s a))
    (hsc : ∀ a c, sc (ix2 a c) = L a c) (hmb : ∀ a c, mb (ix2 a c) = top (L a) (s a)) (a : Fin 512) (d : Fin 128) :
    k0_pay14 vv snk sc mx mb (ix2 a d) = attn (L a) (s a) fun c => vv (ix2 c d) := by
  pointwise [k0_pay14, hs, hm, hsc, hmb, attn]

theorem low : Ideal.ofBits FTy.f32 4286578688#32 = ⊥ := by simp [Ideal.ofBits, Ideal.ieee]

theorem pay12_at (valid : IVec S512x256 1) (kk : FVec Ideal S256x128 .bf16) (qs : FVec Ideal S512x128 .bf16) (c128 y : BitVec 32)
    (i z w : IVec S512x1 32) (e1 e2 e3 e4) (a : Fin 512) :
    k0_pay12 valid kk qs i c128 z w y e1 e2 e3 e4 (ix2 a 0)
      = top (fun c => k0_pay11 valid kk qs (ix2 a c)) (k0_pay10 i c128 z w y e1 e2 e3 e4 (ix2 a 0)) := by
  pointwise [k0_pay12, top, low]

theorem mask_eq : (Named.named (F := Ideal) κ "mask" (φ := .f32) 0xF149F2CA#32) = (⊥ : EReal) := rfl

theorem pay11_at (valid : IVec S512x256 1) (kk : FVec Ideal S256x128 .bf16) (qs : FVec Ideal S512x128 .bf16) (a : Fin 512) (c : Fin 256) :
    k0_pay11 valid kk qs (ix2 a c)
      = Scalar.select (valid (ix2 a c)) (∑ l, qs (ix2 a l) * kk (ix2 c l)) ⊥ := by
  pointwise [k0_pay11, mask_eq]

theorem whole (a : Fin 512) : k0_pay21 (ix2 a 0) = BitVec.ofNat 32 (a.val / 128) := by
  pointwise [k0_pay21]; revert a; decide +kernel
theorem sum_lanes (f : Fin 128 → EReal) : ∑ l, f l = ∑ d, f (lane 0 d) + ∑ d, f (lane 1 d) := by
  have h : ∑ e : Fin 2, ∑ d : Fin 64, f (lane e d) = ∑ l, f l := Fin.sum_mul_add_congr (fun e d hl => rfl)
  rw [← h, Fin.sum_univ_two]

theorem row_of (a : Fin 512) : IntOp.remsi ArithUnit.vector (BitVec.ofNat 32 ↑a) 128#32 = BitVec.ofNat 32 (a.val % 128) := by
  revert a; decide +kernel

theorem later_of (n : Fin 16) : Scalar.cmpi CmpIPredicate.sgt (BitVec.ofNat 32 n.val) 0#32 = BitVec.ofBool (0 < n.val) := by
  revert n; decide +kernel

theorem valid_at (i : grid0.Coords) (g : Fin 4) (r : Fin 128) (c : Fin 256) :
    k0_pay3 i (ix2 (st g r) c) = seen (0 < (i 0).val) r c := by
  have hn : (i 0).val < 16 := (i 0).isLt
  have hl := later_of ⟨(i 0).val, hn⟩
  have hr : (st g r).val % 128 = r.val := by simp [st, Nat.mod_eq_of_lt]
  pointwise [k0_pay3]
  have e : Scalar.select (Scalar.cmpi CmpIPredicate.eq 128#32 0#32) 1#32 128#32 = 128#32 := by decide
  rw [e, row_of, hr]
  simp only at hl
  rw [hl]
  generalize decide (0 < (i 0).val) = b
  clear hl hr
  revert b r c
  decide +kernel

/-- The sinks of the four heads, each down its head's rows. -/
abbrev sinkCol (e0 e1 e2 e3 : Elt Ideal .f32) : FVec Ideal S512x1 .f32 :=
  k0_pay10 (iota .tc S512x1 32 [0] iota_S512x1_d0_w32) 128#32 k0_pay8 k0_pay9 0#32 e0 e1 e2 e3

/-- The four heads' attention, from the mask, the keys, the values, the queries and the sinks. -/
abbrev core (valid : IVec S512x256 1) (kk vv : FVec Ideal S256x128 .bf16) (qs : FVec Ideal S512x128 .bf16)
    (e0 e1 e2 e3 : Elt Ideal .f32) : FVec Ideal S512x128 .f32 :=
  k0_pay14 vv (sinkCol e0 e1 e2 e3) (k0_pay11 valid kk qs)
    (k0_pay12 valid kk qs (iota .tc S512x1 32 [0] iota_S512x1_d0_w32) 128#32 k0_pay8 k0_pay9 0#32 e0 e1 e2 e3)
    (k0_pay13 valid kk qs (iota .tc S512x1 32 [0] iota_S512x1_d0_w32) 128#32 k0_pay8 k0_pay9 0#32 e0 e1 e2 e3)

theorem pay23_core (valid kk vv qs e0 e1 e2 e3) :
    k0_pay23 (F := Ideal) valid kk vv qs k0_pay21 k0_pay22 e0 e1 e2 e3 = core valid kk vv qs e0 e1 e2 e3 := by
  sl_kernel_rfl

def sinkOf (e0 e1 e2 e3 : EReal) (g : Fin 4) : EReal :=
  match g with
  | 0 => e0
  | 1 => e1
  | 2 => e2
  | 3 => e3

theorem sinkCol_at (e0 e1 e2 e3 : EReal) (g : Fin 4) (r : Fin 128) :
    sinkCol e0 e1 e2 e3 (ix2 (st g r) 0) = sinkOf e0 e1 e2 e3 g := by
  have h : k0_pay21 (ix2 (st g r) 0) = BitVec.ofNat 32 g.val := by
    rw [whole]; congr 1; simp [st]; omega
  have h2 : sinkCol e0 e1 e2 e3 (ix2 (st g r) 0)
      = Scalar.select (IntOp.cmpi .eq (k0_pay21 (ix2 (st g r) 0)) 3#32) e3
          (Scalar.select (IntOp.cmpi .eq (k0_pay21 (ix2 (st g r) 0)) 2#32) e2
            (Scalar.select (IntOp.cmpi .eq (k0_pay21 (ix2 (st g r) 0)) 1#32) e1 e0)) := by
    pointwise [sinkCol, k0_pay10, k0_pay21, k0_pay8, k0_pay9]
  rw [h2, h]
  clear h h2
  match g with
  | 0 => exact (by rfl : sinkOf e0 e1 e2 e3 0 = _)
  | 1 => exact (by rfl : sinkOf e0 e1 e2 e3 1 = _)
  | 2 => exact (by rfl : sinkOf e0 e1 e2 e3 2 = _)
  | 3 => exact (by rfl : sinkOf e0 e1 e2 e3 3 = _)

section
variable (i : grid0.Coords) (kk vv : FVec Ideal S256x128 .bf16) (x y : FVec Ideal S128x128 .bf16) (j e : Fin 2)
  (r : Fin 128) (c : Fin 256) (d : Fin 64) (e0 e1 e2 e3 : EReal)

/-- The scores the row of head `hd j e` has on the lanes of key head `h`. -/
abbrev scores (h : Fin 2) : Fin 256 → EReal :=
  logit (seen (0 < (i 0).val) r) (fun d => (if j = 0 then x else y) (ix2 r (lane e d))) fun c d => kk (ix2 c (lane h d))

theorem score0 : k0_pay11 (k0_pay3 i) kk (k0_pay7 k0_pay4 x y) (ix2 (st (hd j e) r) c) = scores i kk x y j e r 0 c := by
  rw [pay11_at, valid_at, sum_lanes]
  simp only [stack0, if_true, one_ne_zero, if_false, zero_mul, Finset.sum_const_zero, add_zero, scores, logit]

theorem score1 : k0_pay11 (k0_pay3 i) kk (k0_pay42 k0_pay4 x y) (ix2 (st (hd j e) r) c) = scores i kk x y j e r 1 c := by
  rw [pay11_at, valid_at, sum_lanes]
  simp only [stack1, if_true, zero_ne_one, if_false, zero_mul, Finset.sum_const_zero, zero_add, scores, logit]

theorem pay13_at (valid : IVec S512x256 1) (qs : FVec Ideal S512x128 .bf16) (c128 y : BitVec 32)
    (i z w : IVec S512x1 32) (a : Fin 512) :
    k0_pay13 (F := Ideal) valid kk qs i c128 z w y e0 e1 e2 e3 (ix2 a c) = k0_pay12 valid kk qs i c128 z w y e0 e1 e2 e3 (ix2 a 0) := by
  pointwise [k0_pay13]

theorem core_at (valid : IVec S512x256 1) (qs : FVec Ideal S512x128 .bf16) (a : Fin 512) (l : Fin 128) :
    core valid kk vv qs e0 e1 e2 e3 (ix2 a l)
      = attn (fun c => k0_pay11 valid kk qs (ix2 a c)) (sinkCol e0 e1 e2 e3 (ix2 a 0)) fun c => vv (ix2 c l) :=
  pay14_at (fun a => rfl) (fun a => pay12_at ..) (fun a c => rfl) (fun a c => (pay13_at ..).trans (pay12_at ..)) a l

theorem core0 : core (k0_pay3 i) kk vv (k0_pay7 k0_pay4 x y) e0 e1 e2 e3 (ix2 (st (hd j e) r) (lane 0 d))
    = attn (scores i kk x y j e r 0) (sinkOf e0 e1 e2 e3 (hd j e)) fun c => vv (ix2 c (lane 0 d)) := by
  rw [core_at, sinkCol_at]; congr 1; funext c; exact score0 ..

theorem core1 : core (k0_pay3 i) kk vv (k0_pay42 k0_pay4 x y) e0 e1 e2 e3 (ix2 (st (hd j e) r) (lane 1 d))
    = attn (scores i kk x y j e r 1) (sinkOf e0 e1 e2 e3 (hd j e)) fun c => vv (ix2 c (lane 1 d)) := by
  rw [core_at, sinkCol_at]; congr 1; funext c; exact score1 ..
end

/-! ## The pieces a step leaves -/

section
variable (vv : FVec Ideal S256x128 .bf16) (s : FVec Ideal S512x1 .f32) (sc : FVec Ideal S512x256 .f32) (m : FVec Ideal S512x1 .f32)
  (mb : FVec Ideal S512x256 .f32) (r : Fin 128) (e : Fin 2) (d : Fin 64)

theorem pay15_at : k0_pay15 k0_pay4 vv s sc m mb (ix3 0 r (lane e d)) = k0_pay14 vv s sc m mb (ix2 (st (hd 0 e) r) (lane 0 d)) := by
  pointwise [k0_pay15, k0_pay4, below]
  match e with
  | 0 => simp only [if_true, pick1]; exact congrArg _ (by blk_ext [st, hd, lane])
  | 1 => simp only [one_ne_zero, if_false, pick0]; exact congrArg _ (by blk_ext [st, hd, lane])
theorem pay16_at : k0_pay16 k0_pay4 vv s sc m mb (ix3 0 r (lane e d)) = k0_pay14 vv s sc m mb (ix2 (st (hd 1 e) r) (lane 0 d)) := by
  pointwise [k0_pay16, k0_pay4, below]
  match e with
  | 0 => simp only [if_true, pick1]; exact congrArg _ (by blk_ext [st, hd, lane])
  | 1 => simp only [one_ne_zero, if_false, pick0]; exact congrArg _ (by blk_ext [st, hd, lane])
end

section
variable (valid : IVec S512x256 1) (kk vv : FVec Ideal S256x128 .bf16) (qs : FVec Ideal S512x128 .bf16) (e0 e1 e2 e3 : Elt Ideal .f32)
  (r : Fin 128) (e : Fin 2) (d : Fin 64)

theorem pay24_at : k0_pay26 (k0_pay24 valid k0_pay4 kk vv qs k0_pay21 k0_pay22 e0 e1 e2 e3) (ix3 0 r (lane e d))
    = core valid kk vv qs e0 e1 e2 e3 (ix2 (st (hd 0 e) r) (lane 1 d)) := by
  rw [← pay23_core]
  pointwise [k0_pay26, k0_pay24, k0_pay4, below]
  match e with
  | 0 => simp only [if_true, pick1]; exact congrArg _ (by blk_ext [st, hd, lane])
  | 1 => simp only [one_ne_zero, if_false, pick0]; exact congrArg _ (by blk_ext [st, hd, lane])
theorem pay25_at : k0_pay27 (k0_pay25 valid k0_pay4 kk vv qs k0_pay21 k0_pay22 e0 e1 e2 e3) (ix3 0 r (lane e d))
    = core valid kk vv qs e0 e1 e2 e3 (ix2 (st (hd 1 e) r) (lane 1 d)) := by
  rw [← pay23_core]
  pointwise [k0_pay27, k0_pay25, k0_pay4, below]
  match e with
  | 0 => simp only [if_true, pick1]; exact congrArg _ (by blk_ext [st, hd, lane])
  | 1 => simp only [one_ne_zero, if_false, pick0]; exact congrArg _ (by blk_ext [st, hd, lane])
end
-- ==== Proof.MixBlk.lean ====
module

public import proofs.«01_k».proof.Proof.Gen.Kernel5Ideal.Value
public import Idealize.ShloMosaic.Lib.Pipeline.ValueKit
public import Idealize.ShloMosaic.Lib.Pointwise
public import Idealize.ShloMosaic.Lib.Claim
public import Idealize.ShloMosaic.Lib.Ring
public import proofs.«01_k».proof.Proof.Pool
public import proofs.«01_k».proof.Proof.Attn

@[expose] public section

set_option maxRecDepth 16384

/-!
# The mixers' kernel: where a step's blocks stand in the arrays
-/

noncomputable section

namespace Cert.Kernel5Ideal.Mix

open Cert.Mix Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

theorem idx_val : ∀ t : Fin cfg0.N, win0_0.index t = ![0] ∧ win0_1.index t = ![0, t.val, 0]
    ∧ win0_2.index t = ![0, t.val - 1, 0] ∧ win0_3.index t = ![0, t.val, 0] ∧ win0_4.index t = ![0, t.val - 1, 0]
    ∧ win0_5.index t = ![0, t.val, 0] ∧ win0_6.index t = ![t.val, 0] ∧ win0_7.index t = ![t.val * 16 - 1, 0]
    ∧ win0_8.index t = ![0, 0, 0] ∧ win0_9.index t = ![0, 0] ∧ win0_10.index t = ![0, t.val, 0]
    ∧ win0_11.index t = ![t.val, 0] ∧ win0_12.index t = ![t.val, 0] ∧ t.val < 16 :=
  (by decide +kernel : ∀ t : Fin grid0.N, _)

theorem coord_val : ∀ t : Fin cfg0.N, (grid0.coords t 0).val = t.val := by decide +kernel

theorem lt16 (t : Fin cfg0.N) : t.val < 16 := (idx_val t).2.2.2.2.2.2.2.2.2.2.2.2.2

/-- The position of row `r` of a step's block, and of the block before. -/
def cur (t : Fin cfg0.N) (r : Fin 128) : Fin 2048 := ⟨t.val * 128 + r.val, by have := lt16 t; omega⟩
def prv (t : Fin cfg0.N) (r : Fin 128) : Fin 2048 := ⟨(t.val - 1) * 128 + r.val, by have := lt16 t; omega⟩

/-- The row of the whole array that row `a` of a step's block is. -/
def row (t : Fin cfg0.N) (a : Fin 256) : Fin 4096 := ⟨t.val * 256 + a.val, by have := lt16 t; omega⟩

theorem blk0 (c : Dev nD) (t : Fin cfg0.N) (a : Fin 8) :
    iblk m c 0 t (ix1 a) = m ((c : Thread nD τ).loc main_arg3) (ix2 0 a) := by
  blk_simp [iblk, idx_val t]
  entry_read
  pointwise
  blk_ext [idx_val t]

theorem blk1 (c : Dev nD) (t : Fin cfg0.N) (b : Fin 2) (r : Fin 128) (k : Fin 512) :
    iblk m c 1 t (ix3 b r k) = @HMul.hMul EReal EReal EReal _
      (m ((c : Thread nD τ).loc main_arg0) (ix4 b (cur t r) ⟨k.val / 64, by omega⟩ ⟨k.val % 64, by omega⟩))
      (Ideal.ofBits .f32 0x3E000000#32) := by
  blk_simp [iblk, idx_val t]
  entry_read
  pointwise
  blk_point [idx_val t, cur]

theorem blk2 (c : Dev nD) (t : Fin cfg0.N) (b : Fin 2) (r : Fin 128) (k : Fin 128) :
    iblk m c 2 t (ix3 b r k) = m ((c : Thread nD τ).loc main_arg1) (ix4 b (prv t r) ⟨k.val / 64, by omega⟩ ⟨k.val % 64, by omega⟩) := by
  blk_simp [iblk, idx_val t]
  entry_read
  pointwise
  blk_point [idx_val t, prv]

theorem blk3 (c : Dev nD) (t : Fin cfg0.N) (b : Fin 2) (r : Fin 128) (k : Fin 128) :
    iblk m c 3 t (ix3 b r k) = m ((c : Thread nD τ).loc main_arg1) (ix4 b (cur t r) ⟨k.val / 64, by omega⟩ ⟨k.val % 64, by omega⟩) := by
  blk_simp [iblk, idx_val t]
  entry_read
  pointwise
  blk_point [idx_val t, cur]

theorem blk4 (c : Dev nD) (t : Fin cfg0.N) (b : Fin 2) (r : Fin 128) (k : Fin 128) :
    iblk m c 4 t (ix3 b r k) = m ((c : Thread nD τ).loc main_arg2) (ix4 b (prv t r) ⟨k.val / 64, by omega⟩ ⟨k.val % 64, by omega⟩) := by
  blk_simp [iblk, idx_val t]
  entry_read
  pointwise
  blk_point [idx_val t, prv]

theorem blk5 (c : Dev nD) (t : Fin cfg0.N) (b : Fin 2) (r : Fin 128) (k : Fin 128) :
    iblk m c 5 t (ix3 b r k) = m ((c : Thread nD τ).loc main_arg2) (ix4 b (cur t r) ⟨k.val / 64, by omega⟩ ⟨k.val % 64, by omega⟩) := by
  blk_simp [iblk, idx_val t]
  entry_read
  pointwise
  blk_point [idx_val t, cur]

theorem blk6 (c : Dev nD) (t : Fin cfg0.N) (a : Fin 256) (k : Fin 512) :
    iblk m c 6 t (ix2 a k) = m ((c : Thread nD τ).loc main_arg4)
      (ix3 ⟨(row t a).val / 2048, by omega⟩ ⟨(row t a).val % 2048, by omega⟩ k) := by
  blk_simp [iblk, idx_val t]
  entry_read
  pointwise
  blk_point [idx_val t, row]

theorem blk7 (c : Dev nD) (t : Fin cfg0.N) (a : Fin 16) (k : Fin 512) :
    iblk m c 7 t (ix2 a k) = m ((c : Thread nD τ).loc main_arg4)
      (ix3 ⟨((t.val * 16 - 1) * 16 + a.val) / 2048, by have := lt16 t; omega⟩ ⟨((t.val * 16 - 1) * 16 + a.val) % 2048, by omega⟩ k) := by
  blk_simp [iblk, idx_val t]
  entry_read
  pointwise
  blk_point [idx_val t]

theorem blk8 (c : Dev nD) (t : Fin cfg0.N) (g : Fin 4) (a b : Fin 128) :
    iblk m c 8 t (ix3 g a b) = m ((c : Thread nD τ).loc main_arg5) (ix4 0 g a b) := by
  blk_simp [iblk, idx_val t]
  entry_read
  pointwise
  blk_ext [idx_val t]

theorem blk9 (c : Dev nD) (t : Fin cfg0.N) (k : Fin 512) :
    iblk m c 9 t (ix2 0 k) = m ((c : Thread nD τ).loc main_arg6) (ix2 0 k) := by
  blk_ext! [iblk, V, idx_val t]

theorem emb10 (t : Fin cfg0.N) (b : Fin 2) (r : Fin 128) (k : Fin 512) :
    ((cfg0.win 10).blk t).view.emb (ix3 b r k) = ix3 b (cur t r) k := by
  blk_ext [idx_val t, cur]

theorem emb11 (t : Fin cfg0.N) (a : Fin 256) (k : Fin 512) : ((cfg0.win 11).blk t).view.emb (ix2 a k) = ix2 (row t a) k := by
  blk_ext [idx_val t, row]

theorem emb12 (t : Fin cfg0.N) (a : Fin 256) (k : Fin 512) : ((cfg0.win 12).blk t).view.emb (ix2 a k) = ix2 (row t a) k := by
  blk_ext [idx_val t, row]

end Cert.Kernel5Ideal.Mix
-- ==== Proof.AttnRef.lean ====
module

public import proofs.«01_k».proof.Proof.Gen.Reference5Ideal.Read
public import Idealize.ShloMosaic.Lib.Pipeline.ValueKit
public import Idealize.ShloMosaic.Lib.Pointwise
public import Idealize.ShloMosaic.Lib.Claim
public import Idealize.ShloMosaic.Lib.Ring
public import proofs.«01_k».proof.Proof.AttnMath

@[expose] public section

set_option maxRecDepth 16384

/-!
# Attention over a window with a sink: what the reference's values are
-/

noncomputable section

namespace Cert.Reference5Ideal.Mix

open Cert.Mix Cert.Reference5Ideal Cert.Reference5Ideal.Read Idealize.ShloMosaic Idealize.ShloMosaic.TcCoe

variable (x0 : (⟨S2x2048x8x64, .f32⟩ : BufTy).Contents (Elt Ideal)) (x1 x2 : (⟨S2x2048x2x64, .f32⟩ : BufTy).Contents (Elt Ideal))
  (x3 : (⟨S1x8, .f32⟩ : BufTy).Contents (Elt Ideal)) (b : Fin 2) (n : Fin 16) (h : Fin 2) (g : Fin 4) (r : Fin 128)

/-- Row `r` of block `n`. -/
def pos (n : Fin 16) (r : Fin 128) : Fin 2048 := ⟨n.val * 128 + r.val, by omega⟩

/-- The `g`-th query head of key head `h`. -/
def head (h : Fin 2) (g : Fin 4) : Fin 8 := ⟨h.val * 4 + g.val, by omega⟩

/-- Its column `d`. -/
def col (h : Fin 2) (g : Fin 4) (d : Fin 64) : Fin 512 := ⟨(h.val * 4 + g.val) * 64 + d.val, by omega⟩

/-- The block before `n`, as far as there is one. -/
def before (n : Fin 16) : Fin 16 := ⟨n.val - 1, by omega⟩

/-- Row `c` of block `n` with the block before it in front, zeros in front of the first block. -/
def keyAt (x : (⟨S2x2048x2x64, .f32⟩ : BufTy).Contents (Elt Ideal)) (c : Fin 256) (d : Fin 64) : EReal :=
  if hc : c.val < 128 then (if n.val = 0 then 0 else x (ix4 b (pos (before n) ⟨c.val, hc⟩) h d))
  else x (ix4 b (pos n ⟨c.val - 128, by omega⟩) h d)

theorem zero_word : FloatOps.sitofp (F := Ideal) FTy.f32 (val_main_c (F := Ideal) (Shape.Idx.first Gen.h_S_)) = (0 : EReal) := by
  show (((0#32 : BitVec 32).toInt : ℝ) : EReal) = 0
  simp

theorem v6_at (c : Fin 256) (d : Fin 64) : val_main_v6 (F := Ideal) x1 (ix5 b n c h d) = keyAt b n h x1 c d := by
  pointwise [val_main_v6, val_main_v5, val_main_v4, val_main_v3, val_main_call0_v0]
  rw [keyAt]
  split_ifs with h1 h2 h3 h3
  · omega
  · rfl
  · exact zero_word
  · omega
  · rfl
  · rfl

theorem v10_at (c : Fin 256) (d : Fin 64) : val_main_v10 (F := Ideal) x2 (ix5 b n c h d) = keyAt b n h x2 c d := by
  pointwise [val_main_v10, val_main_v9, val_main_v8, val_main_v7, val_main_call1_v0]
  rw [keyAt]
  split_ifs with h1 h2 h3 h3
  · omega
  · rfl
  · exact zero_word
  · omega
  · rfl
  · rfl

theorem later_of (n : Fin 16) : IntOp.cmpi CmpIPredicate.sgt (BitVec.ofNat 32 n.val) 0#32 = BitVec.ofBool (0 < n.val) := by
  revert n; decide +kernel

theorem v43_at (c : Fin 256) : val_main_v43 (F := Ideal) (ix6 0 n 0 0 r c) = seen (0 < n.val) r c := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_c_1, val_main_c_2, val_main_c_3, val_main_c_4, val_main_c_5]
  rw [later_of]
  generalize decide (0 < n.val) = f
  revert f r c
  decide +kernel

/-- The scale of the scores. -/
abbrev scale : EReal := Ideal.ofBits .f32 0x3E000000#32

theorem scale_real : scale = ((1 / 8 : ℝ) : EReal) := by
  simp [scale, Ideal.ofBits, Ideal.ieee, -EReal.coe_mul]; norm_num

theorem low : Ideal.ofBits FTy.f32 4286578688#32 = ⊥ := by simp [Ideal.ofBits, Ideal.ieee]

/-- The scores of a row, the queries scaled first. -/
abbrev scores : Fin 256 → EReal :=
  logit (seen (0 < n.val) r) (fun d => x0 (ix4 b (pos n r) (head h g) d) * scale) (keyAt b n h x1)

section
variable (hq : ∀ i, ∃ r : ℝ, x0 i = r) (hk : ∀ i, ∃ r : ℝ, x1 i = r)
include hk

theorem keyAt_real (c : Fin 256) (d : Fin 64) : ∃ r : ℝ, keyAt b n h x1 c d = r := by
  rw [keyAt]
  split
  · split
    · exact ⟨0, rfl⟩
    · exact hk _
  · exact hk _

include hq

theorem query_real (d : Fin 64) : ∃ y : ℝ, x0 (ix4 b (pos n r) (head h g) d) * scale = y := by
  obtain ⟨y, hy⟩ := hq (ix4 b (pos n r) (head h g) d)
  exact ⟨y * (1 / 8), by rw [hy, scale_real, EReal.coe_mul]⟩

theorem v44_at (c : Fin 256) : val_main_v44 (F := Ideal) x0 x1 (ix6 b n h g r c) = scores x0 x1 b n h g r c := by
  pointwise [val_main_v44, val_main_v14, val_main_v13, val_main_cst, val_main_v12, val_main_v11, val_main_call2_v1, val_main_call2_v2,
    val_main_call2_v0, val_main_cst_6, v43_at, v6_at, val_main_v2, val_main_v0, low]
  rw [scores, logit]
  congr 1
  have e := sum_scale (w := 1 / 8) (q := fun d => x0 (ix4 b (pos n r) (head h g) d)) (fun d => hq _) (keyAt_real x1 b n h hk c)
  rw [← scale_real] at e
  exact e

theorem v47_at (c : Fin 257) : val_main_v47 (F := Ideal) x0 x1 x3 (ix6 b n h g r c)
    = withSink (scores x0 x1 b n h g r) (x3 (ix2 0 (head h g))) c := by
  pointwise [val_main_v47, val_main_v46, val_main_v45, val_main_v1]
  rw [withSink]
  by_cases hc : c.val < 256
  · rw [dif_pos hc, dif_pos hc]; exact v44_at x0 x1 b n h g r hq hk ⟨c.val, hc⟩
  · rw [dif_neg hc, dif_neg hc]; rfl

theorem v50_at : val_main_v50 (F := Ideal) x0 x1 x3 (ix5 b n h g r) = top (scores x0 x1 b n h g r) (x3 (ix2 0 (head h g))) := by
  rw [val_main_v50_apply]
  have e : val_main_v49 (F := Ideal) (ix5 b n h g r) = (⊥ : EReal) := by
    pointwise [val_main_v49, val_main_cst_8, low]
  have e2 : val_main_v48 (F := Ideal) x0 x1 x3 (ix5 b n h g r)
      = Finset.fold max ⊥ (withSink (scores x0 x1 b n h g r) (x3 (ix2 0 (head h g)))) Finset.univ := by
    unfold val_main_v48
    rw [Host.reduce_eq_fold_single _ _ _ Gen.reducesTo_S2x16x2x4x128x257_S2x16x2x4x128_d5 (by decide)]
    have e3 : val_main_cst_7 (F := Ideal) (Shape.Idx.first Gen.h_S_) = (⊥ : EReal) := low
    rw [e3]
    refine Finset.fold_congr fun c _ => ?_
    rw [← v47_at x0 x1 x3 b n h g r hq hk c]
    exact congrArg (val_main_v47 (F := Ideal) x0 x1 x3) (funext fun a => Fin.ext (by match a with | ⟨0, _⟩ => rfl | ⟨1, _⟩ => rfl | ⟨2, _⟩ => rfl | ⟨3, _⟩ => rfl | ⟨4, _⟩ => rfl | ⟨5, _⟩ => rfl))
  rw [e, e2]
  exact top_withSink _ _

theorem v59_at (c : Fin 256) : val_main_v59 (F := Ideal) x0 x1 x3 (ix6 b n h g r c)
    = Ideal.div (Ideal.exp (scores x0 x1 b n h g r c - top (scores x0 x1 b n h g r) (x3 (ix2 0 (head h g)))))
        (0 + ∑ k, Ideal.exp (withSink (scores x0 x1 b n h g r) (x3 (ix2 0 (head h g))) k
          - top (scores x0 x1 b n h g r) (x3 (ix2 0 (head h g))))) := by
  have e4 : ∀ k : Fin 257, val_main_v54 (F := Ideal) x0 x1 x3 (ix6 b n h g r k)
      = Ideal.exp (withSink (scores x0 x1 b n h g r) (x3 (ix2 0 (head h g))) k
          - top (scores x0 x1 b n h g r) (x3 (ix2 0 (head h g)))) := by
    intro k
    pointwise [val_main_v54, val_main_v53, val_main_v52, val_main_v51, v47_at x0 x1 x3 b n h g r hq hk, v50_at x0 x1 x3 b n h g r hq hk]
  have e5 : val_main_v55 (F := Ideal) x0 x1 x3 (ix5 b n h g r)
      = 0 + ∑ k, Ideal.exp (withSink (scores x0 x1 b n h g r) (x3 (ix2 0 (head h g))) k
          - top (scores x0 x1 b n h g r) (x3 (ix2 0 (head h g)))) := by
    rw [val_main_v55_apply]
    have z : val_main_cst_9 (F := Ideal) (Shape.Idx.first Gen.h_S_) = (0 : EReal) := by
      pointwise [val_main_cst_9]
    rw [z]
    congr 1
    refine Finset.sum_congr rfl fun k _ => ?_
    rw [← e4 k]
    exact congrArg (val_main_v54 (F := Ideal) x0 x1 x3) (funext fun a => Fin.ext (by match a with | ⟨0, _⟩ => rfl | ⟨1, _⟩ => rfl | ⟨2, _⟩ => rfl | ⟨3, _⟩ => rfl | ⟨4, _⟩ => rfl | ⟨5, _⟩ => rfl))
  have e6 := e4 c.castSucc
  rw [withSink_cast] at e6
  rw [← e5, ← e6]
  pointwise [val_main_v59, val_main_v58, val_main_v57, val_main_v56]
  rfl

/-- The reference's attention, row by row. -/
theorem v133_at (hs : ∀ i, ∃ r : ℝ, x3 i = r) (d : Fin 64) :
    val_main_v133 (F := Ideal) x0 x1 x2 x3 (ix3 b (pos n r) (col h g d))
      = attn (scores x0 x1 b n h g r) (x3 (ix2 0 (head h g))) fun c => keyAt b n h x2 c d := by
  obtain ⟨y, hy⟩ := hs (ix2 0 (head h g))
  rw [← attn_softmax _ _ _ (logit_ne_top (query_real x0 x1 b n h g r hq hk) (keyAt_real x1 b n h hk)) (by rw [hy]; exact EReal.coe_ne_top y) (by rw [hy]; exact EReal.coe_ne_bot y)]
  have e : val_main_v133 (F := Ideal) x0 x1 x2 x3 (ix3 b (pos n r) (col h g d)) = val_main_v61 (F := Ideal) x0 x1 x2 x3 (ix6 b n r h g d) := by
    pointwise [val_main_v133, val_main_v62]
    congr 1
    blk_ext [pos, col]
  rw [e]
  pointwise [val_main_v61, val_main_v60, v10_at, v59_at x0 x1 x3 b n h g r hq hk]
end
-- ==== Proof.MixAttn.lean ====
module

public import proofs.«01_k».proof.Proof.Gen.Kernel5Ideal.Value
public import Idealize.ShloMosaic.Lib.Pipeline.ValueKit
public import Idealize.ShloMosaic.Lib.Pointwise
public import Idealize.ShloMosaic.Lib.Claim
public import Idealize.ShloMosaic.Lib.Ring
public import proofs.«01_k».proof.Proof.Sums
public import proofs.«01_k».proof.Proof.MixBlk
public import proofs.«01_k».proof.Proof.AttnRef

@[expose] public section

set_option maxRecDepth 16384

/-!
# The mixers' kernel: the attention it leaves
-/

noncomputable section

namespace Cert.Kernel5Ideal.Mix

open Cert.Mix Cert.Kernel5Ideal Cert.Kernel5Ideal.Gen Idealize.ShloMosaic Idealize.ShloMosaic.TcCoe Idealize.SL.Sem
open Idealize.ShloMosaic.Pipeline (Dat)
open Cert.Reference5Ideal.Read (val_main_v133)

variable (m : (ℓ : Loc nD τ sig) → Buf (Elt Ideal) ℓ)

/-! ## What a step reads -/

theorem flat {α : Type} (X : S1x128x512.Idx → α) (hn) (r : Fin 128) (k : Fin 512) :
    shapeCast (s := S1x128x512) S128x512 X hn (ix2 r k) = X (ix3 0 r k) := by
  pointwise

/-- The keys, or the values, of a step: the block before's rows, then the block's own. -/
def both (X Y : Vec Ideal S1x128x128 .bf16) (c : Fin 256) (l : Fin 128) : EReal :=
  if h : c.val < 128 then X (ix3 0 ⟨c.val, h⟩ l) else Y (ix3 0 ⟨c.val - 128, by omega⟩ l)

section
variable (X Y : Vec Ideal S1x128x128 .bf16) (c : Fin 256) (l : Fin 128)

theorem pay5_at : k0_pay5 (F := Ideal) X Y (ix2 c l) = both X Y c l := by
  unfold both; pointwise [k0_pay5]
theorem pay6_at : k0_pay6 (F := Ideal) X Y (ix2 c l) = both X Y c l := by
  unfold both; pointwise [k0_pay6]
theorem pay28_at : k0_pay28 (F := Ideal) X Y (ix2 c l) = both X Y c l := by
  unfold both; pointwise [k0_pay28]
theorem pay29_at : k0_pay29 (F := Ideal) X Y (ix2 c l) = both X Y c l := by
  unfold both; pointwise [k0_pay29]
end

/-- A query read: a sequence's rows of the block, flattened, at some of their columns. -/
theorem query_at (t : Fin cfg0.N) (X : Vec Ideal S2x128x512 .bf16) (h : (ms0_1 t).IsWhole) (b : Fin 2) (o : ℕ) (r k : Fin 128) (hk : o + k.val < 512)
    (inb inb' hn) : View.ld (View.read (Elt Ideal) (((ms0_1 t).view.slice (Rect.unit (s := S2x128x512) ![b.val, 0, 0] ![1, 128, 512] inb)).reshape S128x512 hn)
      (h.unread X)) (Rect.unit (s := S128x512) ![0, o] ![128, 128] inb') (ix2 r k) = X (ix3 b r ⟨o + k.val, hk⟩) := by
  refine (congrFun (h.read_unread X) _).trans (congrArg X ?_)
  have e : (Rect.unit (s := S128x512) ![0, o] ![128, 128] inb').idx (ix2 r k) = ix2 r ⟨o + k.val, hk⟩ := by
    funext a; apply Fin.ext; refine (Rect.idx_unit_val ..).trans ?_
    fin_cases a <;> simp
  refine (congrArg (fun z => (Rect.unit (s := S2x128x512) ![b.val, 0, 0] ![1, 128, 512] inb).emb (Shape.reshapeEquiv hn z)) e).trans ?_
  refine (congrArg (Rect.unit (s := S2x128x512) ![b.val, 0, 0] ![1, 128, 512] inb).emb (flat (fun i => i) hn r ⟨o + k.val, hk⟩)).trans ?_
  funext a; apply Fin.ext; refine (ValueKit.rect_emb_unit_val ..).trans ?_
  fin_cases a <;> simp

/-- A sink read. -/
theorem sink_at (X : Vec Ideal S8 .f32) (o : ℕ) (ho : o < 8) (inb hf) :
    View.ld X (Rect.unit (s := S8) ![o] ![1] inb) (Shape.Idx.first hf) = X (ix1 ⟨o, ho⟩) := by
  refine congrArg X (funext fun a => Fin.ext ((Rect.idx_unit_val ..).trans ?_))
  fin_cases a
  rfl

theorem sinks_of (e0 e1 e2 e3 : EReal) (f : Fin 4 → EReal) (h0 : e0 = f 0) (h1 : e1 = f 1) (h2 : e2 = f 2) (h3 : e3 = f 3) (g : Fin 4) :
    sinkOf e0 e1 e2 e3 g = f g := by
  fin_cases g
  exacts [h0, h1, h2, h3]

/-! ## The pieces -/

section
variable (i : grid0.Coords) (kk vv : FVec Ideal S256x128 .bf16) (x y : FVec Ideal S128x128 .bf16) (e0 e1 e2 e3 : Elt Ideal .f32)

/-- The four heads of the first half, two by two; and of the second half. -/
abbrev low0 := k0_pay15 (F := Ideal) k0_pay4 vv (sinkCol e0 e1 e2 e3) (k0_pay11 (k0_pay3 i) kk (k0_pay7 k0_pay4 x y))
  (k0_pay12 (k0_pay3 i) kk (k0_pay7 k0_pay4 x y) (iota .tc S512x1 32 [0] iota_S512x1_d0_w32) 128#32 k0_pay8 k0_pay9 0#32 e0 e1 e2 e3)
  (k0_pay13 (k0_pay3 i) kk (k0_pay7 k0_pay4 x y) (iota .tc S512x1 32 [0] iota_S512x1_d0_w32) 128#32 k0_pay8 k0_pay9 0#32 e0 e1 e2 e3)
abbrev low1 := k0_pay16 (F := Ideal) k0_pay4 vv (sinkCol e0 e1 e2 e3) (k0_pay11 (k0_pay3 i) kk (k0_pay7 k0_pay4 x y))
  (k0_pay12 (k0_pay3 i) kk (k0_pay7 k0_pay4 x y) (iota .tc S512x1 32 [0] iota_S512x1_d0_w32) 128#32 k0_pay8 k0_pay9 0#32 e0 e1 e2 e3)
  (k0_pay13 (k0_pay3 i) kk (k0_pay7 k0_pay4 x y) (iota .tc S512x1 32 [0] iota_S512x1_d0_w32) 128#32 k0_pay8 k0_pay9 0#32 e0 e1 e2 e3)
abbrev high0 := k0_pay26 (F := Ideal) (k0_pay24 (k0_pay3 i) k0_pay4 kk vv (k0_pay42 k0_pay4 x y) k0_pay21 k0_pay22 e0 e1 e2 e3)
abbrev high1 := k0_pay27 (F := Ideal) (k0_pay25 (k0_pay3 i) k0_pay4 kk vv (k0_pay42 k0_pay4 x y) k0_pay21 k0_pay22 e0 e1 e2 e3)

theorem pay20_eq : k0_pay20 (F := Ideal) (k0_pay17 k0_pay4) (k0_pay18 x) (k0_pay19 k0_pay4 x) y = k0_pay42 k0_pay4 x y := by sl_kernel_rfl

theorem pay40_eq : k0_pay40 (F := Ideal) (k0_pay39 (k0_pay3 i) k0_pay4 kk vv (k0_pay33 k0_pay4 (k0_pay31 k0_pay4 x) (k0_pay32 k0_pay4 x) y) k0_pay34
    (k0_pay35 e0) k0_pay36 e1 e2 e3) = low0 i kk vv x y e0 e1 e2 e3 := by sl_kernel_rfl
theorem pay41_eq : k0_pay41 (F := Ideal) (k0_pay38 (k0_pay3 i) k0_pay4 kk vv (k0_pay33 k0_pay4 (k0_pay31 k0_pay4 x) (k0_pay32 k0_pay4 x) y) k0_pay34
    (k0_pay35 e0) k0_pay36 e1 e2 e3) = low1 i kk vv x y e0 e1 e2 e3 := by sl_kernel_rfl
theorem pay49_eq : k0_pay49 (F := Ideal) k0_pay4 vv (k0_pay45 (iota .tc S512x1 32 [0] iota_S512x1_d0_w32) 128#32 k0_pay43 k0_pay44 e0 e1 e2 e3)
    (k0_pay46 (k0_pay3 i) kk (k0_pay42 k0_pay4 x y)) (k0_pay47 (k0_pay3 i) kk (k0_pay42 k0_pay4 x y)) = high0 i kk vv x y e0 e1 e2 e3 := by sl_kernel_rfl
theorem pay50_eq : k0_pay50 (F := Ideal) k0_pay4 vv (k0_pay45 (iota .tc S512x1 32 [0] iota_S512x1_d0_w32) 128#32 k0_pay43 k0_pay44 e0 e1 e2 e3)
    (k0_pay46 (k0_pay3 i) kk (k0_pay42 k0_pay4 x y)) (k0_pay47 (k0_pay3 i) kk (k0_pay42 k0_pay4 x y)) = high1 i kk vv x y e0 e1 e2 e3 := by sl_kernel_rfl

variable (r : Fin 128) (e : Fin 2) (d : Fin 64)

theorem low0_at : low0 i kk vv x y e0 e1 e2 e3 (ix3 0 r (lane e d))
    = attn (scores i kk x y 0 e r 0) (sinkOf e0 e1 e2 e3 (hd 0 e)) fun c => vv (ix2 c (lane 0 d)) :=
  (pay15_at ..).trans (core0 ..)
theorem low1_at : low1 i kk vv x y e0 e1 e2 e3 (ix3 0 r (lane e d))
    = attn (scores i kk x y 1 e r 0) (sinkOf e0 e1 e2 e3 (hd 1 e)) fun c => vv (ix2 c (lane 0 d)) :=
  (pay16_at ..).trans (core0 ..)
theorem high0_at : high0 i kk vv x y e0 e1 e2 e3 (ix3 0 r (lane e d))
    = attn (scores i kk x y 0 e r 1) (sinkOf e0 e1 e2 e3 (hd 0 e)) fun c => vv (ix2 c (lane 1 d)) :=
  (pay24_at ..).trans (core1 ..)
theorem high1_at : high1 i kk vv x y e0 e1 e2 e3 (ix3 0 r (lane e d))
    = attn (scores i kk x y 1 e r 1) (sinkOf e0 e1 e2 e3 (hd 1 e)) fun c => vv (ix2 c (lane 1 d)) :=
  (pay25_at ..).trans (core1 ..)
end

/-! ## The reference's attention at a step's rows -/

/-- The block a step works on. -/
def block (t : Fin cfg0.N) : Fin 16 := ⟨t.val, lt16 t⟩

/-- Rows of the keys or values that a step has in hand, and the reference's: equal wherever the window reaches. -/
theorem both_at (t : Fin cfg0.N) (x : (⟨S2x2048x2x64, .f32⟩ : BufTy).Contents (Elt Ideal)) (b h : Fin 2) (X Y : Vec Ideal S1x128x128 .bf16)
    (hX : ∀ r k, X (ix3 0 r k) = x (ix4 b (prv t r) ⟨k.val / 64, by omega⟩ ⟨k.val % 64, by omega⟩))
    (hY : ∀ r k, Y (ix3 0 r k) = x (ix4 b (cur t r) ⟨k.val / 64, by omega⟩ ⟨k.val % 64, by omega⟩))
    (r : Fin 128) (c : Fin 256) (hc : seen (0 < t.val) r c = 1#1) (d : Fin 64) :
    both X Y c (lane h d) = Cert.Reference5Ideal.Mix.keyAt b (block t) h x c d := by
  unfold both Cert.Reference5Ideal.Mix.keyAt
  split_ifs with h1 h2
  · exfalso
    have ht : t.val = 0 := h2
    have : ¬ (128 ≤ c.val) := by omega
    simp [seen, ht, this] at hc
  · rw [hX]; exact congrArg _ (by blk_ext [prv, block, lane, Cert.Reference5Ideal.Mix.pos, Cert.Reference5Ideal.Mix.before])
  · rw [hY]; exact congrArg _ (by blk_ext [cur, block, lane, Cert.Reference5Ideal.Mix.pos])

section
variable (x0 : (⟨Cert.Reference5Ideal.S2x2048x8x64, .f32⟩ : BufTy).Contents (Elt Ideal)) (x1 x2 : (⟨Cert.Reference5Ideal.S2x2048x2x64, .f32⟩ : BufTy).Contents (Elt Ideal))
  (x3 : (⟨Cert.Reference5Ideal.S1x8, .f32⟩ : BufTy).Contents (Elt Ideal)) (hq : ∀ i, ∃ r : ℝ, x0 i = (r : EReal)) (hk : ∀ i, ∃ r : ℝ, x1 i = (r : EReal))
  (hs : ∀ i, ∃ r : ℝ, x3 i = (r : EReal))

theorem query_eq (t : Fin cfg0.N) (b h j e : Fin 2) (r : Fin 128) (x y : FVec Ideal S128x128 .bf16) (X : Vec Ideal S2x128x512 .bf16)
    (hX : ∀ k : Fin 512, X (ix3 b r k) = @HMul.hMul EReal EReal EReal _ (x0 (ix4 b (cur t r) ⟨k.val / 64, by omega⟩ ⟨k.val % 64, by omega⟩))
      (Ideal.ofBits .f32 0x3E000000#32))
    (hx : ∀ l : Fin 128, x (ix2 r l) = X (ix3 b r ⟨h.val * 256 + l.val, by omega⟩))
    (hy : ∀ l : Fin 128, y (ix2 r l) = X (ix3 b r ⟨h.val * 256 + 128 + l.val, by omega⟩)) (d : Fin 64) :
    (if j = 0 then x else y) (ix2 r (lane e d)) = @HMul.hMul EReal EReal EReal _
      (x0 (ix4 b (Cert.Reference5Ideal.Mix.pos (block t) r) (Cert.Reference5Ideal.Mix.head h (hd j e)) d)) Cert.Reference5Ideal.Mix.scale := by
  match j with
  | 0 =>
    rw [if_pos rfl, hx, hX]
    refine congrArg₂ (· * ·) (congrArg _ ?_) rfl
    blk_ext [cur, block, lane, hd, Cert.Reference5Ideal.Mix.pos, Cert.Reference5Ideal.Mix.head]
  | 1 =>
    rw [if_neg one_ne_zero, hy, hX]
    refine congrArg₂ (· * ·) (congrArg _ ?_) rfl
    blk_ext [cur, block, lane, hd, Cert.Reference5Ideal.Mix.pos, Cert.Reference5Ideal.Mix.head]

include hq hk hs in
theorem want10 (t : Fin cfg0.N) (b h j e : Fin 2) (r : Fin 128) (d : Fin 64) (k : Fin 512) (hkd : k.val = h.val * 256 + j.val * 128 + (lane e d).val) :
    val_main_v133 (F := Ideal) x0 x1 x2 x3 (ix3 b (cur t r) k)
      = attn (Cert.Reference5Ideal.Mix.scores x0 x1 b (block t) h (hd j e) r) (x3 (ix2 0 (Cert.Reference5Ideal.Mix.head h (hd j e))))
        fun c => Cert.Reference5Ideal.Mix.keyAt b (block t) h x2 c d := by
  have e1 : cur t r = Cert.Reference5Ideal.Mix.pos (block t) r := rfl
  have e2 : k = Cert.Reference5Ideal.Mix.col h (hd j e) d := Fin.ext (by simp only [hkd, lane, Cert.Reference5Ideal.Mix.col, hd]; omega)
  rw [e1, e2]
  exact Cert.Reference5Ideal.Mix.v133_at x0 x1 x2 x3 b (block t) h (hd j e) r hq hk hs d

theorem have10 (t : Fin cfg0.N) (b h j e : Fin 2) (r : Fin 128) (d : Fin 64) (K0 K1 V0 V1 : Vec Ideal S1x128x128 .bf16)
    (kk vv : FVec Ideal S256x128 .bf16) (x y : FVec Ideal S128x128 .bf16) (s s' : EReal)
    (hkk : ∀ c l, kk (ix2 c l) = both K0 K1 c l) (hvv : ∀ c l, vv (ix2 c l) = both V0 V1 c l)
    (hK0 : ∀ r k, K0 (ix3 0 r k) = x1 (ix4 b (prv t r) ⟨k.val / 64, by omega⟩ ⟨k.val % 64, by omega⟩))
    (hK1 : ∀ r k, K1 (ix3 0 r k) = x1 (ix4 b (cur t r) ⟨k.val / 64, by omega⟩ ⟨k.val % 64, by omega⟩))
    (hV0 : ∀ r k, V0 (ix3 0 r k) = x2 (ix4 b (prv t r) ⟨k.val / 64, by omega⟩ ⟨k.val % 64, by omega⟩))
    (hV1 : ∀ r k, V1 (ix3 0 r k) = x2 (ix4 b (cur t r) ⟨k.val / 64, by omega⟩ ⟨k.val % 64, by omega⟩))
    (hQ : ∀ d, (if j = 0 then x else y) (ix2 r (lane e d)) = @HMul.hMul EReal EReal EReal _
      (x0 (ix4 b (Cert.Reference5Ideal.Mix.pos (block t) r) (Cert.Reference5Ideal.Mix.head h (hd j e)) d)) Cert.Reference5Ideal.Mix.scale)
    (he : s = s') :
    attn (scores (grid0.coords t) kk x y j e r h) s (fun c => vv (ix2 c (lane h d)))
      = attn (Cert.Reference5Ideal.Mix.scores x0 x1 b (block t) h (hd j e) r) s'
        fun c => Cert.Reference5Ideal.Mix.keyAt b (block t) h x2 c d := by
  subst he
  refine Eq.trans ?_ (attn_congr (vb := seen (0 < t.val) r) (K := fun c d => kk (ix2 c (lane h d))) (v := fun c => vv (ix2 c (lane h d)))
    (fun k hk => funext fun d => (hkk ..).trans (both_at t x1 b h K0 K1 hK0 hK1 r k hk d))
    (fun k hk => (hvv ..).trans (both_at t x2 b h V0 V1 hV0 hV1 r k hk d)))
  rw [scores, coord_val, funext hQ]
end

section
variable (c : Dev nD) (hq : ∀ i, ∃ r : ℝ, m ((c : Thread nD τ).loc main_arg0) i = (r : EReal))
  (hk : ∀ i, ∃ r : ℝ, m ((c : Thread nD τ).loc main_arg1) i = (r : EReal)) (hs : ∀ i, ∃ r : ℝ, m ((c : Thread nD τ).loc main_arg3) i = (r : EReal))
include hq hk hs

theorem tile10 (t : Fin cfg0.N) (b h j : Fin 2) (r l : Fin 128) (k : Fin 512) (hkl : k.val = h.val * 256 + j.val * 128 + l.val)
    (P : Vec Ideal S1x128x128 .bf16) (K0 K1 V0 V1 : Vec Ideal S1x128x128 .bf16) (kk vv : FVec Ideal S256x128 .bf16)
    (x y : FVec Ideal S128x128 .bf16) (e0 e1 e2 e3 : EReal)
    (hP : ∀ e d, P (ix3 0 r (lane e d))
      = attn (scores (grid0.coords t) kk x y j e r h) (sinkOf e0 e1 e2 e3 (hd j e)) fun c => vv (ix2 c (lane h d)))
    (hkk : ∀ c l, kk (ix2 c l) = both K0 K1 c l) (hvv : ∀ c l, vv (ix2 c l) = both V0 V1 c l)
    (hK0 : ∀ r k, K0 (ix3 0 r k) = iblk m c 2 t (ix3 b r k)) (hK1 : ∀ r k, K1 (ix3 0 r k) = iblk m c 3 t (ix3 b r k))
    (hV0 : ∀ r k, V0 (ix3 0 r k) = iblk m c 4 t (ix3 b r k)) (hV1 : ∀ r k, V1 (ix3 0 r k) = iblk m c 5 t (ix3 b r k))
    (hx : ∀ l : Fin 128, x (ix2 r l) = iblk m c 1 t (ix3 b r ⟨h.val * 256 + l.val, by omega⟩))
    (hy : ∀ l : Fin 128, y (ix2 r l) = iblk m c 1 t (ix3 b r ⟨h.val * 256 + 128 + l.val, by omega⟩))
    (he : ∀ g : Fin 4, sinkOf e0 e1 e2 e3 g = iblk m c 0 t (ix1 ⟨h.val * 4 + g.val, by omega⟩)) :
    P (ix3 0 r l) = val_main_v133 (F := Ideal) (m ((c : Thread nD τ).loc main_arg0)) (m ((c : Thread nD τ).loc main_arg1))
      (m ((c : Thread nD τ).loc main_arg2)) (m ((c : Thread nD τ).loc main_arg3)) (ix3 b (cur t r) k) := by
  obtain ⟨e, d, rfl⟩ : ∃ (e : Fin 2) (d : Fin 64), l = lane e d :=
    ⟨⟨l.val / 64, by omega⟩, ⟨l.val % 64, by omega⟩, Fin.ext (by simp only [lane]; omega)⟩
  exact (hP e d).trans ((have10 _ _ _ t b h j e r d K0 K1 V0 V1 kk vv x y _ _ hkk hvv
    (fun r k => (hK0 r k).trans (blk2 ..)) (fun r k => (hK1 r k).trans (blk3 ..)) (fun r k => (hV0 r k).trans (blk4 ..)) (fun r k => (hV1 r k).trans (blk5 ..))
    (query_eq _ t b h j e r x y (iblk m c 1 t) (fun k => blk1 ..) hx hy) ((he _).trans (blk0 ..))).trans
    (want10 _ _ _ _ hq hk hs t b h j e r d k hkl).symm)

set_option maxHeartbeats 2000000 in
theorem final10 : (dats m 0 c).arrAt 10 (cfgs 0).N
    = val_main_v133 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  idx_vars y
  rw [emb10]
  blk_simp
  rw [after0_10]
  unfold outsAt0
  dsimp only
  frame_out
  canon_tiles x h
  all_goals idx_vars x; obtain rfl := Fin.ext h1; obtain rfl : x0 = 0 := Subsingleton.elim _ _
  · obtain rfl : y0 = 1 := Fin.ext (by simpa using h0)
    refine tile10 m c hq hk hs t 1 1 1 y1 x2 y2 (by rw [h2]; simp) _ _ _ _ _ _ _ _ _ _ _ _ _ (fun e d => (congrFun (pay50_eq ..) _).trans (high1_at ..))
      (fun c l => pay28_at ..) (fun c l => pay29_at ..) (fun r k => by pointwise) (fun r k => by pointwise) (fun r k => by pointwise) (fun r k => by pointwise)
      (fun l => query_at t _ _ 1 256 y1 l (by omega) _ _ _) (fun l => query_at t _ _ 1 384 y1 l (by omega) _ _ _)
      (sinks_of _ _ _ _ _ (sink_at _ 4 (by omega) _ _) (sink_at _ 5 (by omega) _ _) (sink_at _ 6 (by omega) _ _) (sink_at _ 7 (by omega) _ _))
  · obtain rfl : y0 = 1 := Fin.ext (by simpa using h0)
    refine tile10 m c hq hk hs t 1 1 0 y1 x2 y2 (by rw [h2]; simp) _ _ _ _ _ _ _ _ _ _ _ _ _ (fun e d => (congrFun (pay49_eq ..) _).trans (high0_at ..))
      (fun c l => pay28_at ..) (fun c l => pay29_at ..) (fun r k => by pointwise) (fun r k => by pointwise) (fun r k => by pointwise) (fun r k => by pointwise)
      (fun l => query_at t _ _ 1 256 y1 l (by omega) _ _ _) (fun l => query_at t _ _ 1 384 y1 l (by omega) _ _ _)
      (sinks_of _ _ _ _ _ (sink_at _ 4 (by omega) _ _) (sink_at _ 5 (by omega) _ _) (sink_at _ 6 (by omega) _ _) (sink_at _ 7 (by omega) _ _))
  · obtain rfl : y0 = 1 := Fin.ext (by simpa using h0)
    refine tile10 m c hq hk hs t 1 0 1 y1 x2 y2 (by rw [h2]; simp) _ _ _ _ _ _ _ _ _ _ _ _ _ (fun e d => (congrFun (pay41_eq ..) _).trans (low1_at ..))
      (fun c l => pay28_at ..) (fun c l => pay29_at ..) (fun r k => by pointwise) (fun r k => by pointwise) (fun r k => by pointwise) (fun r k => by pointwise)
      (fun l => query_at t _ _ 1 0 y1 l (by omega) _ _ _) (fun l => query_at t _ _ 1 128 y1 l (by omega) _ _ _)
      (sinks_of _ _ _ _ _ (sink_at _ 0 (by omega) _ _) (sink_at _ 1 (by omega) _ _) (sink_at _ 2 (by omega) _ _) (sink_at _ 3 (by omega) _ _))
  · obtain rfl : y0 = 1 := Fin.ext (by simpa using h0)
    refine tile10 m c hq hk hs t 1 0 0 y1 x2 y2 (by rw [h2]; simp) _ _ _ _ _ _ _ _ _ _ _ _ _ (fun e d => (congrFun (pay40_eq ..) _).trans (low0_at ..))
      (fun c l => pay28_at ..) (fun c l => pay29_at ..) (fun r k => by pointwise) (fun r k => by pointwise) (fun r k => by pointwise) (fun r k => by pointwise)
      (fun l => query_at t _ _ 1 0 y1 l (by omega) _ _ _) (fun l => query_at t _ _ 1 128 y1 l (by omega) _ _ _)
      (sinks_of _ _ _ _ _ (sink_at _ 0 (by omega) _ _) (sink_at _ 1 (by omega) _ _) (sink_at _ 2 (by omega) _ _) (sink_at _ 3 (by omega) _ _))
  · obtain rfl : y0 = 0 := Fin.ext (by simpa using h0)
    refine tile10 m c hq hk hs t 0 1 1 y1 x2 y2 (by rw [h2]; simp) _ _ _ _ _ _ _ _ _ _ _ _ _ (fun e d => high1_at ..)
      (fun c l => pay5_at ..) (fun c l => pay6_at ..) (fun r k => by pointwise) (fun r k => by pointwise) (fun r k => by pointwise) (fun r k => by pointwise)
      (fun l => query_at t _ _ 0 256 y1 l (by omega) _ _ _) (fun l => query_at t _ _ 0 384 y1 l (by omega) _ _ _)
      (sinks_of _ _ _ _ _ (sink_at _ 4 (by omega) _ _) (sink_at _ 5 (by omega) _ _) (sink_at _ 6 (by omega) _ _) (sink_at _ 7 (by omega) _ _))
  · obtain rfl : y0 = 0 := Fin.ext (by simpa using h0)
    refine tile10 m c hq hk hs t 0 1 0 y1 x2 y2 (by rw [h2]; simp) _ _ _ _ _ _ _ _ _ _ _ _ _ (fun e d => high0_at ..)
      (fun c l => pay5_at ..) (fun c l => pay6_at ..) (fun r k => by pointwise) (fun r k => by pointwise) (fun r k => by pointwise) (fun r k => by pointwise)
      (fun l => query_at t _ _ 0 256 y1 l (by omega) _ _ _) (fun l => query_at t _ _ 0 384 y1 l (by omega) _ _ _)
      (sinks_of _ _ _ _ _ (sink_at _ 4 (by omega) _ _) (sink_at _ 5 (by omega) _ _) (sink_at _ 6 (by omega) _ _) (sink_at _ 7 (by omega) _ _))
  · obtain rfl : y0 = 0 := Fin.ext (by simpa using h0)
    refine tile10 m c hq hk hs t 0 0 1 y1 x2 y2 (by rw [h2]; simp) _ _ _ _ _ _ _ _ _ _ _ _ _ (fun e d => low1_at ..)
      (fun c l => pay5_at ..) (fun c l => pay6_at ..) (fun r k => by pointwise) (fun r k => by pointwise) (fun r k => by pointwise) (fun r k => by pointwise)
      (fun l => query_at t _ _ 0 0 y1 l (by omega) _ _ _) (fun l => query_at t _ _ 0 128 y1 l (by omega) _ _ _)
      (sinks_of _ _ _ _ _ (sink_at _ 0 (by omega) _ _) (sink_at _ 1 (by omega) _ _) (sink_at _ 2 (by omega) _ _) (sink_at _ 3 (by omega) _ _))
  · obtain rfl : y0 = 0 := Fin.ext (by simpa using h0)
    refine tile10 m c hq hk hs t 0 0 0 y1 x2 y2 (by rw [h2]; simp) _ _ _ _ _ _ _ _ _ _ _ _ _ (fun e d => low0_at ..)
      (fun c l => pay5_at ..) (fun c l => pay6_at ..) (fun r k => by pointwise) (fun r k => by pointwise) (fun r k => by pointwise) (fun r k => by pointwise)
      (fun l => query_at t _ _ 0 0 y1 l (by omega) _ _ _) (fun l => query_at t _ _ 0 128 y1 l (by omega) _ _ _)
      (sinks_of _ _ _ _ _ (sink_at _ 0 (by omega) _ _) (sink_at _ 1 (by omega) _ _) (sink_at _ 2 (by omega) _ _) (sink_at _ 3 (by omega) _ _))
end

end Cert.Kernel5Ideal.Mix
-- ==== Proof.PoolRef.lean ====
module

public import proofs.«01_k».proof.Proof.Gen.Reference5Ideal.Read
public import Idealize.ShloMosaic.Lib.Pipeline.ValueKit
public import Idealize.ShloMosaic.Lib.Pointwise
public import Idealize.ShloMosaic.Lib.Claim
public import Idealize.ShloMosaic.Lib.Ring
public import proofs.«01_k».proof.Proof.PoolMath

@[expose] public section

set_option maxRecDepth 16384

/-!
# A mean over the last positions: what the reference's values are
-/

noncomputable section

namespace Cert.Reference5Ideal.Mix

open Cert.Mix Cert.Reference5Ideal Cert.Reference5Ideal.Read Idealize.ShloMosaic Idealize.ShloMosaic.TcCoe

theorem foldl_sum {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- The places of a window along the second axis. -/
def places : Fin 2048 ≃ (⟨3, ![1, 2048, 1]⟩ : Shape).Idx where
  toFun k := ix3 0 k 0
  invFun q := q 1
  left_inv _ := rfl
  right_inv q := by
    idx_vars q
    blk_ext

/-- What a window padded in front reads at its place `q`. -/
def reads (x4 : (⟨S2x2048x512, .f32⟩ : BufTy).Contents (Elt Ideal)) (j : S2x2048x512.Idx) (q : (⟨3, ![1, 2048, 1]⟩ : Shape).Idx) : EReal :=
  if h : ∀ a : Fin 3, (![0, 2047, 0] : Fin 3 → ℕ) a ≤ (j a).val * (![1, 1, 1] : Fin 3 → ℕ) a + (q a).val
      ∧ (j a).val * (![1, 1, 1] : Fin 3 → ℕ) a + (q a).val - (![0, 2047, 0] : Fin 3 → ℕ) a < S2x2048x512.size a
  then x4 (fun a => ⟨(j a).val * (![1, 1, 1] : Fin 3 → ℕ) a + (q a).val - (![0, 2047, 0] : Fin 3 → ℕ) a, (h a).2⟩) else 0

theorem fold_sum (G : (⟨3, ![1, 2048, 1]⟩ : Shape).Idx → EReal) (v : EReal) :
    (List.finRange (⟨3, ![1, 2048, 1]⟩ : Shape).numel).foldl (fun r n => r + G ((⟨3, ![1, 2048, 1]⟩ : Shape).rowMajor.symm n)) v
      = v + ∑ k : Fin 2048, G (ix3 0 k 0) := by
  rw [foldl_sum, ← Fin.sum_univ_def, Equiv.sum_comp (Shape.rowMajor ⟨3, ![1, 2048, 1]⟩).symm G, ← Equiv.sum_comp places]
  rfl

/-- The host's sum over a window padded in front is the running sum. -/
theorem running (x4 : (⟨S2x2048x512, .f32⟩ : BufTy).Contents (Elt Ideal)) (b : Fin 2) (t : Fin 2048) (c : Fin 512) :
    val_main_v63 (F := Ideal) x4 (ix3 b t c) = cum (fun i => x4 (ix3 b i c)) t := by
  have z : val_main_call3_call0_v0 (F := Ideal) (Shape.Idx.first Gen.h_S_) = (0 : EReal) := by
    pointwise [val_main_call3_call0_v0, val_main_call3_call0_cst]
  unfold val_main_v63 Host.reduceWindowAdd
  rw [z, Ideal.hostReduceWindowAdd_def]
  unfold Ideal.hostReduceWindowAdd Host.reduceWindow
  refine Eq.trans (b := (List.finRange (⟨3, ![1, 2048, 1]⟩ : Shape).numel).foldl
    (fun r n => r + reads x4 (ix3 b t c) ((⟨3, ![1, 2048, 1]⟩ : Shape).rowMajor.symm n)) 0)
    (congrArg (fun f => List.foldl f (0 : EReal) _) (funext fun r => funext fun n =>
      congrArg (r + ·) (dite_congr rfl (fun _ => rfl) (fun _ => rfl)))) ?_
  rw [fold_sum, zero_add]
  refine Finset.sum_congr rfl fun k _ => ?_
  have hb := b.isLt
  have ht := t.isLt
  have hc := c.isLt
  have hk := k.isLt
  by_cases h : 2047 ≤ t.val + k.val
  · have hh : ∀ a : Fin 3, (![0, 2047, 0] : Fin 3 → ℕ) a ≤ ((ix3 b t c : S2x2048x512.Idx) a).val * (![1, 1, 1] : Fin 3 → ℕ) a
          + ((ix3 0 k 0 : (⟨3, ![1, 2048, 1]⟩ : Shape).Idx) a).val
        ∧ ((ix3 b t c : S2x2048x512.Idx) a).val * (![1, 1, 1] : Fin 3 → ℕ) a
          + ((ix3 0 k 0 : (⟨3, ![1, 2048, 1]⟩ : Shape).Idx) a).val - (![0, 2047, 0] : Fin 3 → ℕ) a < S2x2048x512.size a := fun a =>
      match a with
      | 0 => ⟨Nat.zero_le _, by show b.val * 1 + 0 - 0 < 2; omega⟩
      | 1 => ⟨by show 2047 ≤ t.val * 1 + k.val; omega, by show t.val * 1 + k.val - 2047 < 2048; omega⟩
      | 2 => ⟨Nat.zero_le _, by show c.val * 1 + 0 - 0 < 512; omega⟩
    rw [dif_pos h, reads, dif_pos hh]
    refine congrArg x4 (funext fun a => Fin.ext ?_)
    match a with
    | 0 => show b.val * 1 + 0 - 0 = b.val; omega
    | 1 => show t.val * 1 + k.val - 2047 = t.val + k.val - 2047; omega
    | 2 => show c.val * 1 + 0 - 0 = c.val; omega
  · rw [dif_neg h, reads, dif_neg]
    intro hh
    have := (hh 1).1
    have : 2047 ≤ t.val * 1 + k.val := this
    omega

/-! ## The four groups -/

section

variable (x4 : (⟨S2x2048x512, .f32⟩ : BufTy).Contents (Elt Ideal)) (b : Fin 2) (t : Fin 2048) (d : Fin 128)

/-- Column `d` of group `g`. -/
def lanes (g : Fin 4) (d : Fin 128) : Fin 512 := ⟨g.val * 128 + d.val, by omega⟩

/-- A column of an example. -/
def colOf (g : Fin 4) (d : Fin 128) (i : Fin 2048) : EReal := x4 (ix3 b i (lanes g d))

theorem pad_word : FloatOps.sitofp (F := Ideal) FTy.f32 (0#32 : BitVec 32) = (0 : EReal) := by
  show (((0#32 : BitVec 32).toInt : ℝ) : EReal) = 0
  simp

theorem pad4 : val_main_call4_v0 (F := Ideal) (Shape.Idx.first Gen.h_S_) = (0 : EReal) := pad_word

theorem pad5 : val_main_call5_v0 (F := Ideal) (Shape.Idx.first Gen.h_S_) = (0 : EReal) := pad_word

theorem pad6 : val_main_call6_v0 (F := Ideal) (Shape.Idx.first Gen.h_S_) = (0 : EReal) := pad_word

theorem pad7 : val_main_call7_v0 (F := Ideal) (Shape.Idx.first Gen.h_S_) = (0 : EReal) := pad_word

theorem pad8 : val_main_call8_v0 (F := Ideal) (Shape.Idx.first Gen.h_S_) = (0 : EReal) := pad_word

variable (hx : ∀ i, ∃ r : ℝ, x4 i = (r : EReal))

include hx

theorem mean0_at : val_main_v78 (F := Ideal) x4 (ix3 b t d)
    = Ideal.div (pooled 2 (colOf x4 b 0 d) t) (FloatOps.sitofp (F := Ideal) .f32 (count 2#32 t)) := by
  have ht := t.isLt
  have hd := d.isLt
  have hl : (⟨d.val, by omega⟩ : Fin 512) = lanes 0 d := Fin.ext (by show d.val = 0 * 128 + d.val; omega)
  pointwise [val_main_v78, val_main_v76, val_main_v77, val_main_v75, val_main_v74, val_main_v73, val_main_v72, val_main_v71, val_main_v70, val_main_v69, val_main_v68, val_main_v67, val_main_v66, val_main_v65, val_main_v64, val_main_c_12, val_main_c_13]
  refine Eq.trans ?_ (congrArg (fun s => Ideal.div s _) (cum_sub (colOf x4 b 0 d) (fun i => hx _) 2 t))
  simp only [pad4, pad5, running, hl]
  refine congrArg₂ Ideal.div (congrArg₂ (· - ·) ?_ ?_) rfl
  · rw [dif_pos (by omega)]
    rfl
  · split_ifs <;> first
      | omega
      | rfl
      | exact congrArg (cum (colOf x4 b 0 d)) (Fin.ext (by simp only; omega))

theorem mean1_at : val_main_v91 (F := Ideal) x4 (ix3 b t d)
    = Ideal.div (pooled 4 (colOf x4 b 1 d) t) (FloatOps.sitofp (F := Ideal) .f32 (count 4#32 t)) := by
  have ht := t.isLt
  have hd := d.isLt
  have hl : (⟨128 + d.val, by omega⟩ : Fin 512) = lanes 1 d := Fin.ext (by show 128 + d.val = 1 * 128 + d.val; omega)
  pointwise [val_main_v91, val_main_v89, val_main_v90, val_main_v88, val_main_v87, val_main_v86, val_main_v85, val_main_v84,
    val_main_v83, val_main_v82, val_main_v81, val_main_v80, val_main_v79, val_main_v65, val_main_v64, val_main_c_15, val_main_c_16]
  refine Eq.trans ?_ (congrArg (fun s => Ideal.div s _) (cum_sub (colOf x4 b 1 d) (fun i => hx _) 4 t))
  simp only [pad4, pad6, running, hl]
  refine congrArg₂ Ideal.div (congrArg₂ (· - ·) ?_ ?_) rfl
  · rw [dif_pos (by omega)]
    rfl
  · split_ifs <;> first
      | omega
      | rfl
      | exact congrArg (cum (colOf x4 b 1 d)) (Fin.ext (by simp only; omega))

theorem mean2_at : val_main_v104 (F := Ideal) x4 (ix3 b t d)
    = Ideal.div (pooled 8 (colOf x4 b 2 d) t) (FloatOps.sitofp (F := Ideal) .f32 (count 8#32 t)) := by
  have ht := t.isLt
  have hd := d.isLt
  have hl : (⟨256 + d.val, by omega⟩ : Fin 512) = lanes 2 d := Fin.ext (by show 256 + d.val = 2 * 128 + d.val; omega)
  pointwise [val_main_v104, val_main_v102, val_main_v103, val_main_v101, val_main_v100, val_main_v99, val_main_v98, val_main_v97,
    val_main_v96, val_main_v95, val_main_v94, val_main_v93, val_main_v92, val_main_v65, val_main_v64, val_main_c_18, val_main_c_19]
  refine Eq.trans ?_ (congrArg (fun s => Ideal.div s _) (cum_sub (colOf x4 b 2 d) (fun i => hx _) 8 t))
  simp only [pad4, pad7, running, hl]
  refine congrArg₂ Ideal.div (congrArg₂ (· - ·) ?_ ?_) rfl
  · rw [dif_pos (by omega)]
    rfl
  · split_ifs <;> first
      | omega
      | rfl
      | exact congrArg (cum (colOf x4 b 2 d)) (Fin.ext (by simp only; omega))

theorem mean3_at : val_main_v117 (F := Ideal) x4 (ix3 b t d)
    = Ideal.div (pooled 16 (colOf x4 b 3 d) t) (FloatOps.sitofp (F := Ideal) .f32 (count 16#32 t)) := by
  have ht := t.isLt
  have hd := d.isLt
  have hl : (⟨384 + d.val, by omega⟩ : Fin 512) = lanes 3 d := Fin.ext (by show 384 + d.val = 3 * 128 + d.val; omega)
  pointwise [val_main_v117, val_main_v115, val_main_v116, val_main_v114, val_main_v113, val_main_v112, val_main_v111, val_main_v110,
    val_main_v109, val_main_v108, val_main_v107, val_main_v106, val_main_v105, val_main_v65, val_main_v64, val_main_c_21, val_main_c_22]
  refine Eq.trans ?_ (congrArg (fun s => Ideal.div s _) (cum_sub (colOf x4 b 3 d) (fun i => hx _) 16 t))
  simp only [pad4, pad8, running, hl]
  refine congrArg₂ Ideal.div (congrArg₂ (· - ·) ?_ ?_) rfl
  · rw [dif_pos (by omega)]
    rfl
  · split_ifs <;> first
      | omega
      | rfl
      | exact congrArg (cum (colOf x4 b 3 d)) (Fin.ext (by simp only; omega))

/-- The windows of the four groups. -/
def size (g : Fin 4) : ℕ := 2 ^ (g.val + 1)

theorem excess_at (R : Fin 4096) (g : Fin 4) (hR : R = ⟨b.val * 2048 + t.val, by omega⟩) :
    val_main_v124 (F := Ideal) x4 (ix4 b t g d) = excess (size g) (BitVec.ofNat 32 (size g)) (colOf x4 b g d) t := by
  have h0 := mean0_at x4 b t d hx
  have h1 := mean1_at x4 b t d hx
  have h2 := mean2_at x4 b t d hx
  have h3 := mean3_at x4 b t d hx
  pointwise [val_main_v124, val_main_v123, val_main_v122, val_main_v121, val_main_v120, val_main_v119, val_main_v118]
  refine congrArg₂ (· - ·) ?_ (congrArg x4 (by blk_ext [lanes]))
  match g with
  | 0 => exact h0
  | 1 => exact h1
  | 2 => exact h2
  | 3 => exact h3

omit hx in
theorem v135_at (g : Fin 4) : val_main_v135 (F := Ideal) x4 (ix2 ⟨b.val * 2048 + t.val, by omega⟩ (lanes g d)) = val_main_v124 (F := Ideal) x4 (ix4 b t g d) := by
  pointwise [val_main_v135, val_main_v134]
  exact congrArg _ (by blk_ext [lanes])

omit hx in
theorem v137_at (x5 : (⟨S1x4x128x128, .f32⟩ : BufTy).Contents (Elt Ideal)) (x6 : (⟨S1x512, .f32⟩ : BufTy).Contents (Elt Ideal)) (g : Fin 4) :
    val_main_v137 (F := Ideal) x4 x5 x6 (ix2 ⟨b.val * 2048 + t.val, by omega⟩ (lanes g d))
      = (∑ x : Fin 128, val_main_v124 (F := Ideal) x4 (ix4 b t g x) * x5 (ix4 0 g x d)) * x6 (ix2 0 (lanes g d)) := by
  pointwise [val_main_v137, val_main_v136, val_main_v132, val_main_v131, val_main_v130, val_main_v129, val_main_v128, val_main_v127, val_main_v126, val_main_v125]
  refine congrArg₂ (· * ·) (Finset.sum_congr rfl fun x _ => ?_) rfl
  rw [mul_comm]
  exact congrArg₂ (· * ·) (congrArg _ (by blk_ext [lanes])) (congrArg _ (by blk_ext [lanes]))

end

end Cert.Reference5Ideal.Mix
-- ==== Proof.MixPool.lean ====
module

public import proofs.«01_k».proof.Proof.Gen.Kernel5Ideal.Value
public import Idealize.ShloMosaic.Lib.Pipeline.ValueKit
public import Idealize.ShloMosaic.Lib.Pointwise
public import Idealize.ShloMosaic.Lib.Claim
public import Idealize.ShloMosaic.Lib.Ring
public import proofs.«01_k».proof.Proof.Sums
public import proofs.«01_k».proof.Proof.MixBlk
public import proofs.«01_k».proof.Proof.PoolRef

@[expose] public section

set_option maxRecDepth 16384

/-!
# The mixers' kernel: the pooled sums and their products it leaves
-/

noncomputable section

namespace Cert.Kernel5Ideal.Mix

open Cert.Mix Cert.Kernel5Ideal Cert.Kernel5Ideal.Gen Idealize.ShloMosaic Idealize.ShloMosaic.TcCoe Idealize.SL.Sem
open Idealize.ShloMosaic.Pipeline (Dat)
open Cert.Reference5Ideal.Read (val_main_v124 val_main_v135 val_main_v137)

variable (m : (ℓ : Loc nD τ sig) → Buf (Elt Ideal) ℓ)

/-- The step's number within its sequence, as the kernel computes it. -/
abbrev inSeq (i0 : BitVec 32) : BitVec 32 :=
  let q := Scalar.remsi i0 8#32
  Scalar.select (Scalar.andi (Scalar.xori (Scalar.cmpi CmpIPredicate.slt q 0#32) 0#1) (Scalar.cmpi CmpIPredicate.ne q 0#32)) (Scalar.addi q 8#32) q

theorem inSeq_of (n : Fin 16) : inSeq (BitVec.ofNat 32 n.val) = BitVec.ofNat 32 (n.val % 8) := by
  revert n; decide +kernel

theorem first_of (n : Fin 8) : Scalar.cmpi CmpIPredicate.eq (BitVec.ofNat 32 n.val) 0#32 = BitVec.ofBool (n.val = 0) := by
  revert n; decide +kernel

/-- The sequence and the place of a step's row. -/
def seq (t : Fin cfg0.N) : Fin 2 := ⟨t.val / 8, by have := lt16 t; omega⟩
def place (t : Fin cfg0.N) (a : Fin 256) : Fin 2048 := ⟨t.val % 8 * 256 + a.val, by omega⟩

theorem row_eq (t : Fin cfg0.N) (a : Fin 256) : row t a = ⟨(seq t).val * 2048 + (place t a).val, by
    have := lt16 t; simp only [seq, place]; omega⟩ :=
  Fin.ext (by simp only [row, seq, place]; omega)

/-- The rows a step has in hand, the halo's above its own. -/
abbrev inHand (c : Dev nD) (t : Fin cfg0.N) : FVec Ideal S272x512 .f32 :=
  k0_pay51 (inSeq (BitVec.ofNat 32 (grid0.coords t 0).val)) (iblk m c 7 t) (iblk m c 6 t)

theorem rows_step (c : Dev nD) (t : Fin cfg0.N) (a : Fin 256) (g : Fin 4) (d : Fin 128) :
    Rows (colOf (inHand m c t) g d) (Cert.Reference5Ideal.Mix.colOf (m ((c : Thread nD τ).loc main_arg4)) (seq t) g d) (place t a) a := by
  intro k hk r hr
  have ht := lt16 t
  have e := inSeq_of ⟨t.val, ht⟩
  simp only at e
  rw [rows_at, coord_val, e]
  have e8 := first_of ⟨t.val % 8, by omega⟩
  simp only at e8
  by_cases h : r.val < 16
  · rw [dif_pos h]
    by_cases h8 : t.val % 8 = 0
    · rw [dif_neg (by simp only [place]; omega)]
      rw [h8]; rfl
    · rw [dif_pos (by simp only [place]; omega)]
      refine Eq.trans (b := iblk m c 7 t (ix2 ⟨r.val, h⟩ (lanes g d))) ?_ ?_
      · have e' : Scalar.cmpi CmpIPredicate.eq (BitVec.ofNat 32 (t.val % 8)) 0#32 = 0#1 := by rw [e8]; simp [h8]
        erw [e']; rfl
      · rw [blk7]
        exact congrArg _ (by blk_ext [seq, place, lanes, Cert.Reference5Ideal.Mix.lanes])
  · rw [dif_neg h, dif_pos (by simp only [place]; omega), blk6]
    exact congrArg _ (by blk_ext [row, seq, place, lanes, Cert.Reference5Ideal.Mix.lanes])

section
variable (c : Dev nD) (t : Fin cfg0.N) (a : Fin 256) (d : Fin 128)

/-- The column of the pooled array that a step's rows are of. -/
abbrev column (g : Fin 4) : Fin 2048 → EReal := Cert.Reference5Ideal.Mix.colOf (m ((c : Thread nD τ).loc main_arg4)) (seq t) g d

theorem where_step : k0_pay52 (BitVec.ofNat 32 (grid0.coords t 0).val) (ix2 a 0) = BitVec.ofNat 32 (place t a).val := by
  rw [coord_val]; exact where_at ⟨t.val, lt16 t⟩ a

theorem excess0 : k0_pay53 (BitVec.ofNat 32 (grid0.coords t 0).val) (inSeq (BitVec.ofNat 32 (grid0.coords t 0).val)) (iblk m c 7 t) (iblk m c 6 t)
    (ix2 a d) = excess 2 2#32 (column m c t d 0) (place t a) :=
  group0_at _ _ _ _ a d _ _ (where_step t a) (rows_step m c t a 0 d)
theorem excess1 : k0_pay55 (inHand m c t) (k0_pay52 (BitVec.ofNat 32 (grid0.coords t 0).val)) (ix2 a d) = excess 4 4#32 (column m c t d 1) (place t a) :=
  group1_at _ _ a d _ _ (where_step t a) (rows_step m c t a 1 d)
theorem excess2 : k0_pay57 (inHand m c t) (k0_pay52 (BitVec.ofNat 32 (grid0.coords t 0).val)) (ix2 a d) = excess 8 8#32 (column m c t d 2) (place t a) :=
  group2_at _ _ a d _ _ (where_step t a) (rows_step m c t a 2 d)
theorem excess3 : k0_pay1 (k0_pay52 (BitVec.ofNat 32 (grid0.coords t 0).val)) (k0_pay59 (inHand m c t)) (k0_pay60 (inHand m c t)) (ix2 a d)
    = excess 16 16#32 (column m c t d 3) (place t a) :=
  group3_at _ _ a d _ _ (where_step t a) (rows_step m c t a 3 d)
end

section
variable (c : Dev nD) (hx : ∀ i, ∃ r : ℝ, m ((c : Thread nD τ).loc main_arg4) i = (r : EReal))
include hx

/-- The reference's pooled array at a step's row. -/
theorem want11 (t : Fin cfg0.N) (a : Fin 256) (d : Fin 128) (g : Fin 4) :
    val_main_v124 (F := Ideal) (m ((c : Thread nD τ).loc main_arg4)) (ix4 (seq t) (place t a) g d)
      = excess (Cert.Reference5Ideal.Mix.size g) (BitVec.ofNat 32 (Cert.Reference5Ideal.Mix.size g)) (column m c t d g) (place t a) :=
  Cert.Reference5Ideal.Mix.excess_at _ (seq t) (place t a) d hx _ g rfl

theorem tile11 (t : Fin cfg0.N) (a : Fin 256) (d : Fin 128) (g : Fin 4) (k : Fin 512) (hk : k.val = g.val * 128 + d.val) (X : EReal)
    (hX : X = excess (Cert.Reference5Ideal.Mix.size g) (BitVec.ofNat 32 (Cert.Reference5Ideal.Mix.size g)) (column m c t d g) (place t a)) :
    X = val_main_v135 (F := Ideal) (m ((c : Thread nD τ).loc main_arg4)) (ix2 (row t a) k) := by
  rw [row_eq, show k = Cert.Reference5Ideal.Mix.lanes g d from Fin.ext hk, Cert.Reference5Ideal.Mix.v135_at, want11 m c hx, hX]

set_option maxHeartbeats 1000000 in
theorem final11 : (dats m 0 c).arrAt 11 (cfgs 0).N = val_main_v135 (F := Ideal) (m ((c : Thread nD τ).loc main_arg4)) := by
  refine (dats m 0 c).arrAt_eq_of_covers 11 _ (by decide +kernel) fun t _ y => ?_
  idx_vars y
  rw [emb11]
  blk_simp
  rw [after0_11]
  unfold outsAt0
  dsimp only
  frame_out
  canon_tiles x h
  all_goals idx_vars x; obtain rfl := Fin.ext h0
  · exact tile11 m c hx t y0 x1 3 y1 (by rw [h1]; rfl) _ (excess3 m c t y0 x1)
  · exact tile11 m c hx t y0 x1 2 y1 (by rw [h1]; rfl) _ (excess2 m c t y0 x1)
  · exact tile11 m c hx t y0 x1 1 y1 (by rw [h1]; rfl) _ (excess1 m c t y0 x1)
  · exact tile11 m c hx t y0 x1 0 y1 (by rw [h1]; simp) _ (excess0 m c t y0 x1)

theorem tile12 (t : Fin cfg0.N) (a : Fin 256) (d : Fin 128) (g : Fin 4) (k : Fin 512) (hk : k.val = g.val * 128 + d.val) (X : EReal)
    (D : Fin 128 → EReal) (w : Vec Ideal S1x128x128 .f32) (s : Vec Ideal S1x128 .f32)
    (hX : X = (∑ x : Fin 128, D x * w (ix3 0 x d)) * s (ix2 0 d))
    (hD : ∀ x, D x = excess (Cert.Reference5Ideal.Mix.size g) (BitVec.ofNat 32 (Cert.Reference5Ideal.Mix.size g)) (column m c t x g) (place t a))
    (hw : ∀ x, w (ix3 0 x d) = iblk m c 8 t (ix3 g x d)) (hs : s (ix2 0 d) = iblk m c 9 t (ix2 0 (lanes g d))) :
    X = val_main_v137 (F := Ideal) (m ((c : Thread nD τ).loc main_arg4)) (m ((c : Thread nD τ).loc main_arg5))
      (m ((c : Thread nD τ).loc main_arg6)) (ix2 (row t a) k) := by
  rw [row_eq, show k = Cert.Reference5Ideal.Mix.lanes g d from Fin.ext hk, Cert.Reference5Ideal.Mix.v137_at, hX, hs, blk9]
  refine congrArg₂ (· * ·) (Finset.sum_congr rfl fun x _ => ?_) rfl
  rw [want11 m c hx, hD, hw, blk8]

set_option maxHeartbeats 1000000 in
theorem final12 : (dats m 0 c).arrAt 12 (cfgs 0).N = val_main_v137 (F := Ideal) (m ((c : Thread nD τ).loc main_arg4))
    (m ((c : Thread nD τ).loc main_arg5)) (m ((c : Thread nD τ).loc main_arg6)) := by
  refine (dats m 0 c).arrAt_eq_of_covers 12 _ (by decide +kernel) fun t _ y => ?_
  idx_vars y
  rw [emb12]
  blk_simp
  rw [after0_12]
  unfold outsAt0
  dsimp only
  frame_out
  canon_tiles x h
  all_goals idx_vars x; obtain rfl := Fin.ext h0
  · exact tile12 m c hx t y0 x1 3 y1 (by rw [h1]; rfl) _ _ _ _ (out3_at ..) (fun x => excess3 m c t y0 x)
      (fun x => by pointwise) (by pointwise [lanes])
  · exact tile12 m c hx t y0 x1 2 y1 (by rw [h1]; rfl) _ _ _ _ (out2_at ..) (fun x => excess2 m c t y0 x)
      (fun x => by pointwise) (by pointwise [lanes])
  · exact tile12 m c hx t y0 x1 1 y1 (by rw [h1]; rfl) _ _ _ _ (out1_at ..) (fun x => excess1 m c t y0 x)
      (fun x => by pointwise) (by pointwise [lanes])
  · exact tile12 m c hx t y0 x1 0 y1 (by rw [h1]; simp) _ _ _ _ (out0_at ..) (fun x => excess0 m c t y0 x)
      (fun x => by pointwise) (by pointwise [lanes])
end

end Cert.Kernel5Ideal.Mix
-- ==== Proof.MixBack.lean ====
module

public import proofs.«01_k».proof.Proof.Gen.Kernel2.Skeleton
public import proofs.«01_k».proof.Proof.Gen.Kernel2.Frame

@[expose] public section

set_option maxRecDepth 16384

/-!
# One step of the mixers' backward kernel

The body, from any contents of its 25 blocks and two carried buffers, runs to its end and hands all of them back.
Its three cases are the first step, a later one, and the last, which only hands the carried buffers on.
-/

noncomputable section

namespace Cert.Kernel2.MixBack

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A buffer at some contents. -/
abbrev anything (c : Dev nD) {sp : Space} {s : Shape} {e : EltTy} (a : Memref sig .tc sp s e) : sProp 𝕄 :=
  iprop(∃ d, owns (c : Thread nD τ) a fullShare d)

theorem at_some (c : Dev nD) {sp : Space} {s : Shape} {e : EltTy} (a : Memref sig .tc sp s e) {f : Buf (Elt F) (a.view.loc (c : Thread nD τ))} :
    (a.view.loc (c : Thread nD τ) ↦[a.view.set]{fullShare} f : sProp 𝕄) ⊢ anything c a := by
  unfold anything owns
  iintro H
  iexists _, f
  isplitr
  · ipureintro; rfl
  iexact H

variable (c : Dev nD) (i : grid0.Coords)
  (arg1 : Memref sig .tc .smem S8 .f32)
  (arg2 arg3 : Memref sig .tc .vmem S2x128x512 .bf16)
  (arg4 arg5 arg6 arg7 : Memref sig .tc .vmem S2x128x128 .bf16)
  (arg8 arg9 arg10 arg11 arg12 arg13 : Memref sig .tc .vmem S128x128 .f32)
  (arg14 : Memref sig .tc .vmem S256x512 .f32)
  (arg15 : Memref sig .tc .vmem S16x512 .f32)
  (arg16 : Memref sig .tc .vmem S256x512 .bf16)
  (arg17 : Memref sig .tc .vmem S4x128x128 .f32)
  (arg18 : Memref sig .tc .vmem S1x512 .f32)
  (arg19 : Memref sig .tc .vmem S2x128x512 .bf16)
  (arg20 arg21 : Memref sig .tc .vmem S2x128x128 .bf16)
  (arg22 : Memref sig .tc .vmem S8x128 .f32)
  (arg23 : Memref sig .tc .vmem S256x512 .bf16)
  (arg24 : Memref sig .tc .vmem S4x128x128 .f32)
  (arg25 : Memref sig .tc .vmem S1x512 .f32)
  (arg26 arg27 : Memref sig .tc .vmem S2x128x128 .f32)
  (harg1 : arg1.IsWhole) (harg2 : arg2.IsWhole) (harg3 : arg3.IsWhole) (harg4 : arg4.IsWhole) (harg5 : arg5.IsWhole)
  (harg6 : arg6.IsWhole) (harg7 : arg7.IsWhole) (harg8 : arg8.IsWhole) (harg9 : arg9.IsWhole) (harg10 : arg10.IsWhole)
  (harg11 : arg11.IsWhole) (harg12 : arg12.IsWhole) (harg13 : arg13.IsWhole) (harg14 : arg14.IsWhole) (harg15 : arg15.IsWhole)
  (harg16 : arg16.IsWhole) (harg17 : arg17.IsWhole) (harg18 : arg18.IsWhole) (harg19 : arg19.IsWhole) (harg20 : arg20.IsWhole)
  (harg21 : arg21.IsWhole) (harg22 : arg22.IsWhole) (harg23 : arg23.IsWhole) (harg24 : arg24.IsWhole) (harg25 : arg25.IsWhole)
  (harg26 : arg26.IsWhole) (harg27 : arg27.IsWhole)

/-- What the body is handed, and hands back. -/
abbrev Buffers : sProp 𝕄 :=
    iprop((anything c arg1 ∗ anything c arg2 ∗ anything c arg3
    ∗ anything c arg4 ∗ anything c arg5 ∗ anything c arg6
    ∗ anything c arg7 ∗ anything c arg8 ∗ anything c arg9
    ∗ anything c arg10 ∗ anything c arg11 ∗ anything c arg12
    ∗ anything c arg13 ∗ anything c arg14 ∗ anything c arg15
    ∗ anything c arg16 ∗ anything c arg17 ∗ anything c arg18
    ∗ anything c arg19 ∗ anything c arg20 ∗ anything c arg21
    ∗ anything c arg22 ∗ anything c arg23 ∗ anything c arg24
    ∗ anything c arg25)
    ∗ anything c arg26 ∗ anything c arg27)

/-- The steps: the first, a later one, the last. -/
def Step : Prop :=
  (k0_cond1 i = 1#1 ∧ k0_cond2 i = 1#1 ∧ ¬k0_cond3 i = 1#1)
    ∨ (¬k0_cond1 i = 1#1 ∧ k0_cond2 i = 1#1 ∧ ¬k0_cond3 i = 1#1)
    ∨ (¬k0_cond1 i = 1#1 ∧ ¬k0_cond2 i = 1#1 ∧ k0_cond3 i = 1#1)

set_option maxHeartbeats 6000000 in
/-- The body hands back what it is handed. -/
theorem run (h : Step i) (E : Set ℕ) (K : PUnit → sProp 𝕄) :
    iprop(Buffers c arg1 arg2 arg3 arg4 arg5 arg6 arg7 arg8 arg9 arg10 arg11 arg12 arg13 arg14 arg15 arg16 arg17 arg18 arg19 arg20 arg21 arg22 arg23 arg24 arg25 arg26 arg27 ∗ (Buffers c arg1 arg2 arg3 arg4 arg5 arg6 arg7 arg8 arg9 arg10 arg11 arg12 arg13 arg14 arg15 arg16 arg17 arg18 arg19 arg20 arg21 arg22 arg23 arg24 arg25 arg26 arg27 -∗ K ⟨⟩))
      ⊢ wp frame (wpE (defs₀ (F := F)) Variants.none c none) E (cc0_mixers_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_mixers_bwd_eq_skeleton]; unfold cc0_mixers_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold Buffers anything owns
  iintro ⟨⟨⟨⟨%x1, %f1, -, H1⟩, ⟨%x2, %f2, -, H2⟩, ⟨%x3, %f3, -, H3⟩, ⟨%x4, %f4, -, H4⟩, ⟨%x5, %f5, -, H5⟩, ⟨%x6, %f6, -, H6⟩, ⟨%x7, %f7, -, H7⟩, ⟨%x8, %f8, -, H8⟩, ⟨%x9, %f9, -, H9⟩, ⟨%x10, %f10, -, H10⟩, ⟨%x11, %f11, -, H11⟩, ⟨%x12, %f12, -, H12⟩, ⟨%x13, %f13, -, H13⟩, ⟨%x14, %f14, -, H14⟩, ⟨%x15, %f15, -, H15⟩, ⟨%x16, %f16, -, H16⟩, ⟨%x17, %f17, -, H17⟩, ⟨%x18, %f18, -, H18⟩, ⟨%x19, %f19, -, H19⟩, ⟨%x20, %f20, -, H20⟩, ⟨%x21, %f21, -, H21⟩, ⟨%x22, %f22, -, H22⟩, ⟨%x23, %f23, -, H23⟩, ⟨%x24, %f24, -, H24⟩, ⟨%x25, %f25, -, H25⟩⟩, ⟨%x26, %f26, -, H26⟩, ⟨%x27, %f27, -, H27⟩⟩, Hk⟩
  rcases h with ⟨h1, h2, h3⟩ | ⟨h1, h2, h3⟩ | ⟨h1, h2, h3⟩
  all_goals
    sl_exec (disch := first | sl_exact h1 | sl_exact h2 | sl_exact h3)
    sl_step
    iapply Hk
    isplitl [H1 H2 H3 H4 H5 H6 H7 H8 H9 H10 H11 H12 H13 H14 H15 H16 H17 H18 H19 H20 H21 H22 H23 H24 H25]; swap
    · isplitl [H26]; · iapply (at_some c arg26) $$ H26
      iapply (at_some c arg27) $$ H27
    isplitl [H1]; · iapply (at_some c arg1) $$ H1
    isplitl [H2]; · iapply (at_some c arg2) $$ H2
    isplitl [H3]; · iapply (at_some c arg3) $$ H3
    isplitl [H4]; · iapply (at_some c arg4) $$ H4
    isplitl [H5]; · iapply (at_some c arg5) $$ H5
    isplitl [H6]; · iapply (at_some c arg6) $$ H6
    isplitl [H7]; · iapply (at_some c arg7) $$ H7
    isplitl [H8]; · iapply (at_some c arg8) $$ H8
    isplitl [H9]; · iapply (at_some c arg9) $$ H9
    isplitl [H10]; · iapply (at_some c arg10) $$ H10
    isplitl [H11]; · iapply (at_some c arg11) $$ H11
    isplitl [H12]; · iapply (at_some c arg12) $$ H12
    isplitl [H13]; · iapply (at_some c arg13) $$ H13
    isplitl [H14]; · iapply (at_some c arg14) $$ H14
    isplitl [H15]; · iapply (at_some c arg15) $$ H15
    isplitl [H16]; · iapply (at_some c arg16) $$ H16
    isplitl [H17]; · iapply (at_some c arg17) $$ H17
    isplitl [H18]; · iapply (at_some c arg18) $$ H18
    isplitl [H19]; · iapply (at_some c arg19) $$ H19
    isplitl [H20]; · iapply (at_some c arg20) $$ H20
    isplitl [H21]; · iapply (at_some c arg21) $$ H21
    isplitl [H22]; · iapply (at_some c arg22) $$ H22
    isplitl [H23]; · iapply (at_some c arg23) $$ H23
    isplitl [H24]; · iapply (at_some c arg24) $$ H24
    iapply (at_some c arg25) $$ H25

end Cert.Kernel2.MixBack

end
-- ==== Proof.MixBackFrame.lean ====
module

public import proofs.«01_k».proof.Proof.MixBack
public import Idealize.ShloMosaic.Lib.Claim

@[expose] public section

set_option maxRecDepth 16384

/-!
# The mixers' backward kernel from start to end

Nothing is said of what a step leaves in its blocks: the launch's relation between what a step finds and what it
leaves holds of any two contents. An array that is only read keeps its contents all the same.
-/

noncomputable section

namespace Cert.Kernel2.MixBack

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every grid point is a first, a later or a last step. -/
theorem step (t : Fin cfg0.N) : Step (grid0.coords t) :=
  (by unfold Step; decide +kernel : ∀ t : Fin grid0.N, Step (grid0.coords t)) t

/-- The launch's data: the arrays as the launch finds them, and any contents after a step. -/
def found (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

theorem found_A (c : Dev nD) (w : Fin cfg0.W) : (found m c).A w = V m c (Pipeline.arrRef spec0 w) := by
  dsimp only [found]

/-- Between the steps: the two carried buffers, and the generator's register. -/
theorem between (c : Dev nD) :
    (Pipeline.ΦA spec0 c : sProp 𝕄)
      = iprop((anything c (Memref.whole cc0_scratch0) ∗ anything c (Memref.whole cc0_scratch1)) ∗ (∃ r, prngReg c r)) := by
  unfold Pipeline.ΦA; rw [scopedRest0_eq]; simp only [anything, owns_whole]; try rfl

theorem row (t : Fin cfg0.N) :
    defs₀ (F := F) .tc cfg0.body (cfg0.bodyArgs t (cfg0.slots t)) = bodyAt0 t := by
  unfold defs₀; rw [Defs.onTc_tc]

/-- A step, on the blocks the launch calls it with. -/
theorem at_step (c : Dev nD) (t : Fin cfg0.N) :
    iprop(Pipeline.ΦA spec0 c ∗ (found m c).owesAt () t.castSucc
        ∗ bigSep Finset.univ fun w : Fin cfg0.W => anything c ((cfg0.win w).stage (cfg0.slots t w)))
      ⊢ wp frame (wpE (defs₀ (F := F)) Variants.none c none) Set.univ (bodyAt0 t) (fun _ =>
        iprop(Pipeline.ΦA spec0 c ∗ (found m c).owesAt () t.castSucc
          ∗ bigSep Finset.univ fun w : Fin cfg0.W => anything c ((cfg0.win w).stage (cfg0.slots t w)))) := by
  rw [bigSep_W0, between]
  unfold bodyAt0
  iintro ⟨⟨S, G⟩, O, B⟩
  iapply (run c (grid0.coords t) _ _ _ _ _ _ _ _ _ _ _ _ _ _ _ _ _ _ _ _ _ _ _ _ _ _ _
    _ _ _ _ _ _ _ _ _ _ _ _ _ _ _ _ _ _ _ _ _ _ _ _ _ _ _ (step t) Set.univ _)
  isplitl [B S]
  · isplitl [B]
    · iexact B
    iexact S
  iintro ⟨B, S⟩
  isplitl [S G]
  · isplitl [S]
    · iexact S
    iexact G
  isplitl [O]
  · iexact O
  iexact B

/-- A buffer that holds what was found holds something. -/
theorem forget {sp : Space} {s : Shape} {e : EltTy} (c : Dev nD) (a : Memref sig .tc sp s e) (f) :
    (owns (c : Thread nD τ) a fullShare f : sProp 𝕄) ⊢ anything c a := by
  unfold anything
  iintro H
  iexists f
  iexact H

/-- A buffer that holds something holds what a step may leave. -/
theorem left {sp : Space} {s : Shape} {e : EltTy} (c : Dev nD) (a : Memref sig .tc sp s e) :
    anything c a ⊢ (iprop(∃ X, ⌜True⌝ ∗ owns (c : Thread nD τ) a fullShare X) : sProp 𝕄) := by
  unfold anything
  iintro ⟨%X, H⟩
  iexists X
  isplitr
  · ipureintro; trivial
  iexact H

theorem obligation (c : Dev nD) :
    (found (F := F) m c).BodyObligation (defs₀ (F := F)) Variants.none () Set.univ := fun t Y _ => by
  rw [row]
  refine triple_restated (at_step m c t) rfl ?_ fun _ => ?_
  · exact sep_mono (Entails.refl _) (sep_mono (Entails.refl _) (bigSep_mono fun w _ => forget c _ (Y w)))
  · exact sep_mono (Entails.refl _) (sep_mono (Entails.refl _) (bigSep_mono fun w _ => left c _))

/-- The three results that the lines after the launch write. -/
def written : Finset (Ref sig .tc) := {main_v167, main_v168, main_v169}

theorem writes_those : ∀ ops ∈ ([hostOps1] : List (List (HloOp τ sig (Elt F)))), ∀ op ∈ ops,
    ∀ b : Ref sig .tc, Proc.devRef .tc b ∈ op.writes → b ∈ written := by
  simp only [List.mem_singleton, forall_eq, hostOps1, List.mem_cons, List.not_mem_nil, or_false, forall_eq_or_imp]
  refine ⟨?_, ?_, ?_⟩
  all_goals
    intro b hb
    simp only [StableHlo.reshape_writes, Finset.mem_singleton] at hb
    cases Proc.devRef_injective _ hb
    decide

set_option backward.isDefEq.respectTransparency.types false in
set_option maxHeartbeats 800000 in
/-- The launch ends, with every counter at zero and every array that no step writes back as it was. -/
theorem launch : θ_run defs (onTc (τ := τ) (main (F := F))) (s₀ m ρ) (fun r =>
    RDat.FramePostR (cfgs 0) (found m) written (V m) r ∧ r.2.sem = fun _ => 0) :=
  RDat.θ_run_frame_around_T_track_shared cfgs (0 : Fin 1) launch₀0 defs₀ Variants.none (found m) written m ρ main
    (obligation m) (fun _ _ _ => rfl) (fun _ _ => rfl) (V0 m) [hostOps1] sfx_sub sfx_fresh sfx_keeps writes_those
    (hmain m Variants.none) (found_A m) (fun _ => .rfl) (fun _ => .rfl) (Q' := _)

/-- An argument that the launch does not take is as it was. -/
theorem bypassed {r : PUnit × MemSt nD τ sig (Elt F)} (h : RDat.FramePostR (cfgs 0) (found m) written (V m) r) (c : Dev nD)
    (b : Ref sig .tc) (hb : b ∈ Pipeline.restRefs sig spec0 \ written) (hV : V m c b = m ((c : Thread nD τ).loc b)) :
    r.2.mem ((c : Thread nD τ).loc b) = m ((c : Thread nD τ).loc b) :=
  ((h c).2 b hb).trans hV

/-- Every run ends, with the argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run defs _ _).mono (fun r h => ⟨fun c => ⟨bypassed m h.1 c _ ?_ (V_main_arg0 m c), bypassed m h.1 c _ ?_ (V_main_arg1 m c),
    bypassed m h.1 c _ ?_ (V_main_arg2 m c), bypassed m h.1 c _ ?_ (V_main_arg3 m c), bypassed m h.1 c _ ?_ (V_main_arg4 m c),
    bypassed m h.1 c _ ?_ (V_main_arg5 m c), ((h.1.arr_in c 17 rfl).trans (found_A m c 17)).trans (V_main_arg6 m c),
    bypassed m h.1 c _ ?_ (V_main_arg7 m c), ((h.1.arr_in c 14 rfl).trans (found_A m c 14)).trans (V_main_arg8 m c)⟩, h.2⟩) (launch m ρ)
  all_goals exact Finset.mem_sdiff.mpr ⟨Pipeline.mem_restRefs_of _ (by decide) (by decide), by decide⟩

end Cert.Kernel2.MixBack

end
-- ==== Proof.Consts.lean ====
/- The constants of the norms and of the loss that both programs carry, as real numbers. -/
module
public import Idealize.ShloMosaic.Lib.Pointwise
@[expose] public section
noncomputable section
namespace Cert.Consts
open Idealize.ShloMosaic

/-- The length of a row, 1024. -/
theorem n_eq : Ideal.ofBits .f32 0x44800000#32 = ((1024 : ℝ) : EReal) := by
  simp [Ideal.ofBits, Ideal.ieee, -EReal.coe_mul]; norm_num

/-- The small constant under the root is a positive real number. -/
theorem eps_eq : Ideal.ofBits .f32 0x358637BD#32 = (((8796093 : ℝ) / 8796093022208 : ℝ) : EReal) := by
  simp [Ideal.ofBits, Ideal.ieee, -EReal.coe_mul]; norm_num

/-- The exponent of the root, −½. -/
theorem half_eq : Ideal.ofBits .f32 0xBF000000#32 = ((-(1/2) : ℝ) : EReal) := by
  simp [Ideal.ofBits, Ideal.ieee, -EReal.coe_mul, -EReal.coe_neg]; norm_num

end Cert.Consts
-- ==== Proof.Columns.lean ====
/- Sums down the columns: a reduction over the two leading axes of a rank 3 array, and rows taken block by block. -/
module

public import Idealize.ShloMosaic.Lib.Pipeline.ValueKit
public import Idealize.ShloMosaic.Lib.Pointwise

@[expose] public section

noncomputable section

namespace Cert.Columns

open Idealize.ShloMosaic

variable {n0 n1 n2 : ℕ}

/-- The entries that a reduction over the two leading axes gathers at column `k`. -/
theorem fiber (h : (⟨3, ![n0, n1, n2]⟩ : Shape).ReducesTo [0, 1] ⟨1, ![n2]⟩) (k : Fin n2) (i : (⟨3, ![n0, n1, n2]⟩ : Shape).Idx) :
    h.drop i = ix1 k ↔ ∃ p : Fin n0 × Fin n1, ix3 p.1 p.2 k = i := by
  constructor
  · intro e
    refine ⟨(i 0, i 1), funext fun a => Fin.ext ?_⟩
    match a with
    | ⟨0, _⟩ => rfl
    | ⟨1, _⟩ => rfl
    | ⟨2, _⟩ => exact (congrArg Fin.val (congrFun e 0)).symm
  · rintro ⟨p, rfl⟩
    refine funext fun b => Fin.ext ?_
    match b with
    | ⟨0, _⟩ => rfl

theorem reduceAdd (h : (⟨3, ![n0, n1, n2]⟩ : Shape).ReducesTo [0, 1] ⟨1, ![n2]⟩) (v : (⟨3, ![n0, n1, n2]⟩ : Shape).Idx → EReal)
    (init : EReal) (k : Fin n2) : Ideal.hostReduceAdd h v init (ix1 k) = init + ∑ a, ∑ b, v (ix3 a b k) := by
  refine congrArg (init + ·) ?_
  refine (Finset.sum_filter_eq_sum_of_fiber _ (fun p : Fin n0 × Fin n1 => ix3 p.1 p.2 k)
    (fun _ _ e => Prod.ext (congrFun e 0) (congrFun e 1)) (fiber h k) v).trans ?_
  rw [Fintype.sum_prod_type]

/-- Rows numbered through the two sequences are the rows of both. -/
theorem sum_rows (f : Fin 2 → Fin 2048 → EReal) :
    ∑ r : Fin 4096, f ⟨r.val / 2048, by omega⟩ ⟨r.val % 2048, by omega⟩ = ∑ q, ∑ s, f q s :=
  Fin.sum_divmod_congr (fun r hq hs => rfl)

end Cert.Columns

end
-- ==== Proof.Inproj.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Claim
public import proofs.«01_k».proof.Proof.Norm
public import proofs.«01_k».proof.Proof.Consts
public import proofs.«01_k».proof.Proof.Columns

@[expose] public section

set_option maxRecDepth 16384

noncomputable section

namespace Cert.Kernel3Ideal.Inproj

open Cert.Kernel3Ideal Cert.Kernel3Ideal.Gen Idealize.ShloMosaic Idealize.ShloMosaic.TcCoe Idealize.SL.Sem
open Idealize.ShloMosaic.Pipeline (Dat)
open Cert.Reference3Ideal.Read Cert.Norm

variable (m : (ℓ : Loc nD τ sig) → Buf (Elt Ideal) ℓ)

/-- Where each window's block stands at a grid point. -/
theorem idx_val : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![0, 0]
    ∧ win0_8.index t = ![0, 0] ∧ win0_9.index t = ![t.val, 0] ∧ win0_10.index t = ![0, 0] ∧ t.val < 8 :=
  (by decide +kernel : ∀ t : Fin grid0.N, _)

/-- The row of the whole array that row `a` of point `t`'s block is. -/
def row (t : Fin cfg0.N) (a : Fin 512) : Fin 4096 := ⟨t.val * 512 + a.val, by have := (idx_val t).2.2.2.2.2.2.2.2.2.2.2; omega⟩

theorem blk0 (c : Dev nD) (t : Fin cfg0.N) (a : Fin 512) (b : Fin 512) :
    iblk m c 0 t (ix2 a b) = m ((c : Thread nD τ).loc main_arg5) (ix2 (row t a) b) := by
  blk_ext! [iblk, V, idx_val t, row]

theorem blk1 (c : Dev nD) (t : Fin cfg0.N) (a : Fin 512) (b : Fin 512) :
    iblk m c 1 t (ix2 a b) = m ((c : Thread nD τ).loc main_arg6) (ix2 (row t a) b) := by
  blk_ext! [iblk, V, idx_val t, row]

theorem blk2 (c : Dev nD) (t : Fin cfg0.N) (a : Fin 512) (b : Fin 128) :
    iblk m c 2 t (ix2 a b) = m ((c : Thread nD τ).loc main_arg7) (ix2 (row t a) b) := by
  blk_ext! [iblk, V, idx_val t, row]

theorem blk3 (c : Dev nD) (t : Fin cfg0.N) (a : Fin 512) (b : Fin 128) :
    iblk m c 3 t (ix2 a b) = m ((c : Thread nD τ).loc main_arg8) (ix2 (row t a) b) := by
  blk_ext! [iblk, V, idx_val t, row]

theorem blk4 (c : Dev nD) (t : Fin cfg0.N) (a : Fin 512) (b : Fin 2048) :
    iblk m c 4 t (ix2 a b) = m ((c : Thread nD τ).loc main_arg9) (ix2 (row t a) b) := by
  blk_ext! [iblk, V, idx_val t, row]

theorem blk5 (c : Dev nD) (t : Fin cfg0.N) (a : Fin 512) (b : Fin 1024) :
    iblk m c 5 t (ix2 a b) = m ((c : Thread nD τ).loc main_arg0)
      (ix3 ⟨(row t a).val / 2048, by omega⟩ ⟨(row t a).val % 2048, by omega⟩ b) := by
  blk_simp [iblk, idx_val t]
  entry_read
  pointwise
  blk_point [idx_val t, row]

theorem blk6 (c : Dev nD) (t : Fin cfg0.N) (a : Fin 512) (b : Fin 1024) :
    iblk m c 6 t (ix2 a b) = m ((c : Thread nD τ).loc main_arg4) (ix2 (row t a) b) := by
  blk_ext! [iblk, V, idx_val t, row]

theorem blk7 (c : Dev nD) (t : Fin cfg0.N) (a : Fin 3328) (b : Fin 1024) :
    iblk m c 7 t (ix2 a b) = m ((c : Thread nD τ).loc main_arg2) (ix3 0 b a) := by
  blk_simp [iblk, idx_val t]
  entry_read
  pointwise
  blk_ext [idx_val t]

theorem blk8 (c : Dev nD) (t : Fin cfg0.N) (b : Fin 1024) :
    iblk m c 8 t (ix2 0 b) = m ((c : Thread nD τ).loc main_arg1) (ix2 0 b) := by
  blk_ext! [iblk, V, idx_val t]

theorem emb9 (t : Fin cfg0.N) (a : Fin 512) (b : Fin 1024) : ((cfg0.win 9).blk t).view.emb (ix2 a b) = ix2 (row t a) b := by
  blk_ext [idx_val t, row]

/-- A sum over the projection's columns, taken part by part. -/
theorem sum_parts (f : Fin 3328 → EReal) : ∑ k, f k
    = (∑ k : Fin 512, f ⟨k.val, by omega⟩) + (∑ k : Fin 512, f ⟨512 + k.val, by omega⟩)
      + (∑ k : Fin 128, f ⟨1024 + k.val, by omega⟩) + (∑ k : Fin 128, f ⟨1152 + k.val, by omega⟩)
      + ∑ k : Fin 2048, f ⟨1280 + k.val, by omega⟩ := by
  have h1 := Fin.sum_univ_add (a := 1280) (b := 2048) f
  have h2 := Fin.sum_univ_add (a := 1152) (b := 128) fun k => f (Fin.castAdd 2048 k)
  have h3 := Fin.sum_univ_add (a := 1024) (b := 128) fun k => f (Fin.castAdd 2048 (Fin.castAdd 128 k))
  have h4 := Fin.sum_univ_add (a := 512) (b := 512) fun k => f (Fin.castAdd 2048 (Fin.castAdd 128 (Fin.castAdd 128 k)))
  rw [h1, h2, h3, h4]
  rfl

section Parts

variable (x5 x6 : (⟨Reference3Ideal.S4096x512, .bf16⟩ : BufTy).Contents (Elt Ideal)) (x7 x8 : (⟨Reference3Ideal.S4096x128, .bf16⟩ : BufTy).Contents (Elt Ideal))
  (x9 : (⟨Reference3Ideal.S4096x2048, .bf16⟩ : BufTy).Contents (Elt Ideal)) (r : Fin 4096)

/-- The concatenated gradient read in each of its five parts. -/
theorem part0 (k : Fin 512) : val_main_v6 (F := Ideal) x5 x6 x7 x8 x9 (ix3 ⟨r.val / 2048, by omega⟩ ⟨r.val % 2048, by omega⟩ ⟨k.val, by omega⟩) = x5 (ix2 r k) := by
  pointwise [val_main_v6, val_main_v5, val_main_v0]

theorem part1 (k : Fin 512) : val_main_v6 (F := Ideal) x5 x6 x7 x8 x9 (ix3 ⟨r.val / 2048, by omega⟩ ⟨r.val % 2048, by omega⟩ ⟨512 + k.val, by omega⟩) = x6 (ix2 r k) := by
  pointwise [val_main_v6, val_main_v5, val_main_v1]

theorem part2 (k : Fin 128) : val_main_v6 (F := Ideal) x5 x6 x7 x8 x9 (ix3 ⟨r.val / 2048, by omega⟩ ⟨r.val % 2048, by omega⟩ ⟨1024 + k.val, by omega⟩) = x7 (ix2 r k) := by
  pointwise [val_main_v6, val_main_v5, val_main_v2]
  rw [dif_neg (show ¬ 1024 + k.val < 512 by omega), dif_neg (show ¬ 1024 + k.val - 512 < 512 by omega), dif_pos (show 1024 + k.val - 512 - 512 < 128 by omega)]
  exact congrArg (fun l => x7 (ix2 r l)) (Fin.ext (show 1024 + k.val - 512 - 512 = k.val by omega))

theorem part3 (k : Fin 128) : val_main_v6 (F := Ideal) x5 x6 x7 x8 x9 (ix3 ⟨r.val / 2048, by omega⟩ ⟨r.val % 2048, by omega⟩ ⟨1152 + k.val, by omega⟩) = x8 (ix2 r k) := by
  pointwise [val_main_v6, val_main_v5, val_main_v3]
  rw [dif_neg (show ¬ 1152 + k.val < 512 by omega), dif_neg (show ¬ 1152 + k.val - 512 < 512 by omega), dif_neg (show ¬ 1152 + k.val - 512 - 512 < 128 by omega), dif_pos (show 1152 + k.val - 512 - 512 - 128 < 128 by omega)]
  exact congrArg (fun l => x8 (ix2 r l)) (Fin.ext (show 1152 + k.val - 512 - 512 - 128 = k.val by omega))

theorem part4 (k : Fin 2048) : val_main_v6 (F := Ideal) x5 x6 x7 x8 x9 (ix3 ⟨r.val / 2048, by omega⟩ ⟨r.val % 2048, by omega⟩ ⟨1280 + k.val, by omega⟩) = x9 (ix2 r k) := by
  pointwise [val_main_v6, val_main_v5, val_main_v4]
  rw [dif_neg (show ¬ 1280 + k.val < 512 by omega), dif_neg (show ¬ 1280 + k.val - 512 < 512 by omega), dif_neg (show ¬ 1280 + k.val - 512 - 512 < 128 by omega), dif_neg (show ¬ 1280 + k.val - 512 - 512 - 128 < 128 by omega)]
  exact congrArg (fun l => x9 (ix2 r l)) (Fin.ext (show 1280 + k.val - 512 - 512 - 128 - 128 = k.val by omega))

/-- The gradient of the normalised rows, read from the five parts. -/
theorem v31_parts (x2 : (⟨Reference3Ideal.S1x1024x3328, .f32⟩ : BufTy).Contents (Elt Ideal)) (b : Fin 1024) :
    val_main_v31 (F := Ideal) x2 x5 x6 x7 x8 x9 (ix3 ⟨r.val / 2048, by omega⟩ ⟨r.val % 2048, by omega⟩ b)
      = (∑ k : Fin 512, x5 (ix2 r k) * x2 (ix3 0 b ⟨k.val, by omega⟩)) + (∑ k : Fin 512, x6 (ix2 r k) * x2 (ix3 0 b ⟨512 + k.val, by omega⟩))
        + (∑ k : Fin 128, x7 (ix2 r k) * x2 (ix3 0 b ⟨1024 + k.val, by omega⟩)) + (∑ k : Fin 128, x8 (ix2 r k) * x2 (ix3 0 b ⟨1152 + k.val, by omega⟩))
        + ∑ k : Fin 2048, x9 (ix2 r k) * x2 (ix3 0 b ⟨1280 + k.val, by omega⟩) := by
  have h : val_main_v31 (F := Ideal) x2 x5 x6 x7 x8 x9 (ix3 ⟨r.val / 2048, by omega⟩ ⟨r.val % 2048, by omega⟩ b)
      = ∑ k : Fin 3328, val_main_v6 (F := Ideal) x5 x6 x7 x8 x9 (ix3 ⟨r.val / 2048, by omega⟩ ⟨r.val % 2048, by omega⟩ k) * x2 (ix3 0 b k) := by
    rw [val_main_v31_apply]
    generalize val_main_v6 (F := Ideal) x5 x6 x7 x8 x9 = d
    refine Finset.sum_congr rfl fun k _ => ?_
    rw [val_main_v24_apply]
    refine congrArg₂ _ (congrArg d ?_) (congrArg x2 ?_)
    · blk_ext
    · blk_ext
  rw [h, sum_parts]
  simp only [part0, part1, part2, part3, part4]

end Parts

abbrev gradH (c : Dev nD) := val_main_v31 (F := Ideal) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9))

/-- The gradient of the normalised rows: the kernel adds five products, the reference takes one over the concatenation. -/
theorem dh_eq (c : Dev nD) (t : Fin cfg0.N) (a : Fin 512) (b : Fin 1024) :
    k0_pay7 (iblk m c 0 t) (View.ld (iblk m c 7 t) (Rect.unit ![0, 0] ![512, 1024] inb_S3328x1024_S512x1024_0_0))
        (iblk m c 1 t) (View.ld (iblk m c 7 t) (Rect.unit ![512, 0] ![512, 1024] inb_S3328x1024_S512x1024_512_0))
        (iblk m c 2 t) (View.ld (iblk m c 7 t) (Rect.unit ![1024, 0] ![128, 1024] inb_S3328x1024_S128x1024_1024_0))
        (iblk m c 3 t) (View.ld (iblk m c 7 t) (Rect.unit ![1152, 0] ![128, 1024] inb_S3328x1024_S128x1024_1152_0))
        (iblk m c 4 t) (View.ld (iblk m c 7 t) (Rect.unit ![1280, 0] ![2048, 1024] inb_S3328x1024_S2048x1024_1280_0)) (ix2 a b)
      = gradH m c (ix3 ⟨(row t a).val / 2048, by omega⟩ ⟨(row t a).val % 2048, by omega⟩ b) := by
  rw [gradH, v31_parts]
  pointwise [k0_pay7, blk0, blk1, blk2, blk3, blk4, blk7]

theorem pay4_eq (v28 : FVec Ideal S512x1024 .f32) (v29 : Vec Ideal S512x1024 .f32) (v31 : Vec Ideal S1x1024 .f32) (v57 : Vec Ideal S512x1024 .f32)
    (a : Fin 512) (b : Fin 1024) : k0_pay4 v28 v29 v31 v57 (ix2 a b)
      = v57 (ix2 a b) + back (fun k => v29 (ix2 a k)) (fun k => v28 (ix2 a k) * v31 (ix2 0 k)) (Ideal.ofBits .f32 0x44800000#32)
          (Ideal.rsqrt (msq (fun k => v29 (ix2 a k)) (Ideal.ofBits .f32 0x44800000#32) (Ideal.ofBits .f32 0x358637BD#32))) b := by
  pointwise [k0_pay4, k0_pay3, k0_pay2, k0_pay1, back, msq]

section Reference

variable (x0 : (⟨Reference3Ideal.S2x2048x1024, .f32⟩ : BufTy).Contents (Elt Ideal)) (x1 : (⟨Reference3Ideal.S1x1024, .f32⟩ : BufTy).Contents (Elt Ideal))
  (x2 : (⟨Reference3Ideal.S1x1024x3328, .f32⟩ : BufTy).Contents (Elt Ideal)) (x4 : (⟨Reference3Ideal.S4096x1024, .f32⟩ : BufTy).Contents (Elt Ideal))
  (x5 x6 : (⟨Reference3Ideal.S4096x512, .bf16⟩ : BufTy).Contents (Elt Ideal)) (x7 x8 : (⟨Reference3Ideal.S4096x128, .bf16⟩ : BufTy).Contents (Elt Ideal))
  (x9 : (⟨Reference3Ideal.S4096x2048, .bf16⟩ : BufTy).Contents (Elt Ideal))

theorem v14_eq (q : Fin 2) (s : Fin 2048) : val_main_v14 (F := Ideal) x0 (ix3 q s 0)
    = msq (fun k => x0 (ix3 q s k)) (Ideal.ofBits .f32 0x44800000#32) (Ideal.ofBits .f32 0x358637BD#32) := by
  pointwise [val_main_v14, val_main_v13, val_main_v12, val_main_v11, val_main_v10, val_main_v9, val_main_v8, val_main_cst, val_main_cst_0, val_main_cst_1, msq]

theorem v36_eq (q : Fin 2) (s : Fin 2048) (k : Fin 1024) : val_main_v36 (F := Ideal) x1 x2 x5 x6 x7 x8 x9 (ix3 q s k)
    = val_main_v31 (F := Ideal) x2 x5 x6 x7 x8 x9 (ix3 q s k) * x1 (ix2 0 k) := by
  rw [val_main_v36_apply]
  generalize val_main_v31 (F := Ideal) x2 x5 x6 x7 x8 x9 = d
  pointwise [val_main_v35, val_main_v21, val_main_v7]

theorem idx54 (a : Fin 4096) (b : Fin 1024) : idx_main_v54 (ix2 a b) = ix3 ⟨a.val / 2048, by omega⟩ ⟨a.val % 2048, by omega⟩ b := by
  blk_ext
theorem idx30 (a : Fin 4096) (b : Fin 1024) : idx_main_v30 (ix3 ⟨a.val / 2048, by omega⟩ ⟨a.val % 2048, by omega⟩ b) = ix2 a b := by
  blk_ext
theorem idx41 (q : Fin 2) (s : Fin 2048) (b : Fin 1024) : idx_main_v41 (ix3 q s b) = ix3 q s 0 := by
  blk_ext
theorem idx48 (q : Fin 2) (s : Fin 2048) (b : Fin 1024) : idx_main_v47 (idx_main_v48 (ix3 q s b)) 0 = ix3 q s 0 := by
  blk_ext
theorem idx40 (q : Fin 2) (s : Fin 2048) (k : Fin 1024) : idx_main_v39 (idx_main_v40 (ix3 q s 0)) k = ix3 q s k := by
  blk_ext

theorem v48_eq (q : Fin 2) (s : Fin 2048) (k : Fin 1024) : val_main_v48 (F := Ideal) x0 x1 x2 x5 x6 x7 x8 x9 (ix3 q s k)
    = Norm.slope (fun k => x0 (ix3 q s k)) (fun k => val_main_v36 (F := Ideal) x1 x2 x5 x6 x7 x8 x9 (ix3 q s k))
        (Ideal.ofBits .f32 0x44800000#32) (Ideal.ofBits .f32 0xBF000000#32)
        (Ideal.rsqrt (val_main_v14 (F := Ideal) x0 (ix3 q s 0))) (val_main_v14 (F := Ideal) x0 (ix3 q s 0)) := by
  simp only [val_main_v48_apply, val_main_v47_apply, val_main_v46_apply, val_main_v44_apply, val_main_v40_apply, val_main_v39_apply, val_main_v38_apply, val_main_v18_apply, val_main_v16_apply, val_main_v15_apply]
  generalize val_main_v36 (F := Ideal) x1 x2 x5 x6 x7 x8 x9 = d
  generalize val_main_v14 (F := Ideal) x0 = v
  pointwise [val_main_v45, val_main_v17, val_main_cst_2, val_main_cst_5, val_main_cst_6, val_main_cst_7, Norm.slope]
  refine (Fin.sum_univ_one _).trans ?_
  simp only [idx48, idx40]

theorem v54_eq (a : Fin 4096) (b : Fin 1024) : val_main_v54 (F := Ideal) x0 x1 x2 x4 x5 x6 x7 x8 x9 (ix2 a b)
    = x4 (ix2 a b) + val_main_v36 (F := Ideal) x1 x2 x5 x6 x7 x8 x9 (ix3 ⟨a.val / 2048, by omega⟩ ⟨a.val % 2048, by omega⟩ b)
        * Ideal.rsqrt (val_main_v14 (F := Ideal) x0 (ix3 ⟨a.val / 2048, by omega⟩ ⟨a.val % 2048, by omega⟩ 0))
      + x0 (ix3 ⟨a.val / 2048, by omega⟩ ⟨a.val % 2048, by omega⟩ b) * val_main_v48 (F := Ideal) x0 x1 x2 x5 x6 x7 x8 x9 (ix3 ⟨a.val / 2048, by omega⟩ ⟨a.val % 2048, by omega⟩ b)
      + val_main_v48 (F := Ideal) x0 x1 x2 x5 x6 x7 x8 x9 (ix3 ⟨a.val / 2048, by omega⟩ ⟨a.val % 2048, by omega⟩ b) * x0 (ix3 ⟨a.val / 2048, by omega⟩ ⟨a.val % 2048, by omega⟩ b) := by
  rw [val_main_v54_apply, idx54, val_main_v52_apply, val_main_v51_apply, val_main_v50_apply, val_main_v49_apply, val_main_v43_apply, val_main_v42_apply, val_main_v41_apply, val_main_v30_apply, val_main_v15_apply, idx30, idx41]
  generalize val_main_v36 (F := Ideal) x1 x2 x5 x6 x7 x8 x9 (ix3 ⟨a.val / 2048, by omega⟩ ⟨a.val % 2048, by omega⟩ b) = d
  generalize val_main_v48 (F := Ideal) x0 x1 x2 x5 x6 x7 x8 x9 (ix3 ⟨a.val / 2048, by omega⟩ ⟨a.val % 2048, by omega⟩ b) = S
  generalize val_main_v14 (F := Ideal) x0 (ix3 ⟨a.val / 2048, by omega⟩ ⟨a.val % 2048, by omega⟩ 0) = v
  generalize x0 (ix3 ⟨a.val / 2048, by omega⟩ ⟨a.val % 2048, by omega⟩ b) = x
  generalize x4 (ix2 a b) = y
  rfl

end Reference

section Values

variable (c : Dev nD)

/-- Every entry of the arguments the gradient of `x` needs is a real number. -/
structure Finite : Prop where
  x : ∀ i, IsReal (m ((c : Thread nD τ).loc main_arg0) i)
  g : ∀ i, IsReal (m ((c : Thread nD τ).loc main_arg1) i)
  w : ∀ i, IsReal (m ((c : Thread nD τ).loc main_arg2) i)
  du : ∀ i, IsReal (m ((c : Thread nD τ).loc main_arg5) i)
  dq : ∀ i, IsReal (m ((c : Thread nD τ).loc main_arg6) i)
  dk : ∀ i, IsReal (m ((c : Thread nD τ).loc main_arg7) i)
  dv : ∀ i, IsReal (m ((c : Thread nD τ).loc main_arg8) i)
  dgate : ∀ i, IsReal (m ((c : Thread nD τ).loc main_arg9) i)

variable {m c} in
theorem Finite.gradH (h : Finite m c) (r : Fin 4096) (b : Fin 1024) :
    IsReal (gradH m c (ix3 ⟨r.val / 2048, by omega⟩ ⟨r.val % 2048, by omega⟩ b)) := by
  rw [Inproj.gradH, v31_parts]
  exact ((((IsReal.sum fun k => (h.du _).mul (h.w _)).add (IsReal.sum fun k => (h.dq _).mul (h.w _))).add
    (IsReal.sum fun k => (h.dk _).mul (h.w _))).add (IsReal.sum fun k => (h.dv _).mul (h.w _))).add
    (IsReal.sum fun k => (h.dgate _).mul (h.w _))

theorem gx_core (h : Finite m c) (t : Fin cfg0.N) (a : Fin 512) (b : Fin 1024) (v28 : FVec Ideal S512x1024 .f32)
    (hv : ∀ k, v28 (ix2 a k) = gradH m c (ix3 ⟨(row t a).val / 2048, by omega⟩ ⟨(row t a).val % 2048, by omega⟩ k)) :
    k0_pay4 v28 (iblk m c 5 t) (iblk m c 8 t) (iblk m c 6 t) (ix2 a b)
      = val_main_v54 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (row t a) b) := by
  rw [pay4_eq, v54_eq, v48_eq, v14_eq]
  simp only [v36_eq, hv, blk5, blk6, blk8, Consts.n_eq, Consts.eps_eq, Consts.half_eq]
  rw [back_eq (fun k => h.x _) (fun k => (h.gradH _ _).mul (h.g _)) (by norm_num) (by norm_num)]
  simp only [add_assoc]

theorem final9 (h : Finite m c) : (dats m 0 c).arrAt 9 (cfgs 0).N
    = val_main_v54 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 9 _ (by decide +kernel) fun t _ y => ?_
  idx_vars y
  rw [emb9]
  blk_simp
  rw [after0_9]
  by_cases h0 : t.val % 8 = 0
  · rw [outsAt0_A m c t h0]; frame_out
    exact gx_core m c h t y0 y1 _ (dh_eq m c t y0)
  · rw [outsAt0_B m c t h0]; frame_out
    exact gx_core m c h t y0 y1 _ (dh_eq m c t y0)

/-- The root's reciprocal in row `a` of point `t`'s block times the entry: the normalised row. -/
theorem pay5_eq (v28 : FVec Ideal S512x1024 .f32) (v29 : Vec Ideal S512x1024 .f32) (acc : Vec Ideal S1x1024 .f32) (b : Fin 1024) :
    k0_pay5 v28 v29 acc (ix2 0 b) = acc (ix2 0 b) + ∑ a : Fin 512, v28 (ix2 a b) * (v29 (ix2 a b)
      * Ideal.rsqrt (msq (fun k => v29 (ix2 a k)) (Ideal.ofBits .f32 0x44800000#32) (Ideal.ofBits .f32 0x358637BD#32))) := by
  pointwise [k0_pay5, k0_pay3, k0_pay2, k0_pay1, msq]

theorem pay6_eq (j) : k0_pay6 (F := Ideal) j = 0 := by pointwise [k0_pay6]

variable (x0 : (⟨Reference3Ideal.S2x2048x1024, .f32⟩ : BufTy).Contents (Elt Ideal))
  (x2 : (⟨Reference3Ideal.S1x1024x3328, .f32⟩ : BufTy).Contents (Elt Ideal))
  (x5 x6 : (⟨Reference3Ideal.S4096x512, .bf16⟩ : BufTy).Contents (Elt Ideal)) (x7 x8 : (⟨Reference3Ideal.S4096x128, .bf16⟩ : BufTy).Contents (Elt Ideal))
  (x9 : (⟨Reference3Ideal.S4096x2048, .bf16⟩ : BufTy).Contents (Elt Ideal))

theorem v53_eq (b : Fin 1024) : val_main_v53 (F := Ideal) x0 x2 x5 x6 x7 x8 x9 (ix2 0 b)
    = ∑ q : Fin 2, ∑ s : Fin 2048, val_main_v32 (F := Ideal) x0 x2 x5 x6 x7 x8 x9 (ix3 q s b) := by
  have h53 : idx_main_v53 (ix2 0 b) = ix1 b := by blk_ext
  have h34 : idx_main_v34 (ix3 0 0 b) = ix1 b := by blk_ext
  rw [val_main_v53_apply, h53]
  refine (Columns.reduceAdd _ _ _ _).trans ?_
  rw [Fin.sum_univ_one, Fin.sum_univ_one, val_main_v34_apply, h34]
  refine (congrArg _ (Columns.reduceAdd _ _ _ _)).trans ?_
  pointwise [val_main_cst_3, val_main_cst_4]

/-- A row's contribution to the norm gain's gradient. -/
theorem v32_eq (q : Fin 2) (s : Fin 2048) (b : Fin 1024) : val_main_v32 (F := Ideal) x0 x2 x5 x6 x7 x8 x9 (ix3 q s b)
    = x0 (ix3 q s b) * Ideal.rsqrt (val_main_v14 (F := Ideal) x0 (ix3 q s 0)) * val_main_v31 (F := Ideal) x2 x5 x6 x7 x8 x9 (ix3 q s b) := by
  have h19 : idx_main_v19 (ix3 q s b) = ix3 q s 0 := by blk_ext
  rw [val_main_v32_apply, val_main_v20_apply, val_main_v19_apply, val_main_v15_apply, h19]
  rfl

/-- What row `r` adds to the gain's gradient at column `b`. -/
def gain (r : Fin 4096) (b : Fin 1024) : EReal :=
  let x : Fin 1024 → EReal := fun k => m ((c : Thread nD τ).loc main_arg0) (ix3 ⟨r.val / 2048, by omega⟩ ⟨r.val % 2048, by omega⟩ k)
  let d : EReal := gradH m c (ix3 ⟨r.val / 2048, by omega⟩ ⟨r.val % 2048, by omega⟩ b)
  d * (x b * Ideal.rsqrt (msq x (Ideal.ofBits .f32 0x44800000#32) (Ideal.ofBits .f32 0x358637BD#32)))

theorem dg_core (t : Fin cfg0.N) (b : Fin 1024) (acc : Vec Ideal S1x1024 .f32) (v28 : FVec Ideal S512x1024 .f32)
    (hv : ∀ a k, v28 (ix2 a k) = gradH m c (ix3 ⟨(row t a).val / 2048, by omega⟩ ⟨(row t a).val % 2048, by omega⟩ k)) :
    k0_pay5 v28 (iblk m c 5 t) acc (ix2 0 b) = acc (ix2 0 b) + ∑ a : Fin 512, gain m c (row t a) b := by
  rw [pay5_eq]
  simp only [hv, blk5]
  rfl

theorem gain_sum (b : Fin 1024) : ∑ r, gain m c r b
    = val_main_v53 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (ix2 0 b) := by
  rw [v53_eq, ← Columns.sum_rows]
  refine Finset.sum_congr rfl fun r _ => ?_
  rw [v32_eq, v14_eq, mul_comm]
  rfl

theorem final10 : (dats m 0 c).arrAt 10 (cfgs 0).N
    = val_main_v53 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) := by
  have step0 : ∀ (t : Fin cfg0.N), t.val % 8 = 0 → ∀ b : Fin 1024,
      (outsAt0 m c t.val t.isLt).2 (ix2 0 b) = 0 + ∑ a : Fin 512, gain m c (row t a) b := fun t h b => by
    rw [outsAt0_A m c t h]; frame_out
    exact (dg_core m c t b _ _ (fun a k => dh_eq m c t a k)).trans (by rw [pay6_eq])
  have step1 : ∀ (t : Fin cfg0.N), ¬t.val % 8 = 0 → ∀ b : Fin 1024,
      (outsAt0 m c t.val t.isLt).2 (ix2 0 b) = (outsAt0 m c (t.val - 1) (Nat.lt_of_le_of_lt (Nat.sub_le _ _) t.isLt)).2 (ix2 0 b)
        + ∑ a : Fin 512, gain m c (row t a) b := fun t h b => by
    rw [outsAt0_B m c t h]; frame_out
    exact dg_core m c t b _ _ (fun a k => dh_eq m c t a k)
  refine (dats m 0 c).arrAt_eq_of_after_last 10 t0_7 (by decide +kernel) _ fun j => ?_
  idx_vars j
  blk_simp
  rw [after0_10]
  have hj : j0 = 0 := Subsingleton.elim _ _
  subst hj
  refine Eq.trans ?_ (gain_sum m c j1)
  have := Pipeline.eq_sum_fin_of_reset_step_apply_last (fun n h b => (outsAt0 m c n h).2 (ix2 0 b)) 8 (fun _ => 0) _
    step0 step1 (le_of_eq N_0) t0_7 rfl j1
  rw [this, zero_add]
  exact Fin.sum_mul_add_congr (fun s k hl => rfl)

end Values

end Cert.Kernel3Ideal.Inproj
-- ==== Proof.MlpRun.lean ====
module

public import proofs.«01_k».proof.Proof.Gen.Kernel4Ideal.Frame.Runs
public import Idealize.ShloMosaic.Lib.Claim

@[expose] public section

set_option maxRecDepth 16384

/-!
# One step of the perceptron's kernel, run

The kernel walks the 4096 tokens in 16 steps of 256. The first step also fetches both weight matrices whole
into scratch memory, two copies into each matrix's halves, and clears the four accumulators; later steps find
the weights and the accumulators as the step before left them. Here the body is run once in each of the two
cases, on whole buffers of any addresses: what comes out is the list of stores made into every buffer.
-/

noncomputable section

namespace Cert.Kernel4Ideal.Mlp

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A buffer held whole, with these contents. -/
abbrev Has (c : Dev nD) {S : Shape} {e : EltTy} (M : Memref sig .tc .vmem S e) (x : Vec F S e) : sProp 𝕄 :=
  owns (c : Thread nD τ) M fullShare x

variable (F) in
/-- A buffer held whole, with any contents. -/
abbrev Any (c : Dev nD) {S : Shape} {e : EltTy} (M : Memref sig .tc .vmem S e) : sProp 𝕄 :=
  iprop(∃ d : Vec F S e, owns (c : Thread nD τ) M fullShare d)

/-- A buffer held whole after these stores, over some earlier contents. -/
abbrev Put (c : Dev nD) {S : Shape} {e : EltTy} (M : Memref sig .tc .vmem S e) (L : List (View.Piece (Elt F) S e)) :
  sProp 𝕄 :=
  iprop(∃ f, M.view.loc (c : Thread nD τ) ↦[M.view.set]{fullShare} M.view.writes (Elt F) f L)

variable (F) in
/-- The four counters of the copies, at zero. -/
abbrev Idle (c : Dev nD) : sProp 𝕄 :=
  iprop(semVal ((c : Thread nD τ), SemLoc.dma 25) 0 ∗ semVal ((c : Thread nD τ), SemLoc.dma 26) 0
    ∗ semVal ((c : Thread nD τ), SemLoc.dma 27) 0 ∗ semVal ((c : Thread nD τ), SemLoc.dma 28) 0)

/-- The halves of the two weight matrices, in main memory. -/
structure Halves (F : FTy → Type) [FloatOps F] (c : Dev nD) where
  up0 : HbBuf0 (F := F) c hbM0_0
  up1 : HbBuf0 (F := F) c hbM0_1
  down0 : HbBuf0 (F := F) c hbM0_2
  down1 : HbBuf0 (F := F) c hbM0_3

/-- They are held, and only read. -/
abbrev Halves.Held {c : Dev nD} (h : Halves F c) : sProp 𝕄 :=
  iprop(hbPt0 c hbM0_0 h.up0 ∗ hbPt0 c hbM0_1 h.up1 ∗ hbPt0 c hbM0_2 h.down0 ∗ hbPt0 c hbM0_3 h.down1)

/-- The lists of stores into the nine results, the two weight buffers and the buffer of rectified values. -/
abbrev Stores (F : FTy → Type) [FloatOps F] : Type :=
  List (View.Piece (Elt F) S256x4096 .bf16) × List (View.Piece (Elt F) S256x1024 .bf16) × List (View.Piece (Elt F)
    S256x4096 .bf16) × List (View.Piece (Elt F) S256x1024 .f32) × List (View.Piece (Elt F) S256x1024 .bf16) × List
      (View.Piece (Elt F) S8x128 .f32) × List (View.Piece (Elt F) S1x1024 .f32) × List (View.Piece (Elt F) S1x1024
      .f32) × List (View.Piece (Elt F) S1x1024 .f32) × List (View.Piece (Elt F) S4x1024x1024 .bf16) × List
      (View.Piece (Elt F) S4x1024x1024 .bf16) × List (View.Piece (Elt F) S256x4096 .f32)

section
variable (c : Dev nD) (i : grid0.Coords)
  (arg1 : Memref sig .tc .vmem S256x1024 .bf16) (harg1 : arg1.IsWhole) (arg2 : Memref sig .tc .vmem S256x1024 .f32)
    (harg2 : arg2.IsWhole) (arg3 : Memref sig .tc .vmem S256x1024 .f32) (harg3 : arg3.IsWhole) (arg4 : Memref sig .tc
      .vmem S256x1024 .f32) (harg4 : arg4.IsWhole) (arg5 : Memref sig .tc .vmem S1x1024 .f32) (harg5 : arg5.IsWhole)
      (arg6 : Memref sig .tc .vmem S1x1024 .f32) (harg6 : arg6.IsWhole) (arg7 : Memref sig .tc .vmem S1x1024 .f32)
      (harg7 : arg7.IsWhole) (arg12 : Memref sig .tc .vmem S256x4096 .bf16) (harg12 : arg12.IsWhole) (arg13 : Memref
      sig .tc .vmem S256x1024 .bf16) (harg13 : arg13.IsWhole) (arg14 : Memref sig .tc .vmem S256x4096 .bf16) (harg14
      : arg14.IsWhole) (arg15 : Memref sig .tc .vmem S256x1024 .f32) (harg15 : arg15.IsWhole) (arg16 : Memref sig .tc
      .vmem S256x1024 .bf16) (harg16 : arg16.IsWhole) (arg17 : Memref sig .tc .vmem S8x128 .f32) (harg17 :
      arg17.IsWhole) (arg18 : Memref sig .tc .vmem S1x1024 .f32) (harg18 : arg18.IsWhole) (arg19 : Memref sig .tc
      .vmem S1x1024 .f32) (harg19 : arg19.IsWhole) (arg20 : Memref sig .tc .vmem S1x1024 .f32) (harg20 :
      arg20.IsWhole) (arg21 : Memref sig .tc .vmem S4x1024x1024 .bf16) (harg21 : arg21.IsWhole) (arg22 : Memref sig
      .tc .vmem S4x1024x1024 .bf16) (harg22 : arg22.IsWhole) (arg23 : Memref sig .tc .vmem S256x4096 .f32) (harg23 :
      arg23.IsWhole)
  (x0 : Vec F S256x1024 .bf16) (x1 : Vec F S256x1024 .f32) (x2 : Vec F S256x1024 .f32) (x3 : Vec F S256x1024 .f32)
    (x4 : Vec F S1x1024 .f32) (x5 : Vec F S1x1024 .f32) (x6 : Vec F S1x1024 .f32) (h : Halves F c)

set_option sl_exec.dmaWindow true in
set_option sl_exec.dmaWindowSet true in
set_option maxHeartbeats 1000000 in
/-- The first step: nothing is asked of the accumulators and the weight buffers before it, and all of them are
  written. -/
def runFirst (hc0 : cond0_0 i) :
    { P : Stores F // ∀ (W : Waits sig Unit) (K : PUnit → sProp 𝕄),
      iprop(Has c arg1 x0 ∗ Has c arg2 x1 ∗ Has c arg3 x2 ∗ Has c arg4 x3 ∗ Has c arg5 x4 ∗ Has c arg6 x5 ∗ Has c
        arg7 x6 ∗ Any F c arg12 ∗ Any F c arg13 ∗ Any F c arg14 ∗ Any F c arg15 ∗ Any F c arg16 ∗ Any F c arg17 ∗ Any
          F c arg18 ∗ Any F c arg19 ∗ Any F c arg20 ∗ Any F c arg21 ∗ Any F c arg22 ∗ Any F c arg23 ∗ Idle F c ∗
          h.Held ∗ owes (c : Thread nD τ) 0 W
          ∗ (iprop(Has c arg1 x0 ∗ Has c arg2 x1 ∗ Has c arg3 x2 ∗ Has c arg4 x3 ∗ Has c arg5 x4 ∗ Has c arg6 x5 ∗
            Has c arg7 x6 ∗ Put c arg12 P.1 ∗ Put c arg13 P.2.1 ∗ Put c arg14 P.2.2.1 ∗ Put c arg15 P.2.2.2.1 ∗ Put c
              arg16 P.2.2.2.2.1 ∗ Put c arg17 P.2.2.2.2.2.1 ∗ Put c arg18 P.2.2.2.2.2.2.1 ∗ Put c arg19
              P.2.2.2.2.2.2.2.1 ∗ Put c arg20 P.2.2.2.2.2.2.2.2.1 ∗ Put c arg21 P.2.2.2.2.2.2.2.2.2.1 ∗ Put c arg22
              P.2.2.2.2.2.2.2.2.2.2.1 ∗ Put c arg23 P.2.2.2.2.2.2.2.2.2.2.2 ∗ Idle F c ∗ h.Held
            ∗ (∃ W', owes (c : Thread nD τ) 0 W')) -∗ K ⟨⟩))
        ⊢ wp frame (wpE (defs₀ (F := F)) Variants.none c none) Set.univ (cc0_mlp_core i arg1 harg1 arg2 harg2 arg3
          harg3 arg4 harg4 arg5 harg5 arg6 harg6 arg7 harg7 (Memref.whole main_v40) (Memref.isWhole_whole _)
            (Memref.whole main_v42) (Memref.isWhole_whole _) (Memref.whole main_v44) (Memref.isWhole_whole _)
            (Memref.whole main_v46) (Memref.isWhole_whole _) arg12 harg12 arg13 harg13 arg14 harg14 arg15 harg15
            arg16 harg16 arg17 harg17 arg18 harg18 arg19 harg19 arg20 harg20 arg21 harg21 arg22 harg22 arg23 harg23
            cc0_scratch3) K } := by
  refine ⟨⟨?_, ?_, ?_, ?_, ?_, ?_, ?_, ?_, ?_, ?_, ?_, ?_⟩, fun W K => ?run⟩
  case run =>
    simp only [cc0_mlp_core_eq_skeleton]; unfold cc0_mlp_core_skel
    simp only [k0_part2_eq_skeleton, k0_part1_eq_skeleton, k0_part3_eq_skeleton, k0_part4_eq_skeleton,
      k0_part5_eq_skeleton, k0_part6_eq_skeleton, k0_part7_eq_skeleton, k0_part8_eq_skeleton]
    unfold Has Any Idle Halves.Held owns
    dsimp only
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%d7, %f7, -, H7⟩, ⟨%d8, %f8, -, H8⟩, ⟨%d9, %f9, -, H9⟩, ⟨%d10, %f10, -, H10⟩, ⟨%d11, %f11, -,
        H11⟩, ⟨%d12, %f12, -, H12⟩, ⟨%d13, %f13, -, H13⟩, ⟨%d14, %f14, -, H14⟩, ⟨%d15, %f15, -, H15⟩, ⟨%e0, %g0, -,
        S0⟩, ⟨%e1, %g1, -, S1⟩, ⟨%e2, %g2, -, S2⟩, ⟨Hq0, Hq1, Hq2, Hq3⟩, ⟨Hh0, Hh1, Hh2, Hh3⟩, HW, Hk⟩
    obtain rfl := harg1.eq_unread hf0; obtain rfl := harg2.eq_unread hf1; obtain rfl := harg3.eq_unread hf2; obtain
      rfl := harg4.eq_unread hf3; obtain rfl := harg5.eq_unread hf4; obtain rfl := harg6.eq_unread hf5; obtain rfl :=
        harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [S0]; · iexists _; iexact S0
    isplitl [S1]; · iexists _; iexact S1
    isplitl [S2]; · iexists _; iexact S2
    isplitl [Hq0 Hq1 Hq2 Hq3]
    · isplitl [Hq0]; · iexact Hq0
      isplitl [Hq1]; · iexact Hq1
      isplitl [Hq2]; · iexact Hq2
      iexact Hq3
    isplitl [Hh0 Hh1 Hh2 Hh3]
    · isplitl [Hh0]; · iexact Hh0
      isplitl [Hh1]; · iexact Hh1
      isplitl [Hh2]; · iexact Hh2
      iexact Hh3
    iexists _; iexact HW

set_option sl_exec.dmaWindow true in
set_option sl_exec.dmaWindowSet true in
set_option maxHeartbeats 1000000 in
/-- A later step: the accumulators and the weights are read, and the weights kept. -/
def runLater (hc0 : ¬cond0_0 i) (a0 : Vec F S8x128 .f32) (a1 a2 a3 : Vec F S1x1024 .f32) (w0 w1 : Vec F S4x1024x1024
  .bf16) :
    { P : Stores F // ∀ (W : Waits sig Unit) (K : PUnit → sProp 𝕄),
      iprop(Has c arg1 x0 ∗ Has c arg2 x1 ∗ Has c arg3 x2 ∗ Has c arg4 x3 ∗ Has c arg5 x4 ∗ Has c arg6 x5 ∗ Has c
        arg7 x6 ∗ Any F c arg12 ∗ Any F c arg13 ∗ Any F c arg14 ∗ Any F c arg15 ∗ Any F c arg16 ∗ Has c arg17 a0 ∗
          Has c arg18 a1 ∗ Has c arg19 a2 ∗ Has c arg20 a3 ∗ Has c arg21 w0 ∗ Has c arg22 w1 ∗ Any F c arg23 ∗ Idle F
          c ∗ h.Held ∗ owes (c : Thread nD τ) 0 W
          ∗ (iprop(Has c arg1 x0 ∗ Has c arg2 x1 ∗ Has c arg3 x2 ∗ Has c arg4 x3 ∗ Has c arg5 x4 ∗ Has c arg6 x5 ∗
            Has c arg7 x6 ∗ Put c arg12 P.1 ∗ Put c arg13 P.2.1 ∗ Put c arg14 P.2.2.1 ∗ Put c arg15 P.2.2.2.1 ∗ Put c
              arg16 P.2.2.2.2.1 ∗ Put c arg17 P.2.2.2.2.2.1 ∗ Put c arg18 P.2.2.2.2.2.2.1 ∗ Put c arg19
              P.2.2.2.2.2.2.2.1 ∗ Put c arg20 P.2.2.2.2.2.2.2.2.1 ∗ Has c arg21 w0 ∗ Has c arg22 w1 ∗ Put c arg23
              P.2.2.2.2.2.2.2.2.2.2.2 ∗ Idle F c ∗ h.Held
            ∗ (∃ W', owes (c : Thread nD τ) 0 W')) -∗ K ⟨⟩))
        ⊢ wp frame (wpE (defs₀ (F := F)) Variants.none c none) Set.univ (cc0_mlp_core i arg1 harg1 arg2 harg2 arg3
          harg3 arg4 harg4 arg5 harg5 arg6 harg6 arg7 harg7 (Memref.whole main_v40) (Memref.isWhole_whole _)
            (Memref.whole main_v42) (Memref.isWhole_whole _) (Memref.whole main_v44) (Memref.isWhole_whole _)
            (Memref.whole main_v46) (Memref.isWhole_whole _) arg12 harg12 arg13 harg13 arg14 harg14 arg15 harg15
            arg16 harg16 arg17 harg17 arg18 harg18 arg19 harg19 arg20 harg20 arg21 harg21 arg22 harg22 arg23 harg23
            cc0_scratch3) K } := by
  refine ⟨⟨?_, ?_, ?_, ?_, ?_, ?_, ?_, ?_, ?_, [], [], ?_⟩, fun W K => ?run⟩
  case run =>
    simp only [cc0_mlp_core_eq_skeleton]; unfold cc0_mlp_core_skel
    simp only [k0_part2_eq_skeleton, k0_part3_eq_skeleton, k0_part4_eq_skeleton, k0_part5_eq_skeleton,
      k0_part6_eq_skeleton, k0_part7_eq_skeleton, k0_part8_eq_skeleton]
    unfold Has Any Idle Halves.Held owns
    dsimp only
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%d7, %f7, -, H7⟩, ⟨%d8, %f8, -, H8⟩, ⟨%d9, %f9, -, H9⟩, ⟨%d10, %f10, -, H10⟩, ⟨%d11, %f11, -,
        H11⟩, ⟨%f12, %hf12, H12⟩, ⟨%f13, %hf13, H13⟩, ⟨%f14, %hf14, H14⟩, ⟨%f15, %hf15, H15⟩, ⟨%g0, %hg0, S0⟩, ⟨%g1,
        %hg1, S1⟩, ⟨%e2, %g2, -, S2⟩, ⟨Hq0, Hq1, Hq2, Hq3⟩, ⟨Hh0, Hh1, Hh2, Hh3⟩, HW, Hk⟩
    obtain rfl := harg1.eq_unread hf0; obtain rfl := harg2.eq_unread hf1; obtain rfl := harg3.eq_unread hf2; obtain
      rfl := harg4.eq_unread hf3; obtain rfl := harg5.eq_unread hf4; obtain rfl := harg6.eq_unread hf5; obtain rfl :=
        harg7.eq_unread hf6; obtain rfl := harg17.eq_unread hf12; obtain rfl := harg18.eq_unread hf13; obtain rfl :=
        harg19.eq_unread hf14; obtain rfl := harg20.eq_unread hf15; obtain rfl := harg21.eq_unread hg0; obtain rfl :=
        harg22.eq_unread hg1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [S0]
    · iexists _; isplitr; · ipureintro; exact harg21.read_unread _
      iexact S0
    isplitl [S1]
    · iexists _; isplitr; · ipureintro; exact harg22.read_unread _
      iexact S1
    isplitl [S2]; · iexists _; iexact S2
    isplitl [Hq0 Hq1 Hq2 Hq3]
    · isplitl [Hq0]; · iexact Hq0
      isplitl [Hq1]; · iexact Hq1
      isplitl [Hq2]; · iexact Hq2
      iexact Hq3
    isplitl [Hh0 Hh1 Hh2 Hh3]
    · isplitl [Hh0]; · iexact Hh0
      isplitl [Hh1]; · iexact Hh1
      isplitl [Hh2]; · iexact Hh2
      iexact Hh3
    iexists _; iexact HW

end

end Cert.Kernel4Ideal.Mlp

end
-- ==== Proof.MlpFrame.lean ====
module

public import proofs.«01_k».proof.Proof.MlpRun

@[expose] public section

set_option maxRecDepth 16384

/-!
# The perceptron's kernel from start to end

What every step leaves in its buffers, as a recursion over the steps, and with it the launch: every run of the
program ends, with the argument arrays as they were and every result at what the recursion says.
-/

noncomputable section

namespace Cert.Kernel4Ideal.Mlp

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a step leaves: the nine results' buffers and the two weight buffers. -/
structure Left (F : FTy → Type) [FloatOps F] where
  act : Vec F S256x4096 .bf16
  dff : Vec F S256x1024 .bf16
  dup : Vec F S256x4096 .bf16
  dx1 : Vec F S256x1024 .f32
  dmix : Vec F S256x1024 .bf16
  loss : Vec F S8x128 .f32
  g4 : Vec F S1x1024 .f32
  g3 : Vec F S1x1024 .f32
  g2 : Vec F S1x1024 .f32
  wu : Vec F S4x1024x1024 .bf16
  wd : Vec F S4x1024x1024 .bf16

/-- Stores that cover a buffer, read back: the buffer is held at what they leave over anything. -/
theorem put_has (c : Dev nD) {S : Shape} {e : EltTy} (M : Memref sig .tc .vmem S e) (V : View sig .tc .vmem S e)
    {L : List (View.Piece (Elt F) S e)} (hL : ∀ y : S.Idx, ∃ p ∈ L, y ∈ p.1.set) :
    Put c M L ⊢ Has c M (V.read (Elt F) (V.writes (Elt F) V.junk L)) := by
  iintro ⟨%f, H⟩
  unfold Has owns
  iexists _; isplitr
  swap; · iexact H
  ipureintro; exact View.read_writes_of_cover _ _ _ _ _ hL

/-- The halves of the weights, as the launch finds them. -/
def halves (c : Dev nD) : Halves F c := ⟨V m c main_v40, V m c main_v42, V m c main_v44, V m c main_v46⟩

/-- The first case's run at step `t`. -/
abbrev firstAt (c : Dev nD) (t : Fin cfg0.N) (h0 : t.val % 16 = 0) :=
  runFirst c (grid0.coords t) (ms0_0 t) (hs0_0 t) (ms0_1 t) (hs0_1 t) (ms0_2 t) (hs0_2 t) (ms0_3 t) (hs0_3 t) (ms0_4
    t) (hs0_4 t) (ms0_5 t) (hs0_5 t) (ms0_6 t) (hs0_6 t) (ms0_7 t) (hs0_7 t) (ms0_8 t) (hs0_8 t) (ms0_9 t) (hs0_9 t)
      (ms0_10 t) (hs0_10 t) (ms0_11 t) (hs0_11 t) (ms0_12 t) (hs0_12 t) (ms0_13 t) (hs0_13 t) (ms0_14 t) (hs0_14 t)
      (ms0_15 t) (hs0_15 t) scM0_0 (Memref.isWhole_whole _) scM0_1 (Memref.isWhole_whole _) scM0_2
      (Memref.isWhole_whole _) (iblk m c 0 t) (iblk m c 1 t)
    (iblk m c 2 t) (iblk m c 3 t) (iblk m c 4 t) (iblk m c 5 t) (iblk m c 6 t) (halves m c) ((hcond0_0 t).mpr h0)

/-- The other case's run at step `t`, over what the step before left. -/
abbrev laterAt (c : Dev nD) (t : Fin cfg0.N) (h0 : ¬t.val % 16 = 0) (p : Left F) :=
  runLater c (grid0.coords t) (ms0_0 t) (hs0_0 t) (ms0_1 t) (hs0_1 t) (ms0_2 t) (hs0_2 t) (ms0_3 t) (hs0_3 t) (ms0_4
    t) (hs0_4 t) (ms0_5 t) (hs0_5 t) (ms0_6 t) (hs0_6 t) (ms0_7 t) (hs0_7 t) (ms0_8 t) (hs0_8 t) (ms0_9 t) (hs0_9 t)
      (ms0_10 t) (hs0_10 t) (ms0_11 t) (hs0_11 t) (ms0_12 t) (hs0_12 t) (ms0_13 t) (hs0_13 t) (ms0_14 t) (hs0_14 t)
      (ms0_15 t) (hs0_15 t) scM0_0 (Memref.isWhole_whole _) scM0_1 (Memref.isWhole_whole _) scM0_2
      (Memref.isWhole_whole _) (iblk m c 0 t) (iblk m c 1 t)
    (iblk m c 2 t) (iblk m c 3 t) (iblk m c 4 t) (iblk m c 5 t) (iblk m c 6 t) (halves m c)
    (fun h => h0 ((hcond0_0 t).mp h)) p.loss p.g4 p.g3 p.g2 p.wu p.wd

/-- What the first step leaves. -/
def first (c : Dev nD) (t : Fin cfg0.N) (h0 : t.val % 16 = 0) : Left F where
  act := VO0_7.read (Elt F) (VO0_7.writes (Elt F) VO0_7.junk (firstAt m c t h0).1.1)
  dff := VO0_8.read (Elt F) (VO0_8.writes (Elt F) VO0_8.junk (firstAt m c t h0).1.2.1)
  dup := VO0_9.read (Elt F) (VO0_9.writes (Elt F) VO0_9.junk (firstAt m c t h0).1.2.2.1)
  dx1 := VO0_10.read (Elt F) (VO0_10.writes (Elt F) VO0_10.junk (firstAt m c t h0).1.2.2.2.1)
  dmix := VO0_11.read (Elt F) (VO0_11.writes (Elt F) VO0_11.junk (firstAt m c t h0).1.2.2.2.2.1)
  loss := VO0_12.read (Elt F) (VO0_12.writes (Elt F) VO0_12.junk (firstAt m c t h0).1.2.2.2.2.2.1)
  g4 := VO0_13.read (Elt F) (VO0_13.writes (Elt F) VO0_13.junk (firstAt m c t h0).1.2.2.2.2.2.2.1)
  g3 := VO0_14.read (Elt F) (VO0_14.writes (Elt F) VO0_14.junk (firstAt m c t h0).1.2.2.2.2.2.2.2.1)
  g2 := VO0_15.read (Elt F) (VO0_15.writes (Elt F) VO0_15.junk (firstAt m c t h0).1.2.2.2.2.2.2.2.2.1)
  wu := VS0_0.read (Elt F) (VS0_0.writes (Elt F) VS0_0.junk (firstAt m c t h0).1.2.2.2.2.2.2.2.2.2.1)
  wd := VS0_1.read (Elt F) (VS0_1.writes (Elt F) VS0_1.junk (firstAt m c t h0).1.2.2.2.2.2.2.2.2.2.2.1)

/-- What a later step leaves. -/
def later (c : Dev nD) (t : Fin cfg0.N) (h0 : ¬t.val % 16 = 0) (p : Left F) : Left F where
  act := VO0_7.read (Elt F) (VO0_7.writes (Elt F) VO0_7.junk (laterAt m c t h0 p).1.1)
  dff := VO0_8.read (Elt F) (VO0_8.writes (Elt F) VO0_8.junk (laterAt m c t h0 p).1.2.1)
  dup := VO0_9.read (Elt F) (VO0_9.writes (Elt F) VO0_9.junk (laterAt m c t h0 p).1.2.2.1)
  dx1 := VO0_10.read (Elt F) (VO0_10.writes (Elt F) VO0_10.junk (laterAt m c t h0 p).1.2.2.2.1)
  dmix := VO0_11.read (Elt F) (VO0_11.writes (Elt F) VO0_11.junk (laterAt m c t h0 p).1.2.2.2.2.1)
  loss := VO0_12.read (Elt F) (VO0_12.writes (Elt F) VO0_12.junk (laterAt m c t h0 p).1.2.2.2.2.2.1)
  g4 := VO0_13.read (Elt F) (VO0_13.writes (Elt F) VO0_13.junk (laterAt m c t h0 p).1.2.2.2.2.2.2.1)
  g3 := VO0_14.read (Elt F) (VO0_14.writes (Elt F) VO0_14.junk (laterAt m c t h0 p).1.2.2.2.2.2.2.2.1)
  g2 := VO0_15.read (Elt F) (VO0_15.writes (Elt F) VO0_15.junk (laterAt m c t h0 p).1.2.2.2.2.2.2.2.2.1)
  wu := p.wu
  wd := p.wd

/-- What step `n` leaves. -/
def left (c : Dev nD) : (n : ℕ) → n < cfg0.N → Left F
  | 0, hn => first m c ⟨0, hn⟩ (Nat.zero_mod _)
  | n + 1, hn => if h0 : (n + 1) % 16 = 0 then first m c ⟨n + 1, hn⟩ h0
      else later m c ⟨n + 1, hn⟩ h0 (left c n (Nat.lt_of_succ_lt hn))

theorem left_first (c : Dev nD) (t : Fin cfg0.N) (h0 : t.val % 16 = 0) : left m c t.val t.isLt = first m c t h0 := by
  obtain ⟨n, hn⟩ := t
  cases n with
  | zero => exact rfl
  | succ n => exact (dif_pos h0).trans rfl

theorem left_later (c : Dev nD) (t : Fin cfg0.N) (h0 : ¬t.val % 16 = 0) :
    left m c t.val t.isLt = later m c t h0 (left m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- What is kept between two steps beside the results' buffers: the weight buffers at these contents, the third
    buffer, the generator's register, the counters and the halves of the weights. -/
abbrev Between (c : Dev nD) (p : Left F) : sProp 𝕄 :=
  iprop((Has c scM0_0 p.wu ∗ Has c scM0_1 p.wd ∗ Any F c scM0_2) ∗ (∃ r, prngReg c r) ∗ Idle F c ∗ (halves m c).Held)

/-- Before the first step the launch's own state; later what the step before left. -/
def Inv (c : Dev nD) : (n : ℕ) → n ≤ cfg0.N → sProp 𝕄
  | 0, _ => Pipeline.ΦD osem0 spec0 H0 (V m) c
  | n + 1, hn => Between m c (left m c n hn)

theorem Inv_zero (c : Dev nD) (n : ℕ) (h : n ≤ cfg0.N) (hz : n = 0) : Inv m c n h = Pipeline.ΦD osem0 spec0 H0 (V m)
  c := by
  subst hz; rfl

theorem Inv_pos (c : Dev nD) (n : ℕ) (h : n ≤ cfg0.N) (hz : n ≠ 0) :
    Inv m c n h = Between m c (left m c (n - 1) (by omega)) := by
  cases n with
  | zero => exact absurd rfl hz
  | succ n => rfl

/-- The launch's data: the arrays as the launch finds them, and what every step leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (left m c t.val t.isLt).act
    | ⟨8, _⟩ => (left m c t.val t.isLt).dff
    | ⟨9, _⟩ => (left m c t.val t.isLt).dup
    | ⟨10, _⟩ => (left m c t.val t.isLt).dx1
    | ⟨11, _⟩ => (left m c t.val t.isLt).dmix
    | ⟨12, _⟩ => (left m c t.val t.isLt).loss
    | ⟨13, _⟩ => (left m c t.val t.isLt).g4
    | ⟨14, _⟩ => (left m c t.val t.isLt).g3
    | ⟨15, _⟩ => (left m c t.val t.isLt).g2
    | ⟨_ + 16, h⟩ => absurd h (Nat.not_lt.2 (Nat.le_add_left _ _))
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (left m c t.val t.isLt).act := by dsimp only
  [dats]
theorem after_8 (c : Dev nD) (t : Fin cfg0.N) : (dats m 0 c).after 8 t = (left m c t.val t.isLt).dff := by dsimp only
  [dats]
theorem after_9 (c : Dev nD) (t : Fin cfg0.N) : (dats m 0 c).after 9 t = (left m c t.val t.isLt).dup := by dsimp only
  [dats]
theorem after_10 (c : Dev nD) (t : Fin cfg0.N) : (dats m 0 c).after 10 t = (left m c t.val t.isLt).dx1 := by dsimp
  only [dats]
theorem after_11 (c : Dev nD) (t : Fin cfg0.N) : (dats m 0 c).after 11 t = (left m c t.val t.isLt).dmix := by dsimp
  only [dats]
theorem after_12 (c : Dev nD) (t : Fin cfg0.N) : (dats m 0 c).after 12 t = (left m c t.val t.isLt).loss := by dsimp
  only [dats]
theorem after_13 (c : Dev nD) (t : Fin cfg0.N) : (dats m 0 c).after 13 t = (left m c t.val t.isLt).g4 := by dsimp
  only [dats]
theorem after_14 (c : Dev nD) (t : Fin cfg0.N) : (dats m 0 c).after 14 t = (left m c t.val t.isLt).g3 := by dsimp
  only [dats]
theorem after_15 (c : Dev nD) (t : Fin cfg0.N) : (dats m 0 c).after 15 t = (left m c t.val t.isLt).g2 := by dsimp
  only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_12 (c : Dev nD) (t : Fin cfg0.N) (h0 : ¬t.val % 16 = 0) (d) : (dats m 0 c).before 12 t d
    = (left m c (t.val - 1) (Nat.lt_of_le_of_lt (Nat.sub_le _ _) t.isLt)).loss := by
  have hN : t.val < 16 := lt_of_lt_of_eq t.isLt (show cfg0.N = 16 from N_0)
  rw [Dat.before_out_kept _ 12 rfl t (by omega)
    (Bool.eq_false_iff.mpr fun h => by have := (flush0_12 _).mp h; dsimp only at this; omega) (fun _ => rfl) (fun _ _
      => rfl)]
  dsimp only [dats]
theorem before_13 (c : Dev nD) (t : Fin cfg0.N) (h0 : ¬t.val % 16 = 0) (d) : (dats m 0 c).before 13 t d
    = (left m c (t.val - 1) (Nat.lt_of_le_of_lt (Nat.sub_le _ _) t.isLt)).g4 := by
  have hN : t.val < 16 := lt_of_lt_of_eq t.isLt (show cfg0.N = 16 from N_0)
  rw [Dat.before_out_kept _ 13 rfl t (by omega)
    (Bool.eq_false_iff.mpr fun h => by have := (flush0_13 _).mp h; dsimp only at this; omega) (fun _ => rfl) (fun _ _
      => rfl)]
  dsimp only [dats]
theorem before_14 (c : Dev nD) (t : Fin cfg0.N) (h0 : ¬t.val % 16 = 0) (d) : (dats m 0 c).before 14 t d
    = (left m c (t.val - 1) (Nat.lt_of_le_of_lt (Nat.sub_le _ _) t.isLt)).g3 := by
  have hN : t.val < 16 := lt_of_lt_of_eq t.isLt (show cfg0.N = 16 from N_0)
  rw [Dat.before_out_kept _ 14 rfl t (by omega)
    (Bool.eq_false_iff.mpr fun h => by have := (flush0_14 _).mp h; dsimp only at this; omega) (fun _ => rfl) (fun _ _
      => rfl)]
  dsimp only [dats]
theorem before_15 (c : Dev nD) (t : Fin cfg0.N) (h0 : ¬t.val % 16 = 0) (d) : (dats m 0 c).before 15 t d
    = (left m c (t.val - 1) (Nat.lt_of_le_of_lt (Nat.sub_le _ _) t.isLt)).g2 := by
  have hN : t.val < 16 := lt_of_lt_of_eq t.isLt (show cfg0.N = 16 from N_0)
  rw [Dat.before_out_kept _ 15 rfl t (by omega)
    (Bool.eq_false_iff.mpr fun h => by have := (flush0_15 _).mp h; dsimp only at this; omega) (fun _ => rfl) (fun _ _
      => rfl)]
  dsimp only [dats]

/-- What a step is called with, -/
def bodyPre (c : Dev nD) (t : Fin cfg0.N) : sProp 𝕄 :=
  iprop((dats m 0 c).Φ t.castSucc ∗ (dats m 0 c).owesAt () t.castSucc ∗ (∃ d, Has c (ms0_0 t) ((dats m 0 c).before 0
    t d)) ∗ (∃ d, Has c (ms0_1 t) ((dats m 0 c).before 1 t d)) ∗ (∃ d, Has c (ms0_2 t) ((dats m 0 c).before 2 t d)) ∗
      (∃ d, Has c (ms0_3 t) ((dats m 0 c).before 3 t d)) ∗ (∃ d, Has c (ms0_4 t) ((dats m 0 c).before 4 t d)) ∗ (∃ d,
      Has c (ms0_5 t) ((dats m 0 c).before 5 t d)) ∗ (∃ d, Has c (ms0_6 t) ((dats m 0 c).before 6 t d)) ∗ (∃ d, Has c
      (ms0_7 t) ((dats m 0 c).before 7 t d)) ∗ (∃ d, Has c (ms0_8 t) ((dats m 0 c).before 8 t d)) ∗ (∃ d, Has c
      (ms0_9 t) ((dats m 0 c).before 9 t d)) ∗ (∃ d, Has c (ms0_10 t) ((dats m 0 c).before 10 t d)) ∗ (∃ d, Has c
      (ms0_11 t) ((dats m 0 c).before 11 t d)) ∗ (∃ d, Has c (ms0_12 t) ((dats m 0 c).before 12 t d)) ∗ (∃ d, Has c
      (ms0_13 t) ((dats m 0 c).before 13 t d)) ∗ (∃ d, Has c (ms0_14 t) ((dats m 0 c).before 14 t d)) ∗ (∃ d, Has c
      (ms0_15 t) ((dats m 0 c).before 15 t d)))

/-- and what it returns. -/
def bodyPost (c : Dev nD) (t : Fin cfg0.N) : sProp 𝕄 :=
  iprop((dats m 0 c).Φ t.succ ∗ (dats m 0 c).owesAt () t.succ ∗ Has c (ms0_0 t) ((dats m 0 c).after 0 t) ∗ Has c
    (ms0_1 t) ((dats m 0 c).after 1 t) ∗ Has c (ms0_2 t) ((dats m 0 c).after 2 t) ∗ Has c (ms0_3 t) ((dats m 0
      c).after 3 t) ∗ Has c (ms0_4 t) ((dats m 0 c).after 4 t) ∗ Has c (ms0_5 t) ((dats m 0 c).after 5 t) ∗ Has c
      (ms0_6 t) ((dats m 0 c).after 6 t) ∗ Has c (ms0_7 t) ((dats m 0 c).after 7 t) ∗ Has c (ms0_8 t) ((dats m 0
      c).after 8 t) ∗ Has c (ms0_9 t) ((dats m 0 c).after 9 t) ∗ Has c (ms0_10 t) ((dats m 0 c).after 10 t) ∗ Has c
      (ms0_11 t) ((dats m 0 c).after 11 t) ∗ Has c (ms0_12 t) ((dats m 0 c).after 12 t) ∗ Has c (ms0_13 t) ((dats m 0
      c).after 13 t) ∗ Has c (ms0_14 t) ((dats m 0 c).after 14 t) ∗ Has c (ms0_15 t) ((dats m 0 c).after 15 t))

/-- The stores of the first step cover the buffers. -/
theorem coverFirst (c : Dev nD) (t : Fin cfg0.N) (h0 : t.val % 16 = 0) :
      (∀ y, ∃ q ∈ (firstAt m c t h0).1.1, y ∈ q.1.set) ∧
      (∀ y, ∃ q ∈ (firstAt m c t h0).1.2.1, y ∈ q.1.set) ∧
      (∀ y, ∃ q ∈ (firstAt m c t h0).1.2.2.1, y ∈ q.1.set) ∧
      (∀ y, ∃ q ∈ (firstAt m c t h0).1.2.2.2.1, y ∈ q.1.set) ∧
      (∀ y, ∃ q ∈ (firstAt m c t h0).1.2.2.2.2.1, y ∈ q.1.set) ∧
      (∀ y, ∃ q ∈ (firstAt m c t h0).1.2.2.2.2.2.1, y ∈ q.1.set) ∧
      (∀ y, ∃ q ∈ (firstAt m c t h0).1.2.2.2.2.2.2.1, y ∈ q.1.set) ∧
      (∀ y, ∃ q ∈ (firstAt m c t h0).1.2.2.2.2.2.2.2.1, y ∈ q.1.set) ∧
      (∀ y, ∃ q ∈ (firstAt m c t h0).1.2.2.2.2.2.2.2.2.1, y ∈ q.1.set) ∧
      (∀ y, ∃ q ∈ (firstAt m c t h0).1.2.2.2.2.2.2.2.2.2.1, y ∈ q.1.set) ∧
      (∀ y, ∃ q ∈ (firstAt m c t h0).1.2.2.2.2.2.2.2.2.2.2.1, y ∈ q.1.set) := by
  refine ⟨?_, ?_, ?_, ?_, ?_, ?_, ?_, ?_, ?_, ?_, ?_⟩
  · exact fun y => View.cover_of_tiledL (firstAt m c t h0).1.1 S256x1024.size (by sl_kernel_rfl) y
  · exact fun y => View.cover_of_tiledL (firstAt m c t h0).1.2.1 S256x1024.size (by sl_kernel_rfl) y
  · exact fun y => View.cover_of_tiledL (firstAt m c t h0).1.2.2.1 S256x1024.size (by sl_kernel_rfl) y
  · exact fun y => View.cover_of_tiledL (firstAt m c t h0).1.2.2.2.1 S256x1024.size (by sl_kernel_rfl) y
  · exact fun y => View.cover_of_tiledL (firstAt m c t h0).1.2.2.2.2.1 S256x1024.size (by sl_kernel_rfl) y
  · exact fun y => View.cover_of_tiledL (firstAt m c t h0).1.2.2.2.2.2.1 S8x128.size (by sl_kernel_rfl) y
  · exact fun y => View.cover_of_tiledL (firstAt m c t h0).1.2.2.2.2.2.2.1 S1x1024.size (by sl_kernel_rfl) y
  · exact fun y => View.cover_of_tiledL (firstAt m c t h0).1.2.2.2.2.2.2.2.1 S1x1024.size (by sl_kernel_rfl) y
  · exact fun y => View.cover_of_tiledL (firstAt m c t h0).1.2.2.2.2.2.2.2.2.1 S1x1024.size (by sl_kernel_rfl) y
  · exact fun y => View.cover_of_tiledL (firstAt m c t h0).1.2.2.2.2.2.2.2.2.2.1 S4x512x1024.size (by sl_kernel_rfl) y
  · exact fun y => View.cover_of_tiledL (firstAt m c t h0).1.2.2.2.2.2.2.2.2.2.2.1 S4x512x1024.size (by
    sl_kernel_rfl) y

/-- The stores of a later step cover the buffers. -/
theorem coverLater (c : Dev nD) (t : Fin cfg0.N) (h0 : ¬t.val % 16 = 0) (p : Left F) :
      (∀ y, ∃ q ∈ (laterAt m c t h0 p).1.1, y ∈ q.1.set) ∧
      (∀ y, ∃ q ∈ (laterAt m c t h0 p).1.2.1, y ∈ q.1.set) ∧
      (∀ y, ∃ q ∈ (laterAt m c t h0 p).1.2.2.1, y ∈ q.1.set) ∧
      (∀ y, ∃ q ∈ (laterAt m c t h0 p).1.2.2.2.1, y ∈ q.1.set) ∧
      (∀ y, ∃ q ∈ (laterAt m c t h0 p).1.2.2.2.2.1, y ∈ q.1.set) ∧
      (∀ y, ∃ q ∈ (laterAt m c t h0 p).1.2.2.2.2.2.1, y ∈ q.1.set) ∧
      (∀ y, ∃ q ∈ (laterAt m c t h0 p).1.2.2.2.2.2.2.1, y ∈ q.1.set) ∧
      (∀ y, ∃ q ∈ (laterAt m c t h0 p).1.2.2.2.2.2.2.2.1, y ∈ q.1.set) ∧
      (∀ y, ∃ q ∈ (laterAt m c t h0 p).1.2.2.2.2.2.2.2.2.1, y ∈ q.1.set) := by
  refine ⟨?_, ?_, ?_, ?_, ?_, ?_, ?_, ?_, ?_⟩
  · exact fun y => View.cover_of_tiledL (laterAt m c t h0 p).1.1 S256x1024.size (by sl_kernel_rfl) y
  · exact fun y => View.cover_of_tiledL (laterAt m c t h0 p).1.2.1 S256x1024.size (by sl_kernel_rfl) y
  · exact fun y => View.cover_of_tiledL (laterAt m c t h0 p).1.2.2.1 S256x1024.size (by sl_kernel_rfl) y
  · exact fun y => View.cover_of_tiledL (laterAt m c t h0 p).1.2.2.2.1 S256x1024.size (by sl_kernel_rfl) y
  · exact fun y => View.cover_of_tiledL (laterAt m c t h0 p).1.2.2.2.2.1 S256x1024.size (by sl_kernel_rfl) y
  · exact fun y => View.cover_of_tiledL (laterAt m c t h0 p).1.2.2.2.2.2.1 S8x128.size (by sl_kernel_rfl) y
  · exact fun y => View.cover_of_tiledL (laterAt m c t h0 p).1.2.2.2.2.2.2.1 S1x1024.size (by sl_kernel_rfl) y
  · exact fun y => View.cover_of_tiledL (laterAt m c t h0 p).1.2.2.2.2.2.2.2.1 S1x1024.size (by sl_kernel_rfl) y
  · exact fun y => View.cover_of_tiledL (laterAt m c t h0 p).1.2.2.2.2.2.2.2.2.1 S1x1024.size (by sl_kernel_rfl) y

set_option maxHeartbeats 1000000 in
/-- Every step, from what it is called with to what it returns. -/
theorem sound_body (c : Dev nD) (t : Fin cfg0.N) :
    bodyPre m c t ⊢ wp frame (wpE (defs₀ (F := F)) Variants.none c none) Set.univ (bodyAt0 t) (fun _ => bodyPost m c
      t) := by
  unfold bodyPre bodyPost bodyAt0
  simp only [before_0, before_1, before_2, before_3, before_4, before_5, before_6]
  rw [show (dats m 0 c).Φ t.succ = Between m c (left m c t.val t.isLt) from rfl,
    show (dats m 0 c).Φ t.castSucc = Inv m c t.val (Nat.le_of_lt t.isLt) from Pipeline.Dat.Φ_castSucc (Inv m c) t,
    after_0, after_1, after_2, after_3, after_4, after_5, after_6, after_7, after_8, after_9, after_10, after_11,
      after_12, after_13, after_14, after_15]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · have hz : t.val = 0 := by omega
    · rw [Inv_zero m c _ _ hz, PhiD0_eq, left_first m c t h0]
      unfold first; dsimp only
      obtain ⟨v7, v8, v9, v10, v11, v12, v13, v14, v15, u0, u1⟩ := coverFirst m c t h0
      generalize firstAt m c t h0 = r at *
      iintro ⟨⟨⟨S0, S1, S2⟩, Hg, Hq, Hh⟩, ⟨%W, -, HW⟩, ⟨%d0, H0⟩, ⟨%d1, H1⟩, ⟨%d2, H2⟩, ⟨%d3, H3⟩, ⟨%d4, H4⟩, ⟨%d5,
        H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14,
          H14⟩, ⟨%d15, H15⟩⟩
      iapply r.2 W _
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [S0]; · iexact S0
      isplitl [S1]; · iexact S1
      isplitl [S2]; · iexact S2
      isplitl [Hq]; · iexact Hq
      isplitl [Hh]; · iexact Hh
      isplitl [HW]; · iexact HW
      iintro ⟨H0, H1, H2, H3, H4, H5, H6, H7, H8, H9, H10, H11, H12, H13, H14, H15, S0, S1, S2, Hq, Hh, ⟨%W', HW'⟩⟩
      isplitl [S0 S1 S2 Hg Hq Hh]
      · isplitl [S0 S1 S2]
        · isplitl [S0]; · iapply (put_has c scM0_0 VS0_0 u0); iexact S0
          isplitl [S1]; · iapply (put_has c scM0_1 VS0_1 u1); iexact S1
          icases S2 with ⟨%f2, S2⟩
          iexists _; unfold owns; iexists _; isplitr
          swap; · iexact S2
          ipureintro; rfl
        isplitl [Hg]; · iexact Hg
        isplitl [Hq]; · iexact Hq
        iexact Hh
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iapply (put_has c (ms0_7 t) VO0_7 v7); iexact H7
      isplitl [H8]; · iapply (put_has c (ms0_8 t) VO0_8 v8); iexact H8
      isplitl [H9]; · iapply (put_has c (ms0_9 t) VO0_9 v9); iexact H9
      isplitl [H10]; · iapply (put_has c (ms0_10 t) VO0_10 v10); iexact H10
      isplitl [H11]; · iapply (put_has c (ms0_11 t) VO0_11 v11); iexact H11
      isplitl [H12]; · iapply (put_has c (ms0_12 t) VO0_12 v12); iexact H12
      isplitl [H13]; · iapply (put_has c (ms0_13 t) VO0_13 v13); iexact H13
      isplitl [H14]; · iapply (put_has c (ms0_14 t) VO0_14 v14); iexact H14
      iapply (put_has c (ms0_15 t) VO0_15 v15); iexact H15
  · have hz : t.val ≠ 0 := by omega
    · rw [Inv_pos m c _ _ hz, left_later m c t h0]
      simp only [before_12 m c t h0, before_13 m c t h0, before_14 m c t h0, before_15 m c t h0]
      unfold later; dsimp only
      generalize left m c (t.val - 1) (Nat.lt_of_le_of_lt (Nat.sub_le _ _) t.isLt) = p
      obtain ⟨v7, v8, v9, v10, v11, v12, v13, v14, v15⟩ := coverLater m c t h0 p
      generalize laterAt m c t h0 p = r at *
      iintro ⟨⟨⟨S0, S1, S2⟩, Hg, Hq, Hh⟩, ⟨%W, -, HW⟩, ⟨%d0, H0⟩, ⟨%d1, H1⟩, ⟨%d2, H2⟩, ⟨%d3, H3⟩, ⟨%d4, H4⟩, ⟨%d5,
        H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14,
          H14⟩, ⟨%d15, H15⟩⟩
      iapply r.2 W _
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexact H12
      isplitl [H13]; · iexact H13
      isplitl [H14]; · iexact H14
      isplitl [H15]; · iexact H15
      isplitl [S0]; · iexact S0
      isplitl [S1]; · iexact S1
      isplitl [S2]; · iexact S2
      isplitl [Hq]; · iexact Hq
      isplitl [Hh]; · iexact Hh
      isplitl [HW]; · iexact HW
      iintro ⟨H0, H1, H2, H3, H4, H5, H6, H7, H8, H9, H10, H11, H12, H13, H14, H15, S0, S1, S2, Hq, Hh, ⟨%W', HW'⟩⟩
      isplitl [S0 S1 S2 Hg Hq Hh]
      · isplitl [S0 S1 S2]
        · isplitl [S0]; · iexact S0
          isplitl [S1]; · iexact S1
          icases S2 with ⟨%f2, S2⟩
          iexists _; unfold owns; iexists _; isplitr
          swap; · iexact S2
          ipureintro; rfl
        isplitl [Hg]; · iexact Hg
        isplitl [Hq]; · iexact Hq
        iexact Hh
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iapply (put_has c (ms0_7 t) VO0_7 v7); iexact H7
      isplitl [H8]; · iapply (put_has c (ms0_8 t) VO0_8 v8); iexact H8
      isplitl [H9]; · iapply (put_has c (ms0_9 t) VO0_9 v9); iexact H9
      isplitl [H10]; · iapply (put_has c (ms0_10 t) VO0_10 v10); iexact H10
      isplitl [H11]; · iapply (put_has c (ms0_11 t) VO0_11 v11); iexact H11
      isplitl [H12]; · iapply (put_has c (ms0_12 t) VO0_12 v12); iexact H12
      isplitl [H13]; · iapply (put_has c (ms0_13 t) VO0_13 v13); iexact H13
      isplitl [H14]; · iapply (put_has c (ms0_14 t) VO0_14 v14); iexact H14
      iapply (put_has c (ms0_15 t) VO0_15 v15); iexact H15

/-- The library's form of it. -/
theorem body_obligation (c : Dev nD) : BodyObligation (dats (F := F) m 0 c) (defs₀ (F := F)) Variants.none ()
  Set.univ := fun t => by
  have row : defs₀ (F := F) .tc cfg0.body (cfg0.bodyArgs t (cfg0.slots t)) = bodyAt0 t := by unfold defs₀; rw
    [Defs.onTc_tc]
  rw [bigSep_W0, bigSep_W0, row]
  exact triple_restated (sound_body m c t) rfl .rfl fun _ => .rfl

theorem hin (c : Dev nD) : Pipeline.ΦD osem0 spec0 H0 (V m) c ⊢ (dats m 0 c).Φ 0 := by
  rw [show (dats m 0 c).Φ 0 = Inv m c 0 (Nat.zero_le _) from rfl, Inv_zero m c 0 _ rfl]

/-- At the end what the weight buffers hold is forgotten. -/
theorem hout (c : Dev nD) : (dats m 0 c).Φ (Fin.last cfg0.N) ⊢ Pipeline.ΦD osem0 spec0 H0 (V m) c := by
  rw [show (dats m 0 c).Φ (Fin.last cfg0.N) = Inv m c cfg0.N (le_refl _) from rfl,
    Inv_pos m c _ _ (by rw [show cfg0.N = 16 from N_0]; decide), PhiD0_eq]
  iintro ⟨⟨S0, S1, S2⟩, Hg, Hq, Hh⟩
  isplitl [S0 S1 S2]
  · isplitl [S0]; · iexists _; iexact S0
    isplitl [S1]; · iexists _; iexact S1
    iexact S2
  isplitl [Hg]; · iexact Hg
  isplitl [Hq]; · iexact Hq
  iexact Hh

set_option backward.isDefEq.respectTransparency.types false in
/-- The launch: every run ends, every array at what the steps make of it, every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0
    H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- Every run ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run m ρ)) ((θ_run defs _ _).mono (fun _ h => h.2) (run_quiescent m ρ))

end Cert.Kernel4Ideal.Mlp

end
-- ==== Proof.MlpMath.lean ====
/- The squared-ReLU block's forward lines, loss and gradients for one token, as functions of its rows and the weights. -/
module

public import proofs.«01_k».proof.Proof.Norm
public import proofs.«01_k».proof.Proof.Consts

@[expose] public section

noncomputable section

namespace Cert.Mlp

open Idealize.ShloMosaic
open Cert.Norm

abbrev Vec1024 := Fin 1024 → EReal

/-- The gains of the three norms and the two weight matrices. -/
structure Weights where
  g2 : Vec1024
  g3 : Vec1024
  g4 : Vec1024
  up : Fin 1024 → Fin 4096 → EReal
  down : Fin 4096 → Fin 1024 → EReal

/-- A token's rows: the block's input, the mixers' output, the target. -/
structure Token where
  x : Vec1024
  mix : Vec1024
  target : Vec1024

abbrev N : EReal := Ideal.ofBits .f32 0x44800000#32
abbrev E : EReal := Ideal.ofBits .f32 0x358637BD#32

def rho (v : Vec1024) : EReal := Ideal.rsqrt (msq v N E)

variable (w : Weights) (p : Token)

def x1 (k : Fin 1024) : EReal := p.x k + p.mix k * rho p.mix * w.g2 k
def h2 (k : Fin 1024) : EReal := x1 w p k * rho (x1 w p) * w.g3 k
def lin (f : Fin 4096) : EReal := ∑ k, h2 w p k * w.up k f
def relu (f : Fin 4096) : EReal := max (lin w p f) 0
def act (f : Fin 4096) : EReal := relu w p f * relu w p f
def ff (k : Fin 1024) : EReal := ∑ f, act w p f * w.down f k
def err (k : Fin 1024) : EReal := x1 w p k + ff w p k * rho (ff w p) * w.g4 k - p.target k
def dy (k : Fin 1024) : EReal := err w p k * Ideal.ofBits .f32 0x3A800000#32
def dff (k : Fin 1024) : EReal := back (ff w p) (fun j => dy w p j * w.g4 j) N (rho (ff w p)) k
def dup (f : Fin 4096) : EReal := (∑ k, dff w p k * w.down f k) * (Ideal.ofBits .f32 0x40000000#32 * relu w p f)
def dh (k : Fin 1024) : EReal := ∑ f, dup w p f * w.up k f
def dx1 (k : Fin 1024) : EReal := dy w p k + back (x1 w p) (fun j => dh w p j * w.g3 j) N (rho (x1 w p)) k
def dmix (k : Fin 1024) : EReal := back p.mix (fun j => dx1 w p j * w.g2 j) N (rho p.mix) k
def gain4 (k : Fin 1024) : EReal := dy w p k * (ff w p k * rho (ff w p))
def gain3 (k : Fin 1024) : EReal := dh w p k * (x1 w p k * rho (x1 w p))
def gain2 (k : Fin 1024) : EReal := dx1 w p k * (p.mix k * rho p.mix)

def loss : EReal := ∑ k, err w p k * err w p k * Ideal.ofBits .f32 0x3A000000#32

structure Weights.Real : Prop where
  g2 : ∀ k, IsReal (w.g2 k)
  g3 : ∀ k, IsReal (w.g3 k)
  g4 : ∀ k, IsReal (w.g4 k)
  up : ∀ k f, IsReal (w.up k f)
  down : ∀ f k, IsReal (w.down f k)

structure Token.Real : Prop where
  x : ∀ k, IsReal (p.x k)
  mix : ∀ k, IsReal (p.mix k)
  target : ∀ k, IsReal (p.target k)

theorem rho_real {v : Vec1024} (h : ∀ k, IsReal (v k)) : IsReal (rho v) := by
  unfold rho N E
  rw [Consts.n_eq, Consts.eps_eq]
  exact rsqrt_msq_isReal h (by norm_num) (by norm_num)

theorem back_real {v d : Vec1024} (h : ∀ k, IsReal (v k)) (hd : ∀ k, IsReal (d k)) (k : Fin 1024) : IsReal (back v d N (rho v) k) := by
  have hs : IsReal (∑ k, d k * (v k * rho v)) := IsReal.sum fun k => (hd k).mul ((h k).mul (rho_real h))
  obtain ⟨a, ha⟩ := hs
  unfold back
  rw [ha, N, Consts.n_eq, div_real (by norm_num)]
  exact (rho_real h).mul ((hd k).sub (((h k).mul (rho_real h)).mul (IsReal.coe _)))

theorem scale_eq : Ideal.ofBits .f32 0x3A800000#32 = ((1 / 1024 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem halfLoss_eq : Ideal.ofBits .f32 0x3A000000#32 = ((1 / 2048 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num

variable {w p}

theorem x1_real (hw : w.Real) (hp : p.Real) (k) : IsReal (x1 w p k) := (hp.x k).add (((hp.mix k).mul (rho_real hp.mix)).mul (hw.g2 k))
theorem h2_real (hw : w.Real) (hp : p.Real) (k) : IsReal (h2 w p k) := ((x1_real hw hp k).mul (rho_real (x1_real hw hp))).mul (hw.g3 k)
theorem relu_real (hw : w.Real) (hp : p.Real) (f) : IsReal (relu w p f) := (IsReal.sum fun k => (h2_real hw hp k).mul (hw.up k f)).max IsReal.zero
theorem ff_real (hw : w.Real) (hp : p.Real) (k) : IsReal (ff w p k) :=
  IsReal.sum fun f => ((relu_real hw hp f).mul (relu_real hw hp f)).mul (hw.down f k)
theorem err_real (hw : w.Real) (hp : p.Real) (k) : IsReal (err w p k) :=
  ((x1_real hw hp k).add (((ff_real hw hp k).mul (rho_real (ff_real hw hp))).mul (hw.g4 k))).sub (hp.target k)
theorem dy_real (hw : w.Real) (hp : p.Real) (k) : IsReal (dy w p k) := (err_real hw hp k).mul (by rw [scale_eq]; exact IsReal.coe _)
theorem dff_real (hw : w.Real) (hp : p.Real) (k) : IsReal (dff w p k) :=
  back_real (ff_real hw hp) (fun j => (dy_real hw hp j).mul (hw.g4 j)) k
theorem dup_real (hw : w.Real) (hp : p.Real) (f) : IsReal (dup w p f) :=
  (IsReal.sum fun k => (dff_real hw hp k).mul (hw.down f k)).mul ((by rw [two_eq]; exact IsReal.coe _ : IsReal _).mul (relu_real hw hp f))
theorem dh_real (hw : w.Real) (hp : p.Real) (k) : IsReal (dh w p k) := IsReal.sum fun f => (dup_real hw hp f).mul (hw.up k f)
theorem dx1_real (hw : w.Real) (hp : p.Real) (k) : IsReal (dx1 w p k) :=
  (dy_real hw hp k).add (back_real (x1_real hw hp) (fun j => (dh_real hw hp j).mul (hw.g3 j)) k)

/-- The reference's three terms of a norm's gradient are the kernel's product. -/
theorem terms_eq {v d : Vec1024} (hv : ∀ k, IsReal (v k)) (hd : ∀ k, IsReal (d k)) (k : Fin 1024) :
    d k * rho v + v k * slope v d N (Ideal.ofBits .f32 0xBF000000#32) (rho v) (msq v N E)
      + slope v d N (Ideal.ofBits .f32 0xBF000000#32) (rho v) (msq v N E) * v k = back v d N (rho v) k := by
  unfold rho N E
  rw [Consts.n_eq, Consts.eps_eq, Consts.half_eq, back_eq hv hd (by norm_num) (by norm_num), add_assoc]

/-- The loss's gradient: the reference halves the mean of the squares and doubles the error, the kernel scales the error. -/
theorem dy_eq (hw : w.Real) (hp : p.Real) (k : Fin 1024) :
    Ideal.div (Ideal.ofBits .f32 0x3F000000#32 * Ideal.ofBits .f32 0x3F800000#32) N * (Ideal.ofBits .f32 0x40000000#32 * err w p k) = dy w p k := by
  obtain ⟨e, he⟩ := err_real hw hp k
  unfold dy N
  rw [he, half_eq, one_eq, two_eq, scale_eq, Consts.n_eq, ← EReal.coe_mul, div_real (by norm_num)]
  simp only [← EReal.coe_mul]
  congr 1; ring

/-- A gradient that passes a positive input only is that times the ReLU's value, which is zero elsewhere. -/
theorem select_relu (f : Fin 4096) (d : EReal) :
    (if 0 < lin w p f then d * (Ideal.ofBits .f32 0x40000000#32 * relu w p f) else 0) = d * (Ideal.ofBits .f32 0x40000000#32 * relu w p f) := by
  split
  · rfl
  · rename_i h
    rw [relu, max_eq_right (not_lt.1 h), mul_zero, mul_zero]

/-- The loss: the reference averages each row's squares and halves the sum, the kernel scales the sum over a block. -/
theorem loss_eq (e : Fin 2 → Fin 2048 → Vec1024) (he : ∀ i j k, IsReal (e i j k)) :
    Ideal.ofBits .f32 0x3F000000#32 * ∑ i, ∑ j, Ideal.div (∑ k, e i j k * e i j k) N
      = ∑ i, ∑ j, ∑ k, e i j k * e i j k * Ideal.ofBits .f32 0x3A000000#32 := by
  choose r hr using he
  obtain rfl : e = fun i j k => (r i j k : EReal) := funext fun i => funext fun j => funext fun k => hr i j k
  unfold N
  rw [half_eq, halfLoss_eq, Consts.n_eq]
  simp only [← EReal.coe_mul, coe_sum, div_real (show (1024 : ℝ) ≠ 0 by norm_num), EReal.coe_eq_coe_iff, Finset.mul_sum, Finset.sum_div]
  refine Finset.sum_congr rfl fun i _ => Finset.sum_congr rfl fun j _ => Finset.sum_congr rfl fun k _ => ?_
  ring

end Cert.Mlp

end
-- ==== Proof.MlpRef.lean ====
/- The reference's values of the squared-ReLU block, entry by entry, as the functions of MlpMath. -/
module

public import proofs.«01_k».proof.Proof.Gen.Reference4Ideal.Read
public import Idealize.ShloMosaic.Lib.Pipeline.ValueKit
public import Idealize.ShloMosaic.Lib.Pointwise
public import proofs.«01_k».proof.Proof.MlpMath
public import proofs.«01_k».proof.Proof.Columns

@[expose] public section

set_option maxRecDepth 16384

noncomputable section

namespace Cert.Mlp.Ref

open Idealize.ShloMosaic Idealize.ShloMosaic.TcCoe Cert.Reference4Ideal
open Cert.Reference4Ideal.Read Cert.Norm

variable (x0 x1 : (⟨S2x2048x1024, .f32⟩ : BufTy).Contents (Elt Ideal)) (x2 x3 : (⟨S1x1024, .f32⟩ : BufTy).Contents (Elt Ideal))
  (x4 : (⟨S1x1024x4096, .f32⟩ : BufTy).Contents (Elt Ideal)) (x5 : (⟨S1x4096x1024, .f32⟩ : BufTy).Contents (Elt Ideal))
  (x6 : (⟨S1x1024, .f32⟩ : BufTy).Contents (Elt Ideal)) (x7 : (⟨S2x2048x1024, .f32⟩ : BufTy).Contents (Elt Ideal))

/-- The weights among the arguments. -/
def W : Weights where
  g2 k := x2 (ix2 0 k)
  g3 k := x3 (ix2 0 k)
  g4 k := x6 (ix2 0 k)
  up k f := x4 (ix3 0 k f)
  down f k := x5 (ix3 0 f k)

/-- Token `s` of sequence `q`. -/
def T (q : Fin 2) (s : Fin 2048) : Token where
  x k := x0 (ix3 q s k)
  mix k := x1 (ix3 q s k)
  target k := x7 (ix3 q s k)

theorem v15_eq (q : Fin 2) (s : Fin 2048) (k : Fin 1024) : val_main_v15 (F := Ideal) x2 (ix3 q s k) = x2 (ix2 0 k) := by
  pointwise [val_main_v15, val_main_v14, val_main_v0]
theorem v33_eq (q : Fin 2) (s : Fin 2048) (k : Fin 1024) : val_main_v33 (F := Ideal) x3 (ix3 q s k) = x3 (ix2 0 k) := by
  pointwise [val_main_v33, val_main_v32, val_main_v18]
theorem v61_eq (q : Fin 2) (s : Fin 2048) (k : Fin 1024) : val_main_v61 (F := Ideal) x6 (ix3 q s k) = x6 (ix2 0 k) := by
  pointwise [val_main_v61, val_main_v60, val_main_v46]
theorem v82_eq (q : Fin 2) (s : Fin 2048) (k : Fin 1024) : val_main_v82 (F := Ideal) x6 (ix3 q s k) = x6 (ix2 0 k) := by
  pointwise [val_main_v82, val_main_v60, val_main_v46]
theorem v108_eq (q : Fin 2) (s : Fin 2048) (k : Fin 1024) : val_main_v108 (F := Ideal) x3 (ix3 q s k) = x3 (ix2 0 k) := by
  pointwise [val_main_v108, val_main_v32, val_main_v18]
theorem v130_eq (q : Fin 2) (s : Fin 2048) (k : Fin 1024) : val_main_v130 (F := Ideal) x2 (ix3 q s k) = x2 (ix2 0 k) := by
  pointwise [val_main_v130, val_main_v14, val_main_v0]
theorem v35_eq (k : Fin 1024) (f : Fin 4096) : val_main_v35 (F := Ideal) x4 (ix2 k f) = x4 (ix3 0 k f) := by
  pointwise [val_main_v35]
theorem v44_eq (f : Fin 4096) (k : Fin 1024) : val_main_v44 (F := Ideal) x5 (ix2 f k) = x5 (ix3 0 f k) := by
  pointwise [val_main_v44]

section Forward

variable (q : Fin 2) (s : Fin 2048)

theorem v7_eq : val_main_v7 (F := Ideal) x1 (ix3 q s 0) = msq (fun k => x1 (ix3 q s k)) N E := by
  pointwise [val_main_v7, val_main_v6, val_main_v5, val_main_v4, val_main_v3, val_main_v2, val_main_v1, val_main_cst, val_main_cst_0, val_main_cst_1, msq]

theorem v8_eq : val_main_v8 (F := Ideal) x1 (ix3 q s 0) = rho (T x0 x1 x7 q s).mix := by
  rw [val_main_v8_apply, v7_eq]; rfl

theorem idx12 (k : Fin 1024) : idx_main_v12 (ix3 q s k) = ix3 q s 0 := by blk_ext

theorem v13_eq (k : Fin 1024) : val_main_v13 (F := Ideal) x1 (ix3 q s k) = x1 (ix3 q s k) * rho (T x0 x1 x7 q s).mix := by
  rw [val_main_v13_apply, val_main_v12_apply, idx12, v8_eq x0 x1 x7]; rfl

theorem v17_eq (k : Fin 1024) : val_main_v17 (F := Ideal) x0 x1 x2 (ix3 q s k) = Mlp.x1 (W x2 x3 x4 x5 x6) (T x0 x1 x7 q s) k := by
  rw [val_main_v17_apply, val_main_v16_apply, v13_eq x0 x1 x7, v15_eq]; rfl

theorem idx21 (k : Fin 1024) : idx_main_v20 (idx_main_v21 (ix3 q s 0)) k = ix3 q s k := by blk_ext
theorem idx49 (k : Fin 1024) : idx_main_v48 (idx_main_v49 (ix3 q s 0)) k = ix3 q s k := by blk_ext

theorem v25_eq : val_main_v25 (F := Ideal) x0 x1 x2 (ix3 q s 0) = msq (Mlp.x1 (W x2 x3 x4 x5 x6) (T x0 x1 x7 q s)) N E := by
  have h : (fun k => val_main_v17 (F := Ideal) x0 x1 x2 (ix3 q s k)) = Mlp.x1 (W x2 x3 x4 x5 x6) (T x0 x1 x7 q s) := funext fun k => v17_eq x0 x1 x2 x3 x4 x5 x6 x7 q s k
  rw [← h]
  simp only [val_main_v25_apply, val_main_v23_apply, val_main_v21_apply, val_main_v20_apply, val_main_v19_apply]
  generalize val_main_v17 (F := Ideal) x0 x1 x2 = d
  pointwise [val_main_v24, val_main_v22, val_main_cst_3, val_main_cst_4, val_main_cst_5, msq]
  simp only [idx21]

theorem v26_eq : val_main_v26 (F := Ideal) x0 x1 x2 (ix3 q s 0) = rho (Mlp.x1 (W x2 x3 x4 x5 x6) (T x0 x1 x7 q s)) := by
  rw [val_main_v26_apply, v25_eq x0 x1 x2 x3 x4 x5 x6 x7]; rfl

theorem idx30 (k : Fin 1024) : idx_main_v30 (ix3 q s k) = ix3 q s 0 := by blk_ext

theorem v31_eq (k : Fin 1024) : val_main_v31 (F := Ideal) x0 x1 x2 (ix3 q s k) = Mlp.x1 (W x2 x3 x4 x5 x6) (T x0 x1 x7 q s) k * rho (Mlp.x1 (W x2 x3 x4 x5 x6) (T x0 x1 x7 q s)) := by
  rw [val_main_v31_apply, val_main_v30_apply, idx30, v26_eq x0 x1 x2 x3 x4 x5 x6 x7, v17_eq x0 x1 x2 x3 x4 x5 x6 x7]; rfl

theorem v34_eq (k : Fin 1024) : val_main_v34 (F := Ideal) x0 x1 x2 x3 (ix3 q s k) = h2 (W x2 x3 x4 x5 x6) (T x0 x1 x7 q s) k := by
  rw [val_main_v34_apply, v31_eq x0 x1 x2 x3 x4 x5 x6 x7, v33_eq]; rfl

theorem v36_eq (f : Fin 4096) : val_main_v36 (F := Ideal) x0 x1 x2 x3 x4 (ix3 q s f) = lin (W x2 x3 x4 x5 x6) (T x0 x1 x7 q s) f := by
  rw [val_main_v36_apply]
  refine Finset.sum_congr rfl fun k _ => ?_
  refine congrArg₂ (· * ·) (Eq.trans (congrArg _ ?_) (v34_eq x0 x1 x2 x3 x4 x5 x6 x7 q s k)) (Eq.trans (congrArg _ ?_) (v35_eq x4 k f))
  · blk_ext
  · blk_ext

theorem v37_eq (f : Fin 4096) : val_main_v37 (F := Ideal) x0 x1 x2 x3 x4 (ix3 q s f) = relu (W x2 x3 x4 x5 x6) (T x0 x1 x7 q s) f := by
  rw [val_main_v37_apply, v36_eq x0 x1 x2 x3 x4 x5 x6 x7]
  generalize hl : lin (W x2 x3 x4 x5 x6) (T x0 x1 x7 q s) f = l
  rw [relu, hl]
  pointwise [val_main_call0_v0, val_main_call0_cst]

theorem v41_eq (f : Fin 4096) : val_main_v41 (F := Ideal) x0 x1 x2 x3 x4 (ix3 q s f) = act (W x2 x3 x4 x5 x6) (T x0 x1 x7 q s) f := by
  rw [val_main_v41_apply, v37_eq x0 x1 x2 x3 x4 x5 x6 x7]; rfl

theorem v43_eq (f : Fin 4096) : val_main_v43 (F := Ideal) x0 x1 x2 x3 x4 (ix3 q s f) = Ideal.ofBits .f32 0x40000000#32 * relu (W x2 x3 x4 x5 x6) (T x0 x1 x7 q s) f := by
  rw [val_main_v43_apply, v37_eq x0 x1 x2 x3 x4 x5 x6 x7]
  generalize relu (W x2 x3 x4 x5 x6) (T x0 x1 x7 q s) f = l
  pointwise [val_main_v42, val_main_cst_9]

theorem v45_eq (k : Fin 1024) : val_main_v45 (F := Ideal) x0 x1 x2 x3 x4 x5 (ix3 q s k) = ff (W x2 x3 x4 x5 x6) (T x0 x1 x7 q s) k := by
  rw [val_main_v45_apply]
  refine Finset.sum_congr rfl fun f _ => ?_
  refine congrArg₂ (· * ·) (Eq.trans (congrArg _ ?_) (v41_eq x0 x1 x2 x3 x4 x5 x6 x7 q s f)) (Eq.trans (congrArg _ ?_) (v44_eq x5 f k))
  · blk_ext
  · blk_ext

theorem v53_eq : val_main_v53 (F := Ideal) x0 x1 x2 x3 x4 x5 (ix3 q s 0) = msq (ff (W x2 x3 x4 x5 x6) (T x0 x1 x7 q s)) N E := by
  have h : (fun k => val_main_v45 (F := Ideal) x0 x1 x2 x3 x4 x5 (ix3 q s k)) = ff (W x2 x3 x4 x5 x6) (T x0 x1 x7 q s) := funext fun k => v45_eq x0 x1 x2 x3 x4 x5 x6 x7 q s k
  rw [← h]
  simp only [val_main_v53_apply, val_main_v51_apply, val_main_v49_apply, val_main_v48_apply, val_main_v47_apply]
  generalize val_main_v45 (F := Ideal) x0 x1 x2 x3 x4 x5 = d
  pointwise [val_main_v52, val_main_v50, val_main_cst_10, val_main_cst_11, val_main_cst_12, msq]
  simp only [idx49]

theorem v54_eq : val_main_v54 (F := Ideal) x0 x1 x2 x3 x4 x5 (ix3 q s 0) = rho (ff (W x2 x3 x4 x5 x6) (T x0 x1 x7 q s)) := by
  rw [val_main_v54_apply, v53_eq x0 x1 x2 x3 x4 x5 x6 x7]; rfl

theorem idx58 (k : Fin 1024) : idx_main_v58 (ix3 q s k) = ix3 q s 0 := by blk_ext

theorem v59_eq (k : Fin 1024) : val_main_v59 (F := Ideal) x0 x1 x2 x3 x4 x5 (ix3 q s k) = ff (W x2 x3 x4 x5 x6) (T x0 x1 x7 q s) k * rho (ff (W x2 x3 x4 x5 x6) (T x0 x1 x7 q s)) := by
  rw [val_main_v59_apply, val_main_v58_apply, idx58, v54_eq x0 x1 x2 x3 x4 x5 x6 x7, v45_eq x0 x1 x2 x3 x4 x5 x6 x7]; rfl

theorem v64_eq (k : Fin 1024) : val_main_v64 (F := Ideal) x0 x1 x2 x3 x4 x5 x6 x7 (ix3 q s k) = err (W x2 x3 x4 x5 x6) (T x0 x1 x7 q s) k := by
  rw [val_main_v64_apply, val_main_v63_apply, val_main_v62_apply, v59_eq x0 x1 x2 x3 x4 x5 x6 x7, v61_eq, v17_eq x0 x1 x2 x3 x4 x5 x6 x7]; rfl

end Forward

section Backward

variable (hw : (W x2 x3 x4 x5 x6).Real) (hp : ∀ q s, (T x0 x1 x7 q s).Real) (q : Fin 2) (s : Fin 2048)
include hw hp

theorem v78_eq (k : Fin 1024) : val_main_v78 (F := Ideal) x0 x1 x2 x3 x4 x5 x6 x7 (ix3 q s k) = dy (W x2 x3 x4 x5 x6) (T x0 x1 x7 q s) k := by
  rw [← dy_eq hw (hp q s), val_main_v78_apply, val_main_v67_apply, v64_eq]
  generalize err (W x2 x3 x4 x5 x6) (T x0 x1 x7 q s) k = e
  pointwise [val_main_v77, val_main_v76, val_main_v75, val_main_v74, val_main_v73, val_main_v66, val_main_cst_14, val_main_cst_19, val_main_cst_20, val_main_cst_21]

theorem v83_eq (k : Fin 1024) : val_main_v83 (F := Ideal) x0 x1 x2 x3 x4 x5 x6 x7 (ix3 q s k) = dy (W x2 x3 x4 x5 x6) (T x0 x1 x7 q s) k * x6 (ix2 0 k) := by
  rw [val_main_v83_apply, v78_eq x0 x1 x2 x3 x4 x5 x6 x7 hw hp, v82_eq]; rfl

omit hw hp in
theorem idx94 (k : Fin 1024) : idx_main_v93 (idx_main_v94 (ix3 q s k)) 0 = ix3 q s 0 := by blk_ext
omit hw hp in
theorem idx87 (k : Fin 1024) : idx_main_v86 (idx_main_v87 (ix3 q s 0)) k = ix3 q s k := by blk_ext
omit hw hp in
theorem idx88 (k : Fin 1024) : idx_main_v88 (ix3 q s k) = ix3 q s 0 := by blk_ext

theorem v94_eq (k : Fin 1024) : val_main_v94 (F := Ideal) x0 x1 x2 x3 x4 x5 x6 x7 (ix3 q s k)
    = Norm.slope (ff (W x2 x3 x4 x5 x6) (T x0 x1 x7 q s)) (fun k => dy (W x2 x3 x4 x5 x6) (T x0 x1 x7 q s) k * x6 (ix2 0 k)) N (Ideal.ofBits .f32 0xBF000000#32)
        (rho (ff (W x2 x3 x4 x5 x6) (T x0 x1 x7 q s))) (msq (ff (W x2 x3 x4 x5 x6) (T x0 x1 x7 q s)) N E) := by
  have h1 : (fun k => val_main_v45 (F := Ideal) x0 x1 x2 x3 x4 x5 (ix3 q s k)) = ff (W x2 x3 x4 x5 x6) (T x0 x1 x7 q s) := funext fun k => v45_eq x0 x1 x2 x3 x4 x5 x6 x7 q s k
  have h2 := funext fun k => v83_eq x0 x1 x2 x3 x4 x5 x6 x7 hw hp q s k
  rw [← h2, ← v53_eq x0 x1 x2 x3 x4 x5 x6 x7, ← v54_eq x0 x1 x2 x3 x4 x5 x6 x7, ← h1]
  simp only [val_main_v94_apply, val_main_v93_apply, val_main_v92_apply, val_main_v90_apply, val_main_v87_apply, val_main_v86_apply, val_main_v85_apply, val_main_v57_apply, val_main_v55_apply]
  generalize val_main_v83 (F := Ideal) x0 x1 x2 x3 x4 x5 x6 x7 = d
  generalize val_main_v45 (F := Ideal) x0 x1 x2 x3 x4 x5 = f
  generalize val_main_v54 (F := Ideal) x0 x1 x2 x3 x4 x5 = r
  generalize val_main_v53 (F := Ideal) x0 x1 x2 x3 x4 x5 = v
  pointwise [val_main_v56, val_main_v91, val_main_cst_13, val_main_cst_24, val_main_cst_25, val_main_cst_26, Norm.slope]
  refine (Fin.sum_univ_one _).trans ?_
  simp only [idx94, idx87]

theorem v98_eq (k : Fin 1024) : val_main_v98 (F := Ideal) x0 x1 x2 x3 x4 x5 x6 x7 (ix3 q s k) = dff (W x2 x3 x4 x5 x6) (T x0 x1 x7 q s) k := by
  rw [val_main_v98_apply, val_main_v97_apply, val_main_v96_apply, val_main_v95_apply, val_main_v89_apply, val_main_v88_apply, idx88,
    v94_eq x0 x1 x2 x3 x4 x5 x6 x7 hw hp, v83_eq x0 x1 x2 x3 x4 x5 x6 x7 hw hp, v54_eq x0 x1 x2 x3 x4 x5 x6 x7, v45_eq x0 x1 x2 x3 x4 x5 x6 x7]
  exact terms_eq (ff_real hw (hp q s)) (fun j => (dy_real hw (hp q s) j).mul (hw.g4 j)) k

theorem v103_eq (f : Fin 4096) : val_main_v103 (F := Ideal) x0 x1 x2 x3 x4 x5 x6 x7 (ix3 q s f) = dup (W x2 x3 x4 x5 x6) (T x0 x1 x7 q s) f := by
  have h100 : val_main_v100 (F := Ideal) x0 x1 x2 x3 x4 x5 x6 x7 (ix3 q s f) = ∑ k, dff (W x2 x3 x4 x5 x6) (T x0 x1 x7 q s) k * x5 (ix3 0 f k) := by
    rw [val_main_v100_apply]
    refine Finset.sum_congr rfl fun k _ => ?_
    refine congrArg₂ (· * ·) (Eq.trans (congrArg _ ?_) (v98_eq x0 x1 x2 x3 x4 x5 x6 x7 hw hp q s k)) (Eq.trans (congrArg _ ?_) (v44_eq x5 f k))
    · blk_ext
    · blk_ext
  rw [val_main_v103_apply, val_main_v101_apply, val_main_v39_apply, h100, v43_eq x0 x1 x2 x3 x4 x5 x6 x7, v36_eq x0 x1 x2 x3 x4 x5 x6 x7, dup, ← select_relu]
  change _ = if 0 < _ then (∑ k, dff (W x2 x3 x4 x5 x6) (T x0 x1 x7 q s) k * x5 (ix3 0 f k)) * _ else 0
  generalize (∑ k, dff (W x2 x3 x4 x5 x6) (T x0 x1 x7 q s) k * x5 (ix3 0 f k)) = d
  generalize lin (W x2 x3 x4 x5 x6) (T x0 x1 x7 q s) f = l
  generalize relu (W x2 x3 x4 x5 x6) (T x0 x1 x7 q s) f = r
  pointwise [val_main_v38, val_main_v102, val_main_cst_7, val_main_cst_27]

theorem v104_eq (k : Fin 1024) : val_main_v104 (F := Ideal) x0 x1 x2 x3 x4 x5 x6 x7 (ix3 q s k) = dh (W x2 x3 x4 x5 x6) (T x0 x1 x7 q s) k := by
  rw [val_main_v104_apply]
  refine Finset.sum_congr rfl fun f _ => ?_
  refine congrArg₂ (· * ·) (Eq.trans (congrArg _ ?_) (v103_eq x0 x1 x2 x3 x4 x5 x6 x7 hw hp q s f)) (Eq.trans (congrArg _ ?_) (v35_eq x4 k f))
  · blk_ext
  · blk_ext

theorem v109_eq (k : Fin 1024) : val_main_v109 (F := Ideal) x0 x1 x2 x3 x4 x5 x6 x7 (ix3 q s k) = dh (W x2 x3 x4 x5 x6) (T x0 x1 x7 q s) k * x3 (ix2 0 k) := by
  rw [val_main_v109_apply, v104_eq x0 x1 x2 x3 x4 x5 x6 x7 hw hp, v108_eq]; rfl

omit hw hp in
theorem idx121 (k : Fin 1024) : idx_main_v120 (idx_main_v121 (ix3 q s k)) 0 = ix3 q s 0 := by blk_ext
omit hw hp in
theorem idx113 (k : Fin 1024) : idx_main_v112 (idx_main_v113 (ix3 q s 0)) k = ix3 q s k := by blk_ext
omit hw hp in
theorem idx114 (k : Fin 1024) : idx_main_v114 (ix3 q s k) = ix3 q s 0 := by blk_ext

theorem v121_eq (k : Fin 1024) : val_main_v121 (F := Ideal) x0 x1 x2 x3 x4 x5 x6 x7 (ix3 q s k)
    = Norm.slope (Mlp.x1 (W x2 x3 x4 x5 x6) (T x0 x1 x7 q s)) (fun k => dh (W x2 x3 x4 x5 x6) (T x0 x1 x7 q s) k * x3 (ix2 0 k)) N (Ideal.ofBits .f32 0xBF000000#32)
        (rho (Mlp.x1 (W x2 x3 x4 x5 x6) (T x0 x1 x7 q s))) (msq (Mlp.x1 (W x2 x3 x4 x5 x6) (T x0 x1 x7 q s)) N E) := by
  have h1 : (fun k => val_main_v17 (F := Ideal) x0 x1 x2 (ix3 q s k)) = Mlp.x1 (W x2 x3 x4 x5 x6) (T x0 x1 x7 q s) := funext fun k => v17_eq x0 x1 x2 x3 x4 x5 x6 x7 q s k
  have h2 := funext fun k => v109_eq x0 x1 x2 x3 x4 x5 x6 x7 hw hp q s k
  rw [← h2, ← v25_eq x0 x1 x2 x3 x4 x5 x6 x7, ← v26_eq x0 x1 x2 x3 x4 x5 x6 x7, ← h1]
  simp only [val_main_v121_apply, val_main_v120_apply, val_main_v119_apply, val_main_v117_apply, val_main_v113_apply, val_main_v112_apply, val_main_v111_apply, val_main_v29_apply, val_main_v27_apply]
  generalize val_main_v109 (F := Ideal) x0 x1 x2 x3 x4 x5 x6 x7 = d
  generalize val_main_v26 (F := Ideal) x0 x1 x2 = r
  generalize val_main_v25 (F := Ideal) x0 x1 x2 = v
  generalize val_main_v17 (F := Ideal) x0 x1 x2 = f
  pointwise [val_main_v28, val_main_v118, val_main_cst_6, val_main_cst_30, val_main_cst_31, val_main_cst_32, Norm.slope]
  refine (Fin.sum_univ_one _).trans ?_
  simp only [idx121, idx113]

theorem v125_eq (k : Fin 1024) : val_main_v125 (F := Ideal) x0 x1 x2 x3 x4 x5 x6 x7 (ix3 q s k) = dx1 (W x2 x3 x4 x5 x6) (T x0 x1 x7 q s) k := by
  rw [val_main_v125_apply, val_main_v124_apply, val_main_v123_apply, val_main_v122_apply, val_main_v116_apply, val_main_v115_apply, val_main_v114_apply, idx114,
    v121_eq x0 x1 x2 x3 x4 x5 x6 x7 hw hp, v109_eq x0 x1 x2 x3 x4 x5 x6 x7 hw hp, v26_eq x0 x1 x2 x3 x4 x5 x6 x7, v17_eq x0 x1 x2 x3 x4 x5 x6 x7, v78_eq x0 x1 x2 x3 x4 x5 x6 x7 hw hp]
  have h := terms_eq (x1_real hw (hp q s)) (fun j => (dh_real hw (hp q s) j).mul (hw.g3 j)) k
  rw [dx1, ← h, ← add_assoc, ← add_assoc]
  rfl

theorem v131_eq (k : Fin 1024) : val_main_v131 (F := Ideal) x0 x1 x2 x3 x4 x5 x6 x7 (ix3 q s k) = dx1 (W x2 x3 x4 x5 x6) (T x0 x1 x7 q s) k * x2 (ix2 0 k) := by
  rw [val_main_v131_apply, v125_eq x0 x1 x2 x3 x4 x5 x6 x7 hw hp, v130_eq]; rfl

omit hw hp in
theorem idx142 (k : Fin 1024) : idx_main_v141 (idx_main_v142 (ix3 q s k)) 0 = ix3 q s 0 := by blk_ext
omit hw hp in
theorem idx135 (k : Fin 1024) : idx_main_v134 (idx_main_v135 (ix3 q s 0)) k = ix3 q s k := by blk_ext
omit hw hp in
theorem idx136 (k : Fin 1024) : idx_main_v136 (ix3 q s k) = ix3 q s 0 := by blk_ext

theorem v142_eq (k : Fin 1024) : val_main_v142 (F := Ideal) x0 x1 x2 x3 x4 x5 x6 x7 (ix3 q s k)
    = Norm.slope (T x0 x1 x7 q s).mix (fun k => dx1 (W x2 x3 x4 x5 x6) (T x0 x1 x7 q s) k * x2 (ix2 0 k)) N (Ideal.ofBits .f32 0xBF000000#32)
        (rho (T x0 x1 x7 q s).mix) (msq (T x0 x1 x7 q s).mix N E) := by
  have h2 := funext fun k => v131_eq x0 x1 x2 x3 x4 x5 x6 x7 hw hp q s k
  rw [← h2, ← v8_eq x0 x1 x7, show (T x0 x1 x7 q s).mix = fun k => x1 (ix3 q s k) from rfl, ← v7_eq]
  simp only [val_main_v142_apply, val_main_v141_apply, val_main_v140_apply, val_main_v138_apply, val_main_v135_apply, val_main_v134_apply, val_main_v133_apply, val_main_v11_apply, val_main_v9_apply]
  generalize val_main_v131 (F := Ideal) x0 x1 x2 x3 x4 x5 x6 x7 = d
  generalize val_main_v8 (F := Ideal) x1 = r
  generalize val_main_v7 (F := Ideal) x1 = v
  pointwise [val_main_v10, val_main_v139, val_main_cst_2, val_main_cst_35, val_main_cst_36, val_main_cst_37, Norm.slope]
  refine (Fin.sum_univ_one _).trans ?_
  simp only [idx142, idx135]

theorem v146_eq (k : Fin 1024) : val_main_v146 (F := Ideal) x0 x1 x2 x3 x4 x5 x6 x7 (ix3 q s k) = dmix (W x2 x3 x4 x5 x6) (T x0 x1 x7 q s) k := by
  rw [val_main_v146_apply, val_main_v145_apply, val_main_v144_apply, val_main_v143_apply, val_main_v137_apply, val_main_v136_apply, idx136,
    v142_eq x0 x1 x2 x3 x4 x5 x6 x7 hw hp, v131_eq x0 x1 x2 x3 x4 x5 x6 x7 hw hp, v8_eq x0 x1 x7]
  exact terms_eq (hp q s).mix (fun j => (dx1_real hw (hp q s) j).mul (hw.g2 j)) k

/-- A gain's gradient: the contributions of all tokens. -/
theorem v99_eq (b : Fin 1024) : val_main_v99 (F := Ideal) x0 x1 x2 x3 x4 x5 x6 x7 (ix2 0 b)
    = ∑ q : Fin 2, ∑ s : Fin 2048, gain4 (W x2 x3 x4 x5 x6) (T x0 x1 x7 q s) b := by
  have h99 : idx_main_v99 (ix2 0 b) = ix1 b := by blk_ext
  have h81 : idx_main_v81 (ix3 0 0 b) = ix1 b := by blk_ext
  rw [val_main_v99_apply, h99]
  refine (Columns.reduceAdd _ _ _ _).trans ?_
  rw [Fin.sum_univ_one, Fin.sum_univ_one, val_main_v81_apply, h81]
  refine (congrArg _ (Columns.reduceAdd _ _ _ _)).trans ?_
  pointwise [val_main_cst_22, val_main_cst_23]
  refine Finset.sum_congr rfl fun q _ => Finset.sum_congr rfl fun s _ => ?_
  rw [val_main_v79_apply, v59_eq x0 x1 x2 x3 x4 x5 x6 x7, v78_eq x0 x1 x2 x3 x4 x5 x6 x7 hw hp]
  exact mul_comm _ _

theorem v126_eq (b : Fin 1024) : val_main_v126 (F := Ideal) x0 x1 x2 x3 x4 x5 x6 x7 (ix2 0 b)
    = ∑ q : Fin 2, ∑ s : Fin 2048, gain3 (W x2 x3 x4 x5 x6) (T x0 x1 x7 q s) b := by
  have h126 : idx_main_v126 (ix2 0 b) = ix1 b := by blk_ext
  have h107 : idx_main_v107 (ix3 0 0 b) = ix1 b := by blk_ext
  rw [val_main_v126_apply, h126]
  refine (Columns.reduceAdd _ _ _ _).trans ?_
  rw [Fin.sum_univ_one, Fin.sum_univ_one, val_main_v107_apply, h107]
  refine (congrArg _ (Columns.reduceAdd _ _ _ _)).trans ?_
  pointwise [val_main_cst_28, val_main_cst_29]
  refine Finset.sum_congr rfl fun q _ => Finset.sum_congr rfl fun s _ => ?_
  rw [val_main_v105_apply, v31_eq x0 x1 x2 x3 x4 x5 x6 x7, v104_eq x0 x1 x2 x3 x4 x5 x6 x7 hw hp]
  exact mul_comm _ _

theorem v147_eq (b : Fin 1024) : val_main_v147 (F := Ideal) x0 x1 x2 x3 x4 x5 x6 x7 (ix2 0 b)
    = ∑ q : Fin 2, ∑ s : Fin 2048, gain2 (W x2 x3 x4 x5 x6) (T x0 x1 x7 q s) b := by
  have h147 : idx_main_v147 (ix2 0 b) = ix1 b := by blk_ext
  have h129 : idx_main_v129 (ix3 0 0 b) = ix1 b := by blk_ext
  rw [val_main_v147_apply, h147]
  refine (Columns.reduceAdd _ _ _ _).trans ?_
  rw [Fin.sum_univ_one, Fin.sum_univ_one, val_main_v129_apply, h129]
  refine (congrArg _ (Columns.reduceAdd _ _ _ _)).trans ?_
  pointwise [val_main_cst_33, val_main_cst_34]
  refine Finset.sum_congr rfl fun q _ => Finset.sum_congr rfl fun s _ => ?_
  rw [val_main_v127_apply, v13_eq x0 x1 x7, v125_eq x0 x1 x2 x3 x4 x5 x6 x7 hw hp]
  exact mul_comm _ _

theorem v157_eq (i : S8x128.Idx) : val_main_v157 (F := Ideal) x0 x1 x2 x3 x4 x5 x6 x7 i
    = ∑ q : Fin 2, ∑ s : Fin 2048, loss (W x2 x3 x4 x5 x6) (T x0 x1 x7 q s) := by
  have hr := loss_eq (fun q s => err (W x2 x3 x4 x5 x6) (T x0 x1 x7 q s)) (fun q s => err_real hw (hp q s))
  unfold loss
  rw [← hr, val_main_v157_apply, val_main_v72_apply, val_main_v71_apply]
  refine congrArg₂ (· * ·) rfl ?_
  refine Eq.trans (congrArg₂ (· + ·) (Ideal.ofBits_zero (φ := .f32)) (sum_idx2 _)) ((zero_add _).trans ?_)
  refine Finset.sum_congr rfl fun q _ => Finset.sum_congr rfl fun s _ => ?_
  have h : (fun k => val_main_v64 (F := Ideal) x0 x1 x2 x3 x4 x5 x6 x7 (ix3 q s k)) = err (W x2 x3 x4 x5 x6) (T x0 x1 x7 q s) := funext fun k => v64_eq x0 x1 x2 x3 x4 x5 x6 x7 q s k
  rw [← h]
  simp only [val_main_v70_apply, val_main_v68_apply, val_main_v65_apply]
  generalize val_main_v64 (F := Ideal) x0 x1 x2 x3 x4 x5 x6 x7 = d
  have h68 : ∀ k, idx_main_v68 (ix2 q s) k = ix3 q s k := fun k => by blk_ext
  simp only [h68]
  pointwise [val_main_v69, val_main_cst_15, val_main_cst_16]

end Backward

end Cert.Mlp.Ref

end
-- ==== Proof.MlpPay.lean ====
module

public import proofs.«01_k».proof.Proof.Gen.Kernel4Ideal.Skeleton
public import Idealize.ShloMosaic.Lib.Pipeline.ValueKit
public import Idealize.ShloMosaic.Lib.Pointwise
public import Idealize.ShloMosaic.Lib.Claim
public import proofs.«01_k».proof.Proof.MlpMath

@[expose] public section

set_option maxRecDepth 16384

/-!
# The perceptron's kernel: what the values it computes are

A step of the kernel has 256 tokens in hand, the weights cut into four slabs of 1024 hidden units. Each lemma takes
one value of the kernel's text, knows what the values it is computed from are, and says what it is for each token.
-/

noncomputable section

namespace Cert.Kernel4Ideal.Mlp

open Cert.Kernel4Ideal Cert.Kernel4Ideal.Gen Idealize.ShloMosaic Idealize.ShloMosaic.TcCoe
open Cert.Norm Cert.Mlp

/-- Hidden unit `b` of slab `j`. -/
def unit (j : Fin 4) (b : Fin 1024) : Fin 4096 := ⟨j.val * 1024 + b.val, by omega⟩

/-- A sum over the hidden units, slab by slab. -/
theorem sum_slabs (f : Fin 4096 → EReal) :
    ∑ i, f i = ∑ b, f (unit 0 b) + ∑ b, f (unit 1 b) + ∑ b, f (unit 2 b) + ∑ b, f (unit 3 b) := by
  have h : ∑ j : Fin 4, ∑ b : Fin 1024, f (unit j b) = ∑ i, f i := Fin.sum_mul_add_congr (fun j b hl => rfl)
  rw [← h, Fin.sum_univ_four]

/-- An array of 256 tokens' rows holds these values. -/
abbrev Is (v : S256x1024.Idx → EReal) (f : Fin 256 → Fin 1024 → EReal) : Prop := ∀ a b, v (ix2 a b) = f a b

variable {w : Weights} {p : Fin 256 → Token}

/-- Slab `j` of the first weight matrix, and of the second. -/
abbrev Up (w : Weights) (U : S1x1024x1024.Idx → EReal) (j : Fin 4) : Prop := ∀ k b, U (ix3 0 k b) = w.up k (unit j b)
abbrev Down (w : Weights) (D : S1x1024x1024.Idx → EReal) (j : Fin 4) : Prop := ∀ b k, D (ix3 0 b k) = w.down (unit j
  b) k

theorem pay7_is {v : Vec Ideal S256x1024 .bf16} {U : Vec Ideal S1x1024x1024 .bf16} {j : Fin 4} (h : Is v fun a => h2
  w (p a)) (hU : Up w U j) :
    Is (k0_pay7 (F := Ideal) v U) fun a b => relu w (p a) (unit j b) := by
  intro a b; pointwise [k0_pay7, k0_pay6, relu, lin, h, hU]

theorem pay11_is {v : Vec Ideal S256x1024 .bf16} {U : Vec Ideal S1x1024x1024 .bf16} {j : Fin 4} (h : Is v fun a => h2
  w (p a)) (hU : Up w U j) :
    Is (k0_pay11 (F := Ideal) v U) fun a b => relu w (p a) (unit j b) := by
  intro a b; pointwise [k0_pay11, k0_pay6, relu, lin, h, hU]

theorem pay14_is {v : Vec Ideal S256x1024 .bf16} {U : Vec Ideal S1x1024x1024 .bf16} {j : Fin 4} (h : Is v fun a => h2
  w (p a)) (hU : Up w U j) :
    Is (k0_pay14 (F := Ideal) v U) fun a b => relu w (p a) (unit j b) := by
  intro a b; pointwise [k0_pay14, k0_pay6, relu, lin, h, hU]

theorem pay18_is {v : Vec Ideal S256x1024 .bf16} {U : Vec Ideal S1x1024x1024 .bf16} {j : Fin 4} (h : Is v fun a => h2
  w (p a)) (hU : Up w U j) :
    Is (k0_pay18 (F := Ideal) v U) fun a b => relu w (p a) (unit j b) := by
  intro a b; pointwise [k0_pay18, k0_pay6, relu, lin, h, hU]

theorem pay8_is {v : Vec Ideal S256x1024 .bf16} {U : Vec Ideal S1x1024x1024 .bf16} {j : Fin 4} (h : Is v fun a => h2
  w (p a)) (hU : Up w U j) :
    Is (k0_pay8 (F := Ideal) v U) fun a b => relu w (p a) (unit j b) := by
  intro a b; pointwise [k0_pay8, pay7_is h hU]

theorem pay12_is {v : Vec Ideal S256x1024 .bf16} {U : Vec Ideal S1x1024x1024 .bf16} {j : Fin 4} (h : Is v fun a => h2
  w (p a)) (hU : Up w U j) :
    Is (k0_pay12 (F := Ideal) v U) fun a b => relu w (p a) (unit j b) := by
  intro a b; pointwise [k0_pay12, pay11_is h hU]

theorem pay15_is {v : Vec Ideal S256x1024 .bf16} {U : Vec Ideal S1x1024x1024 .bf16} {j : Fin 4} (h : Is v fun a => h2
  w (p a)) (hU : Up w U j) :
    Is (k0_pay15 (F := Ideal) v U) fun a b => relu w (p a) (unit j b) := by
  intro a b; pointwise [k0_pay15, pay14_is h hU]

theorem pay19_is {v : Vec Ideal S256x1024 .bf16} {U : Vec Ideal S1x1024x1024 .bf16} {j : Fin 4} (h : Is v fun a => h2
  w (p a)) (hU : Up w U j) :
    Is (k0_pay19 (F := Ideal) v U) fun a b => relu w (p a) (unit j b) := by
  intro a b; pointwise [k0_pay19, pay18_is h hU]

theorem pay9_is {v : Vec Ideal S256x1024 .bf16} {U : Vec Ideal S1x1024x1024 .bf16} {j : Fin 4} (h : Is v fun a => h2
  w (p a)) (hU : Up w U j) :
    Is (k0_pay9 (F := Ideal) v U) fun a b => act w (p a) (unit j b) := by
  intro a b; pointwise [k0_pay9, act, pay7_is h hU]

theorem pay13_is {v : Vec Ideal S256x1024 .bf16} {U : Vec Ideal S1x1024x1024 .bf16} {j : Fin 4} (h : Is v fun a => h2
  w (p a)) (hU : Up w U j) :
    Is (k0_pay13 (F := Ideal) v U) fun a b => act w (p a) (unit j b) := by
  intro a b; pointwise [k0_pay13, act, pay11_is h hU]

theorem pay16_is {v : Vec Ideal S256x1024 .bf16} {U : Vec Ideal S1x1024x1024 .bf16} {j : Fin 4} (h : Is v fun a => h2
  w (p a)) (hU : Up w U j) :
    Is (k0_pay16 (F := Ideal) v U) fun a b => act w (p a) (unit j b) := by
  intro a b; pointwise [k0_pay16, act, pay14_is h hU]

theorem pay20_is {v : Vec Ideal S256x1024 .bf16} {U : Vec Ideal S1x1024x1024 .bf16} {j : Fin 4} (h : Is v fun a => h2
  w (p a)) (hU : Up w U j) :
    Is (k0_pay20 (F := Ideal) v U) fun a b => act w (p a) (unit j b) := by
  intro a b; pointwise [k0_pay20, act, pay18_is h hU]

theorem pay6_is {x0 : Vec Ideal S256x1024 .bf16} (h : Is x0 fun a => h2 w (p a))  :
    Is (k0_pay6 (F := Ideal) x0) fun a => h2 w (p a) := by
  intro a b; pointwise [k0_pay6, h]

theorem ff_is {x0 : Vec Ideal S256x1024 .bf16} {U0 U1 U2 U3 D0 D1 D2 D3 : Vec Ideal S1x1024x1024 .bf16} (h : Is x0
  fun a => h2 w (p a)) (u0 : Up w U0 0) (u1 : Up w U1 1) (u2 : Up w U2 2) (u3 : Up w U3 3) (d0 : Down w D0 0) (d1 :
    Down w D1 1) (d2 : Down w D2 2) (d3 : Down w D3 3) :
    Is (k0_pay21 (F := Ideal) (k0_pay17 (F := Ideal) (k0_pay6 x0) (k0_pay10 x0 U0 D0) (k0_pay13 x0 U1) D1 U2 D2)
      (k0_pay20 (k0_pay6 x0) U3) D3) fun a => ff w (p a) := by
  intro a b
  pointwise [k0_pay21, k0_pay17, k0_pay10, pay9_is h u0, pay13_is h u1, pay16_is (pay6_is h) u2, pay20_is (pay6_is h)
    u3, d0, d1, d2, d3]
  exact (sum_slabs fun f => act w (p a) f * w.down f b).symm

theorem err_is {v48 : FVec Ideal S256x1024 .f32} {v58 : FVec Ideal S256x1024 .bf16} {v60 : Vec Ideal S1x1024x1024
  .bf16} {x4 : Vec Ideal S1x1024 .f32} {x1 x3 : Vec Ideal S256x1024 .f32} (hf : Is (k0_pay21 v48 v58 v60) fun a => ff
    w (p a)) (h4 : ∀ b, x4 (ix2 0 b) = w.g4 b) (h1 : Is x1 fun a => Cert.Mlp.x1 w (p a)) (h3 : Is x3 fun a => (p
    a).target) :
    Is (k0_pay23 v48 v58 v60 x4 x1 x3) fun a => err w (p a) := by
  intro a b; pointwise [k0_pay23, k0_pay22, hf, h4, h1, h3, err, rho, msq]

theorem dy_is {v48 : FVec Ideal S256x1024 .f32} {v58 : FVec Ideal S256x1024 .bf16} {v60 : Vec Ideal S1x1024x1024
  .bf16} {x4 : Vec Ideal S1x1024 .f32} {x1 x3 : Vec Ideal S256x1024 .f32} (hf : Is (k0_pay21 v48 v58 v60) fun a => ff
    w (p a)) (h4 : ∀ b, x4 (ix2 0 b) = w.g4 b) (h1 : Is x1 fun a => Cert.Mlp.x1 w (p a)) (h3 : Is x3 fun a => (p
    a).target) :
    Is (k0_pay25 v48 v58 v60 x4 x1 x3) fun a => dy w (p a) := by
  intro a b; pointwise [k0_pay25, err_is hf h4 h1 h3, dy]

theorem pay26_is {v48 : FVec Ideal S256x1024 .f32} {v58 : FVec Ideal S256x1024 .bf16} {v60 : Vec Ideal S1x1024x1024
  .bf16} (hf : Is (k0_pay21 v48 v58 v60) fun a => ff w (p a)) :
    Is (k0_pay26 v48 v58 v60) fun a b => ff w (p a) b * ff w (p a) b := by
  intro a b; pointwise [k0_pay26, hf]

theorem pay27_is {v7 : FVec Ideal S256x1024 .f32} (h7 : Is v7 fun a b => ff w (p a) b * ff w (p a) b) (a : Fin 256) :
    k0_pay27 v7 (ix2 a 0) = rho (ff w (p a)) := by
  pointwise [k0_pay27, h7, rho, msq]

theorem pay28_is {v5 v7 : FVec Ideal S256x1024 .f32} (h5 : Is v5 fun a => ff w (p a)) (h7 : Is v7 fun a b => ff w (p
  a) b * ff w (p a) b) :
    Is (k0_pay28 v5 v7) fun a b => ff w (p a) b * rho (ff w (p a)) := by
  intro a b; pointwise [k0_pay28, pay27_is h7, h5]

theorem dff_is {v5 v6 v7 : FVec Ideal S256x1024 .f32} {x4 : Vec Ideal S1x1024 .f32} (h5 : Is v5 fun a => ff w (p a))
  (h4 : ∀ b, x4 (ix2 0 b) = w.g4 b) (h6 : Is v6 fun a => dy w (p a)) (h7 : Is v7 fun a b => ff w (p a) b * ff w (p a)
    b) :
    Is (k0_pay30 v5 x4 v6 v7) fun a => dff w (p a) := by
  intro a b; pointwise [k0_pay30, pay28_is h5 h7, pay27_is h7, h4, h6, dff, back]

theorem gain4_is {v5 v6 v7 : FVec Ideal S256x1024 .f32} (h5 : Is v5 fun a => ff w (p a)) (h6 : Is v6 fun a => dy w (p
  a)) (h7 : Is v7 fun a b => ff w (p a) b * ff w (p a) b) (acc : Vec Ideal S1x1024 .f32) (b : Fin 1024) :
    k0_pay29 v5 v6 v7 acc (ix2 0 b) = acc (ix2 0 b) + ∑ a, gain4 w (p a) b := by
  pointwise [k0_pay29, pay28_is h5 h7, h6, gain4]

theorem pay32_is {v9 : FVec Ideal S256x1024 .bf16} {D : Vec Ideal S1x1024x1024 .bf16} {R : Vec Ideal S256x1024 .f32}
  {j : Fin 4} (h9 : Is v9 fun a => dff w (p a)) (d : Down w D j) (r : Is R fun a b => relu w (p a) (unit j b)) :
    Is (k0_pay32 v9 D R) fun a b => dup w (p a) (unit j b) := by
  intro a b; pointwise [k0_pay32, h9, d, r, dup]

theorem pay34_is {v9 : FVec Ideal S256x1024 .bf16} {D : Vec Ideal S1x1024x1024 .bf16} {R : Vec Ideal S256x1024 .f32}
  {j : Fin 4} (h9 : Is v9 fun a => dff w (p a)) (d : Down w D j) (r : Is R fun a b => relu w (p a) (unit j b)) :
    Is (k0_pay34 v9 D R) fun a b => dup w (p a) (unit j b) := by
  intro a b; pointwise [k0_pay34, h9, d, r, dup]

theorem pay35_is {v9 : FVec Ideal S256x1024 .bf16} {D : Vec Ideal S1x1024x1024 .bf16} {R : Vec Ideal S256x1024 .f32}
  {j : Fin 4} (h9 : Is v9 fun a => dff w (p a)) (d : Down w D j) (r : Is R fun a b => relu w (p a) (unit j b)) :
    Is (k0_pay35 v9 D R) fun a b => dup w (p a) (unit j b) := by
  intro a b; pointwise [k0_pay35, h9, d, r, dup]

theorem pay31_is {v5 v6 v7 : FVec Ideal S256x1024 .f32} {x4 : Vec Ideal S1x1024 .f32} {D : Vec Ideal S1x1024x1024
  .bf16} {R : Vec Ideal S256x1024 .f32} {j : Fin 4} (h5 : Is v5 fun a => ff w (p a)) (h4 : ∀ b, x4 (ix2 0 b) = w.g4
    b) (h6 : Is v6 fun a => dy w (p a)) (h7 : Is v7 fun a b => ff w (p a) b * ff w (p a) b) (d : Down w D j) (r : Is
    R fun a b => relu w (p a) (unit j b)) :
    Is (k0_pay31 v5 x4 v6 v7 D R) fun a b => dup w (p a) (unit j b) := by
  intro a b; pointwise [k0_pay31, dff_is h5 h4 h6 h7, d, r, dup]

theorem dh_is {v9 v17 v15 : FVec Ideal S256x1024 .bf16} {U0 U1 U2 U3 D1 D3 : Vec Ideal S1x1024x1024 .bf16} {R1 R3 :
  Vec Ideal S256x1024 .f32} (h9 : Is v9 fun a => dff w (p a)) (h17 : Is v17 fun a b => dup w (p a) (unit 0 b)) (h15 :
    Is v15 fun a b => dup w (p a) (unit 2 b)) (u0 : Up w U0 0) (u1 : Up w U1 1) (u2 : Up w U2 2) (u3 : Up w U3 3) (d1
    : Down w D1 1) (d3 : Down w D3 3) (r1 : Is R1 fun a b => relu w (p a) (unit 1 b)) (r3 : Is R3 fun a b => relu w
    (p a) (unit 3 b)) :
    Is (k0_pay36 v9 (k0_pay33 v9 v17 U0 D1 R1 U1) v15 U2 D3 R3 U3) fun a => dh w (p a) := by
  intro a b
  pointwise [k0_pay36, k0_pay33, h17, h15, pay32_is h9 d1 r1, pay35_is h9 d3 r3, u0, u1, u2, u3]
  exact (sum_slabs fun f => dup w (p a) f * w.up b f).symm

theorem pay37_is {x1 : Vec Ideal S256x1024 .f32} (h1 : Is x1 fun a => Cert.Mlp.x1 w (p a)) (a : Fin 256) :
    k0_pay37 (k0_pay22 x1) (ix2 a 0) = rho (Cert.Mlp.x1 w (p a)) := by
  pointwise [k0_pay37, k0_pay22, h1, rho, msq]

theorem pay22_is {x1 : Vec Ideal S256x1024 .f32} (h1 : Is x1 fun a => Cert.Mlp.x1 w (p a)) :
    Is (k0_pay22 x1) fun a => Cert.Mlp.x1 w (p a) := by
  intro a b; pointwise [k0_pay22, h1]

theorem pay38_is {x1 : Vec Ideal S256x1024 .f32} (h1 : Is x1 fun a => Cert.Mlp.x1 w (p a)) :
    Is (k0_pay38 (k0_pay22 x1)) fun a b => Cert.Mlp.x1 w (p a) b * rho (Cert.Mlp.x1 w (p a)) := by
  intro a b; pointwise [k0_pay38, pay37_is h1, pay22_is h1]

theorem pay40_is {x1 : Vec Ideal S256x1024 .f32} (h1 : Is x1 fun a => Cert.Mlp.x1 w (p a)) :
    Is (k0_pay40 (k0_pay22 x1)) fun a b => rho (Cert.Mlp.x1 w (p a)) := by
  intro a b; pointwise [k0_pay40, pay37_is h1]

theorem pay39_is {v9 v15 : FVec Ideal S256x1024 .bf16} {v19 : FVec Ideal S256x1024 .f32} {U2 U3 D3 : Vec Ideal
  S1x1024x1024 .bf16} {R3 : Vec Ideal S256x1024 .f32} {x1 : Vec Ideal S256x1024 .f32} {x5 : Vec Ideal S1x1024 .f32}
    (h : Is (k0_pay36 v9 v19 v15 U2 D3 R3 U3) fun a => dh w (p a)) (h1 : Is x1 fun a => Cert.Mlp.x1 w (p a)) (h5 : ∀
    b, x5 (ix2 0 b) = w.g3 b) :
    Is (k0_pay39 (k0_pay22 x1) v9 v19 v15 U2 D3 R3 U3 x5) fun a b => dh w (p a) b * w.g3 b - Cert.Mlp.x1 w (p a) b *
      rho (Cert.Mlp.x1 w (p a)) * Ideal.div (∑ k, dh w (p a) k * w.g3 k * (Cert.Mlp.x1 w (p a) k * rho (Cert.Mlp.x1 w
        (p a)))) Mlp.N := by
  intro a b; pointwise [k0_pay39, pay38_is h1, h, h5]

theorem dx1_is {v6 v20 v21 : FVec Ideal S256x1024 .f32} (h6 : Is v6 fun a => dy w (p a)) (h20 : Is v20 fun a b => dh
  w (p a) b * w.g3 b - Cert.Mlp.x1 w (p a) b * rho (Cert.Mlp.x1 w (p a)) * Ideal.div (∑ k, dh w (p a) k * w.g3 k *
    (Cert.Mlp.x1 w (p a) k * rho (Cert.Mlp.x1 w (p a)))) Mlp.N) (h21 : Is v21 fun a b => rho (Cert.Mlp.x1 w (p a))) :
    Is (k0_pay41 v6 v20 v21) fun a => dx1 w (p a) := by
  intro a b; pointwise [k0_pay41, h6, h20, h21, dx1, back]

theorem gain3_is {v26 : FVec Ideal S256x1024 .f32} {x1 : Vec Ideal S256x1024 .f32} (h : Is v26 fun a => dh w (p a))
  (h1 : Is x1 fun a => Cert.Mlp.x1 w (p a)) (acc : Vec Ideal S1x1024 .f32) (b : Fin 1024) :
    k0_pay42 v26 (k0_pay38 (k0_pay22 x1)) acc (ix2 0 b) = acc (ix2 0 b) + ∑ a, gain3 w (p a) b := by
  pointwise [k0_pay42, h, pay38_is h1, gain3]

theorem pay44_is {x2 : Vec Ideal S256x1024 .f32} (h2 : Is x2 fun a => (p a).mix) (a : Fin 256) :
    k0_pay44 x2 (ix2 a 0) = rho (p a).mix := by
  pointwise [k0_pay44, k0_pay43, h2, rho, msq]

theorem pay45_is {x2 : Vec Ideal S256x1024 .f32} (h2 : Is x2 fun a => (p a).mix) :
    Is (k0_pay45 x2) fun a b => (p a).mix b * rho (p a).mix := by
  intro a b; pointwise [k0_pay45, pay44_is h2, k0_pay43, h2]

theorem gain2_is {v6 v20 v21 : FVec Ideal S256x1024 .f32} {x2 : Vec Ideal S256x1024 .f32} (h : Is (k0_pay41 v6 v20
  v21) fun a => dx1 w (p a)) (h2 : Is x2 fun a => (p a).mix) (acc : Vec Ideal S1x1024 .f32) (b : Fin 1024) :
    k0_pay1 (k0_pay46 v6 v20 v21 x2) acc (ix2 0 b) = acc (ix2 0 b) + ∑ a, gain2 w (p a) b := by
  pointwise [k0_pay1, k0_pay46, h, pay45_is h2, gain2]

theorem dmix_is {v6 v20 v21 : FVec Ideal S256x1024 .f32} {x2 : Vec Ideal S256x1024 .f32} {x6 : Vec Ideal S1x1024
  .f32} (h : Is (k0_pay41 v6 v20 v21) fun a => dx1 w (p a)) (h2 : Is x2 fun a => (p a).mix) (h6 : ∀ b, x6 (ix2 0 b) =
    w.g2 b) :
    Is (k0_pay47 v6 v20 v21 x2 x6) fun a => dmix w (p a) := by
  intro a b; pointwise [k0_pay47, h, pay45_is h2, pay44_is h2, h6, dmix, back]

theorem loss_is {v48 : FVec Ideal S256x1024 .f32} {v58 : FVec Ideal S256x1024 .bf16} {v60 : Vec Ideal S1x1024x1024
  .bf16} {x4 : Vec Ideal S1x1024 .f32} {x1 x3 : Vec Ideal S256x1024 .f32} (hf : Is (k0_pay21 v48 v58 v60) fun a => ff
    w (p a)) (h4 : ∀ b, x4 (ix2 0 b) = w.g4 b) (h1 : Is x1 fun a => Cert.Mlp.x1 w (p a)) (h3 : Is x3 fun a => (p
    a).target) (acc : Vec Ideal S8x128 .f32) (i : Fin 8) (k : Fin 128) :
    k0_pay24 v48 v58 v60 x4 x1 x3 acc (ix2 i k) = acc (ix2 i k) + (∑ a, ∑ b, err w (p a) b * err w (p a) b) *
      Ideal.ofBits .f32 0x3A000000#32 := by
  pointwise [k0_pay24, err_is hf h4 h1 h3]

theorem pay3_is  (b : Fin 1024) :
    k0_pay3 (F := Ideal) (ix2 0 b) = 0 := by
  pointwise [k0_pay3]

theorem pay4_is  (b : Fin 1024) :
    k0_pay4 (F := Ideal) (ix2 0 b) = 0 := by
  pointwise [k0_pay4]

theorem pay5_is  (b : Fin 1024) :
    k0_pay5 (F := Ideal) (ix2 0 b) = 0 := by
  pointwise [k0_pay5]

theorem pay2_is  (i : Fin 8) (k : Fin 128) :
    k0_pay2 (F := Ideal) (ix2 i k) = 0 := by
  pointwise [k0_pay2]

end Cert.Kernel4Ideal.Mlp

end
-- ==== Proof.MlpStep.lean ====
module

public import proofs.«01_k».proof.Proof.Gen.Kernel4Ideal.Skeleton
public import Idealize.ShloMosaic.Lib.Pipeline.ValueKit
public import Idealize.ShloMosaic.Lib.Pointwise
public import Idealize.ShloMosaic.Lib.Claim
public import Idealize.ShloMosaic.Lib.Ring
public import proofs.«01_k».proof.Proof.MlpPay

@[expose] public section

set_option maxRecDepth 16384

/-!
# The perceptron's kernel: what a step computes

From the blocks and the weights that a step has in hand to every result it leaves.
-/

noncomputable section

namespace Cert.Kernel4Ideal.Mlp

open Cert.Kernel4Ideal Cert.Kernel4Ideal.Gen Idealize.ShloMosaic Idealize.ShloMosaic.TcCoe
open Cert.Norm Cert.Mlp

variable {w : Weights} {p : Fin 256 → Token}

/-! ## Slabs and tiles -/

/-- Entry `(a, b)` of the tile of 1024 columns that begins at column `1024 j`. -/
theorem tile_at (j : Fin 4) {o : ℕ} (ho : o = j.val * 1024) (inb) (a : Fin 256) (b : Fin 1024) :
    (Rect.unit (s := S256x4096) ![0, o] ![256, 1024] inb).idx (ix2 a b) = ix2 a (unit j b) := by
  subst ho
  blk_ext [unit]
  all_goals simp [Rect.unit, LoadRect.idx]

/-- Entry `(a, b)` of slab `j`. -/
theorem slab_at (j : Fin 4) {o : ℕ} (ho : o = j.val) (inb) (a b : Fin 1024) :
    (Rect.unit (s := S4x1024x1024) ![o, 0, 0] ![1, 1024, 1024] inb).idx (ix3 0 a b) = ix3 j a b := by
  subst ho
  blk_ext [unit]
  all_goals simp [Rect.unit, LoadRect.idx]

/-- A buffer of 4096 columns stored in four tiles, each a tile of `G`, holds `G`. -/
theorem tiles {e : EltTy} (G : Fin 256 → Fin 4096 → Elt Ideal e) {T0 T1 T2 T3 : S256x1024.Idx → Elt Ideal e} {i0 i1
  i2 i3}
    (t0 : ∀ a b, T0 (ix2 a b) = G a (unit 0 b)) (t1 : ∀ a b, T1 (ix2 a b) = G a (unit 1 b))
    (t2 : ∀ a b, T2 (ix2 a b) = G a (unit 2 b)) (t3 : ∀ a b, T3 (ix2 a b) = G a (unit 3 b)) (a : Fin 256) (b : Fin
      4096) :
    View.canon (Val := Elt Ideal) (s := S256x4096) (e := e)
      [⟨Rect.unit ![0, 3072] ![256, 1024] i3, T3⟩, ⟨Rect.unit ![0, 2048] ![256, 1024] i2, T2⟩,
        ⟨Rect.unit ![0, 1024] ![256, 1024] i1, T1⟩, ⟨Rect.unit ![0, 0] ![256, 1024] i0, T0⟩] (ix2 a b) = G a b := by
  canon_tiles x h using (View.cover_of_tiledL _ ![256, 1024] (by sl_kernel_rfl) _)
  all_goals
    idx_vars x
    obtain rfl : a = x0 := Fin.ext h0
  · exact (t3 _ _).trans (congrArg (G a) (Fin.ext h1.symm))
  · exact (t2 _ _).trans (congrArg (G a) (Fin.ext h1.symm))
  · exact (t1 _ _).trans (congrArg (G a) (Fin.ext h1.symm))
  · exact (t0 _ _).trans (congrArg (G a) (Fin.ext (show 0 * 1024 + x1.val = b.val by omega)))

theorem slab_inb (j : Fin 4) : ∀ a : Fin 3, (![j.val, 0, 0] : Fin 3 → ℕ) a + (![1, 1024, 1024] : Fin 3 → ℕ) a ≤
  S4x1024x1024.size a := by
  intro a; fin_cases j <;> fin_cases a <;> decide

theorem tile_inb (j : Fin 4) : ∀ a : Fin 2, (![0, j.val * 1024] : Fin 2 → ℕ) a + (![256, 1024] : Fin 2 → ℕ) a ≤
  S256x4096.size a := by
  intro a; fin_cases j <;> fin_cases a <;> decide

/-- Slab `j` of the weight buffers, and tile `j` of a buffer of 4096 columns. -/
abbrev slabRect (j : Fin 4) : Rect S4x1024x1024 := Rect.unit ![j.val, 0, 0] ![1, 1024, 1024] (slab_inb j)
abbrev tileRect (j : Fin 4) : Rect S256x4096 := Rect.unit ![0, j.val * 1024] ![256, 1024] (tile_inb j)

/-- The four stores of a buffer of 4096 columns. -/
abbrev four {e : EltTy} (T0 T1 T2 T3 : S256x1024.Idx → Elt Ideal e) : List (View.Piece (Elt Ideal) S256x4096 e) :=
  [⟨Rect.unit ![0, 3072] ![256, 1024] inb_S256x4096_S256x1024_0_3072, T3⟩,
    ⟨Rect.unit ![0, 2048] ![256, 1024] inb_S256x4096_S256x1024_0_2048, T2⟩,
    ⟨Rect.unit ![0, 1024] ![256, 1024] inb_S256x4096_S256x1024_0_1024, T1⟩,
    ⟨Rect.unit ![0, 0] ![256, 1024] inb_S256x4096_S256x1024_0_0, T0⟩]

/-- A weight buffer stored in two halves of 512 rows. -/
abbrev two (P0 P1 : S4x512x1024.Idx → Elt Ideal .bf16) : List (View.Piece (Elt Ideal) S4x1024x1024 .bf16) :=
  [⟨Rect.unit ![0, 512, 0] ![4, 512, 1024] inb_S4x1024x1024_S4x512x1024_0_512_0, P1⟩,
    ⟨Rect.unit ![0, 0, 0] ![4, 512, 1024] inb_S4x1024x1024_S4x512x1024_0_0_0, P0⟩]

theorem halves_canon (G : Fin 4 → Fin 1024 → Fin 1024 → EReal) {P0 P1 : S4x512x1024.Idx → Elt Ideal .bf16}
    (t0 : ∀ j (a : Fin 512) b, P0 (ix3 j a b) = G j ⟨a.val, by omega⟩ b)
    (t1 : ∀ j (a : Fin 512) b, P1 (ix3 j a b) = G j ⟨512 + a.val, by omega⟩ b) (j : Fin 4) (a b : Fin 1024) :
    View.canon (Val := Elt Ideal) (two P0 P1) (ix3 j a b) = G j a b := by
  canon_tiles x h using (View.cover_of_tiledL _ ![4, 512, 1024] (by sl_kernel_rfl) _)
  all_goals
    idx_vars x
    obtain rfl : j = x0 := Fin.ext h0
    obtain rfl : b = x2 := Fin.ext h2
  · exact (t1 _ _ _).trans (congrArg (G j · b) (Fin.ext h1.symm))
  · exact (t0 _ _ _).trans (congrArg (G j · b) (Fin.ext h1.symm))

/-- The whole of a weight buffer. -/
abbrev UpAll (w : Weights) (X : S4x1024x1024.Idx → EReal) : Prop := ∀ j a b, X (ix3 j a b) = w.up a (unit j b)
abbrev DownAll (w : Weights) (X : S4x1024x1024.Idx → EReal) : Prop := ∀ j a b, X (ix3 j a b) = w.down (unit j a) b

theorem up_slab {X : S4x1024x1024.Idx → Elt Ideal .bf16} (h : UpAll w X) (j : Fin 4) : Up w (View.ld X (slabRect j))
  j := fun k b => by
  rw [View.ld_apply, slab_at j rfl]; exact h j k b
theorem down_slab {X : S4x1024x1024.Idx → Elt Ideal .bf16} (h : DownAll w X) (j : Fin 4) : Down w (View.ld X
  (slabRect j)) j := fun b k => by
  rw [View.ld_apply, slab_at j rfl]; exact h j b k

theorem covered_two (P0 P1 : S4x512x1024.Idx → Elt Ideal .bf16) (y : S4x1024x1024.Idx) : ∃ q ∈ two P0 P1, y ∈ q.1.set
  :=
  View.cover_of_tiledL _ ![4, 512, 1024] (by sl_kernel_rfl) y
theorem covered_four {e : EltTy} (T0 T1 T2 T3 : S256x1024.Idx → Elt Ideal e) (y : S256x4096.Idx) : ∃ q ∈ four T0 T1
  T2 T3, y ∈ q.1.set :=
  View.cover_of_tiledL _ ![256, 1024] (by sl_kernel_rfl) y

/-- A slab read from a buffer that two copies have just filled. -/
abbrev fresh (v : View sig .tc .vmem S4x1024x1024 .bf16) (P0 P1 : S4x512x1024.Idx → Elt Ideal .bf16) (j : Fin 4) :
    S1x1024x1024.Idx → Elt Ideal .bf16 := v.readCov (two P0 P1) (slabRect j).toLoadRect

theorem fresh_eq (v : View sig .tc .vmem S4x1024x1024 .bf16) (P0 P1 : S4x512x1024.Idx → Elt Ideal .bf16) (j : Fin 4) :
    fresh v P0 P1 j = View.ld (View.canon (two P0 P1)) (slabRect j) :=
  View.readCov_eq_canon_ld _ _ _ (covered_two P0 P1)

/-- The loss of a block's tokens: the squares added first and scaled once, as the kernel does. -/
theorem loss_sum {w : Weights} {p : Fin 256 → Token} (hw : w.Real) (hp : ∀ a, (p a).Real) :
    (∑ a, ∑ b, err w (p a) b * err w (p a) b) * Ideal.ofBits .f32 0x3A000000#32 = ∑ a, loss w (p a) := by
  choose r hr using fun a => err_real hw (hp a)
  unfold loss
  simp only [hr, halfLoss_eq, ← EReal.coe_mul, coe_sum, Finset.sum_mul]

/-! ## A step's results -/

section
variable (x0 : Vec Ideal S256x1024 .bf16) (x1 x2 x3 : Vec Ideal S256x1024 .f32) (x4 x5 x6 : Vec Ideal S1x1024 .f32)
  (U D : Fin 4 → Vec Ideal S1x1024x1024 .bf16)

abbrev t3 := k0_pay17 (F := Ideal) (k0_pay6 x0) (k0_pay10 x0 (U 0) (D 0)) (k0_pay13 x0 (U 1)) (D 1) (U 2) (D 2)
abbrev t4 := k0_pay20 (F := Ideal) (k0_pay6 x0) (U 3)
abbrev ffT := k0_pay21 (F := Ideal) (t3 x0 U D) (t4 x0 U) (D 3)
abbrev dyT := k0_pay25 (F := Ideal) (t3 x0 U D) (t4 x0 U) (D 3) x4 x1 x3
abbrev sqT := k0_pay26 (F := Ideal) (t3 x0 U D) (t4 x0 U) (D 3)
abbrev dffT := k0_pay30 (F := Ideal) (ffT x0 U D) x4 (dyT x0 x1 x3 x4 U D) (sqT x0 U D)
abbrev actL : List (View.Piece (Elt Ideal) S256x4096 .bf16) := four (e := .bf16) (k0_pay9 (F := Ideal) x0 (U 0))
  (k0_pay13 (F := Ideal) x0 (U 1)) (k0_pay16 (F := Ideal) (k0_pay6 x0) (U 2))
  (k0_pay20 (F := Ideal) (k0_pay6 x0) (U 3))
abbrev reluL : List (View.Piece (Elt Ideal) S256x4096 .f32) := four (e := .f32) (k0_pay8 (F := Ideal) x0 (U 0))
  (k0_pay12 (F := Ideal) x0 (U 1)) (k0_pay15 (F := Ideal) (k0_pay6 x0) (U 2))
  (k0_pay19 (F := Ideal) (k0_pay6 x0) (U 3))
abbrev reluT (j : Fin 4) : Vec Ideal S256x1024 .f32 := (View.whole cc0_scratch2).readCov (reluL x0 U) (tileRect
  j).toLoadRect
abbrev dup0T := k0_pay31 (F := Ideal) (ffT x0 U D) x4 (dyT x0 x1 x3 x4 U D) (sqT x0 U D) (D 0) (reluT x0 U 0)
abbrev dup1T := k0_pay32 (F := Ideal) (dffT x0 x1 x3 x4 U D) (D 1) (reluT x0 U 1)
abbrev dup2T := k0_pay34 (F := Ideal) (dffT x0 x1 x3 x4 U D) (D 2) (reluT x0 U 2)
abbrev dup3T := k0_pay35 (F := Ideal) (dffT x0 x1 x3 x4 U D) (D 3) (reluT x0 U 3)
abbrev dupL : List (View.Piece (Elt Ideal) S256x4096 .bf16) := four (e := .bf16) (dup0T x0 x1 x3 x4 U D) (dup1T x0 x1
  x3 x4 U D) (dup2T x0 x1 x3 x4 U D) (dup3T x0 x1 x3 x4 U D)
abbrev t19 := k0_pay33 (F := Ideal) (dffT x0 x1 x3 x4 U D) (dup0T x0 x1 x3 x4 U D) (U 0) (D 1) (reluT x0 U 1) (U 1)
abbrev dhT := k0_pay36 (F := Ideal) (dffT x0 x1 x3 x4 U D) (t19 x0 x1 x3 x4 U D) (dup2T x0 x1 x3 x4 U D) (U 2) (D 3)
  (reluT x0 U 3) (U 3)
abbrev t20 := k0_pay39 (F := Ideal) (k0_pay22 x1) (dffT x0 x1 x3 x4 U D) (t19 x0 x1 x3 x4 U D) (dup2T x0 x1 x3 x4 U
  D) (U 2) (D 3) (reluT x0 U 3) (U 3) x5
abbrev t21 := k0_pay40 (F := Ideal) (k0_pay22 x1)

/-- What a step has in hand: the blocks of 256 tokens, and the weights. -/
structure Held (w : Weights) (p : Fin 256 → Token) : Prop where
  x0 : Is x0 fun a => h2 w (p a)
  x1 : Is x1 fun a => Cert.Mlp.x1 w (p a)
  x2 : Is x2 fun a => (p a).mix
  x3 : Is x3 fun a => (p a).target
  x4 : ∀ b, x4 (ix2 0 b) = w.g4 b
  x5 : ∀ b, x5 (ix2 0 b) = w.g3 b
  x6 : ∀ b, x6 (ix2 0 b) = w.g2 b
  u : ∀ j, Up w (U j) j
  d : ∀ j, Down w (D j) j
end

section
variable {x0 : Vec Ideal S256x1024 .bf16} {x1 x2 x3 : Vec Ideal S256x1024 .f32} {x4 x5 x6 : Vec Ideal S1x1024 .f32}
  {U D : Fin 4 → Vec Ideal S1x1024x1024 .bf16} (h : Held x0 x1 x2 x3 x4 x5 x6 U D w p)
include h

theorem act_of (a : Fin 256) (b : Fin 4096) : View.canon (Val := Elt Ideal) (actL x0 U) (ix2 a b) = act w (p a) b :=
  tiles (e := .bf16) (fun a b => act w (p a) b) (pay9_is h.x0 (h.u 0)) (pay13_is h.x0 (h.u 1)) (pay16_is (pay6_is
    h.x0) (h.u 2))
    (pay20_is (pay6_is h.x0) (h.u 3)) a b

theorem relu_of (j : Fin 4) : Is (reluT x0 U j) fun a b => relu w (p a) (unit j b) := fun a b => by
  unfold reluT
  rw [View.readCov_eq_canon_ld _ _ _ (covered_four _ _ _ _), View.ld_apply, tile_at j rfl]
  exact tiles (e := .f32) (fun a b => relu w (p a) b) (pay8_is h.x0 (h.u 0)) (pay12_is h.x0 (h.u 1)) (pay15_is
    (pay6_is h.x0) (h.u 2))
    (pay19_is (pay6_is h.x0) (h.u 3)) a (unit j b)

theorem ff_of : Is (ffT x0 U D) fun a => ff w (p a) :=
  ff_is h.x0 (h.u 0) (h.u 1) (h.u 2) (h.u 3) (h.d 0) (h.d 1) (h.d 2) (h.d 3)
theorem dy_of : Is (dyT x0 x1 x3 x4 U D) fun a => dy w (p a) := dy_is (ff_of h) h.x4 h.x1 h.x3
theorem sq_of : Is (sqT x0 U D) fun a b => ff w (p a) b * ff w (p a) b := pay26_is (ff_of h)
theorem dff_of : Is (dffT x0 x1 x3 x4 U D) fun a => dff w (p a) := dff_is (ff_of h) h.x4 (dy_of h) (sq_of h)
theorem dup0_of : Is (dup0T x0 x1 x3 x4 U D) fun a b => dup w (p a) (unit 0 b) :=
  pay31_is (ff_of h) h.x4 (dy_of h) (sq_of h) (h.d 0) (relu_of h 0)
theorem dup2_of : Is (dup2T x0 x1 x3 x4 U D) fun a b => dup w (p a) (unit 2 b) := pay34_is (dff_of h) (h.d 2)
  (relu_of h 2)

theorem dup_of (a : Fin 256) (b : Fin 4096) : View.canon (Val := Elt Ideal) (dupL x0 x1 x3 x4 U D) (ix2 a b) = dup w
  (p a) b :=
  tiles (e := .bf16) (fun a b => dup w (p a) b) (dup0_of h) (pay32_is (dff_of h) (h.d 1) (relu_of h 1)) (dup2_of h)
    (pay35_is (dff_of h) (h.d 3) (relu_of h 3)) a b

theorem dh_of : Is (dhT x0 x1 x3 x4 U D) fun a => dh w (p a) :=
  dh_is (dff_of h) (dup0_of h) (dup2_of h) (h.u 0) (h.u 1) (h.u 2) (h.u 3) (h.d 1) (h.d 3) (relu_of h 1) (relu_of h 3)

theorem dx1_of : Is (k0_pay41 (dyT x0 x1 x3 x4 U D) (t20 x0 x1 x3 x4 x5 U D) (t21 x1)) fun a => dx1 w (p a) :=
  dx1_is (dy_of h) (pay39_is (dh_of h) h.x1 h.x5) (pay40_is h.x1)

theorem dmix_of : Is (k0_pay47 (dyT x0 x1 x3 x4 U D) (t20 x0 x1 x3 x4 x5 U D) (t21 x1) x2 x6) fun a => dmix w (p a) :=
  dmix_is (dx1_of h) h.x2 h.x6

theorem gain4_of (acc : Vec Ideal S1x1024 .f32) (b : Fin 1024) :
    k0_pay29 (ffT x0 U D) (dyT x0 x1 x3 x4 U D) (sqT x0 U D) acc (ix2 0 b) = acc (ix2 0 b) + ∑ a, gain4 w (p a) b :=
  gain4_is (ff_of h) (dy_of h) (sq_of h) acc b

theorem gain3_of (acc : Vec Ideal S1x1024 .f32) (b : Fin 1024) :
    k0_pay42 (dhT x0 x1 x3 x4 U D) (k0_pay38 (k0_pay22 x1)) acc (ix2 0 b) = acc (ix2 0 b) + ∑ a, gain3 w (p a) b :=
  gain3_is (dh_of h) h.x1 acc b

theorem gain2_of (acc : Vec Ideal S1x1024 .f32) (b : Fin 1024) :
    k0_pay1 (k0_pay46 (dyT x0 x1 x3 x4 U D) (t20 x0 x1 x3 x4 x5 U D) (t21 x1) x2) acc (ix2 0 b) = acc (ix2 0 b) + ∑
      a, gain2 w (p a) b :=
  gain2_is (dx1_of h) h.x2 acc b

theorem loss_of (hw : w.Real) (hp : ∀ a, (p a).Real) (acc : Vec Ideal S8x128 .f32) (i : Fin 8) (k : Fin 128) :
    k0_pay24 (t3 x0 U D) (t4 x0 U) (D 3) x4 x1 x3 acc (ix2 i k) = acc (ix2 i k) + ∑ a, loss w (p a) := by
  rw [loss_is (ff_of h) h.x4 h.x1 h.x3]
  exact congrArg (acc (ix2 i k) + ·) (loss_sum hw hp)
end

end Cert.Kernel4Ideal.Mlp

end
-- ==== Proof.Mlp.lean ====
module

public import proofs.«01_k».proof.Proof.MlpFrame
public import Idealize.ShloMosaic.Lib.Pipeline.ValueKit
public import Idealize.ShloMosaic.Lib.Pointwise
public import Idealize.ShloMosaic.Lib.Claim
public import proofs.«01_k».proof.Proof.MlpRef
public import proofs.«01_k».proof.Proof.MlpStep

@[expose] public section

set_option maxRecDepth 16384

noncomputable section

namespace Cert.Kernel4Ideal.Mlp

open Cert.Kernel4Ideal Cert.Kernel4Ideal.Gen Idealize.ShloMosaic Idealize.ShloMosaic.TcCoe Idealize.SL.Sem
open Idealize.ShloMosaic.Pipeline (Dat)
open Cert.Norm Cert.Mlp

variable (m : (ℓ : Loc nD τ sig) → Buf (Elt Ideal) ℓ)

/-- Where each window's block stands at a grid point. -/
theorem idx_val : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![0, 0] ∧ win0_7.index t = ![t.val, 0]
    ∧ win0_8.index t = ![t.val, 0] ∧ win0_9.index t = ![t.val, 0] ∧ win0_10.index t = ![t.val, 0]
    ∧ win0_11.index t = ![t.val, 0] ∧ win0_12.index t = ![0, 0] ∧ win0_13.index t = ![0, 0]
    ∧ win0_14.index t = ![0, 0] ∧ win0_15.index t = ![0, 0] ∧ t.val < 16 :=
  (by decide +kernel : ∀ t : Fin grid0.N, _)

/-- The row of the whole array that row `a` of point `t`'s block is. -/
def row (t : Fin cfg0.N) (a : Fin 256) : Fin 4096 := ⟨t.val * 256 + a.val, by have := (idx_val t).2.2.2.2.2.2.2.2.2.2.2.2.2.2.2.2; omega⟩

/-- The weights and the token of row `r`, among the kernel's arguments on device `c`. -/
abbrev wts (c : Dev nD) : Cert.Mlp.Weights := Cert.Mlp.Ref.W (m ((c : Thread nD τ).loc main_arg2)) (m ((c : Thread nD τ).loc main_arg3))
  (m ((c : Thread nD τ).loc main_arg4)) (m ((c : Thread nD τ).loc main_arg5)) (m ((c : Thread nD τ).loc main_arg6))
abbrev tok (c : Dev nD) (r : Fin 4096) : Cert.Mlp.Token := Cert.Mlp.Ref.T (m ((c : Thread nD τ).loc main_arg0)) (m ((c : Thread nD τ).loc main_arg1))
  (m ((c : Thread nD τ).loc main_arg7)) ⟨r.val / 2048, by omega⟩ ⟨r.val % 2048, by omega⟩

theorem emb1 (t : Fin cfg0.N) (a : Fin 256) (b : Fin 1024) : ((cfg0.win 1).blk t).view.emb (ix2 a b) = ix2 (row t a) b := by
  blk_ext [idx_val t, row]

theorem emb0 (t : Fin cfg0.N) (a : Fin 256) (b : Fin 1024) : ((cfg0.win 0).blk t).view.emb (ix2 a b) = ix2 (row t a) b := by
  blk_ext [idx_val t, row]

theorem blk1 (c : Dev nD) (t : Fin cfg0.N) (a : Fin 256) (b : Fin 1024) :
    iblk m c 1 t (ix2 a b) = Cert.Mlp.x1 (wts m c) (tok m c (row t a)) b := by
  show V m c main_v36 (((cfg0.win 1).blk t).view.emb (ix2 a b)) = _
  rw [emb1]
  entry_read
  pointwise
  rfl

theorem blk0 (c : Dev nD) (t : Fin cfg0.N) (a : Fin 256) (b : Fin 1024) :
    iblk m c 0 t (ix2 a b) = Cert.Mlp.h2 (wts m c) (tok m c (row t a)) b := by
  show V m c main_v35 (((cfg0.win 0).blk t).view.emb (ix2 a b)) = _
  rw [emb0]
  entry_read
  pointwise
  rfl

theorem blk2 (c : Dev nD) (t : Fin cfg0.N) (a : Fin 256) (b : Fin 1024) :
    iblk m c 2 t (ix2 a b) = (tok m c (row t a)).mix b := by
  blk_simp [iblk, idx_val t]
  entry_read
  pointwise
  blk_point [idx_val t, row]

theorem blk3 (c : Dev nD) (t : Fin cfg0.N) (a : Fin 256) (b : Fin 1024) :
    iblk m c 3 t (ix2 a b) = (tok m c (row t a)).target b := by
  blk_simp [iblk, idx_val t]
  entry_read
  pointwise
  blk_point [idx_val t, row]

theorem blk4 (c : Dev nD) (t : Fin cfg0.N) (b : Fin 1024) : iblk m c 4 t (ix2 0 b) = (wts m c).g4 b := by
  blk_ext! [iblk, V, idx_val t]
theorem blk5 (c : Dev nD) (t : Fin cfg0.N) (b : Fin 1024) : iblk m c 5 t (ix2 0 b) = (wts m c).g3 b := by
  blk_ext! [iblk, V, idx_val t]
theorem blk6 (c : Dev nD) (t : Fin cfg0.N) (b : Fin 1024) : iblk m c 6 t (ix2 0 b) = (wts m c).g2 b := by
  blk_ext! [iblk, V, idx_val t]

theorem up0 (c : Dev nD) (j : Fin 4) (a : Fin 512) (b : Fin 1024) :
    (halves m c).up0 (ix3 j a b) = (wts m c).up ⟨a.val, by omega⟩ (unit j b) := by
  show V m c main_v40 (ix3 j a b) = _
  entry_read
  pointwise
  rfl
theorem up1 (c : Dev nD) (j : Fin 4) (a : Fin 512) (b : Fin 1024) :
    (halves m c).up1 (ix3 j a b) = (wts m c).up ⟨512 + a.val, by omega⟩ (unit j b) := by
  show V m c main_v42 (ix3 j a b) = _
  entry_read
  pointwise
  rfl
theorem down0 (c : Dev nD) (j : Fin 4) (a : Fin 512) (b : Fin 1024) :
    (halves m c).down0 (ix3 j a b) = (wts m c).down (unit j ⟨a.val, by omega⟩) b := by
  show V m c main_v44 (ix3 j a b) = _
  entry_read
  pointwise
  rfl
theorem down1 (c : Dev nD) (j : Fin 4) (a : Fin 512) (b : Fin 1024) :
    (halves m c).down1 (ix3 j a b) = (wts m c).down (unit j ⟨512 + a.val, by omega⟩) b := by
  show V m c main_v46 (ix3 j a b) = _
  entry_read
  pointwise
  rfl

/-! ## What the steps have in hand -/

/-- The halves of the weights, as the copies carry them. -/
abbrev pUp0 (c : Dev nD) : S4x512x1024.Idx → Elt Ideal .bf16 := ReadAs.same.apply (View.read (Elt Ideal) (View.whole main_v40) (halves m c).up0)
abbrev pUp1 (c : Dev nD) : S4x512x1024.Idx → Elt Ideal .bf16 := ReadAs.same.apply (View.read (Elt Ideal) (View.whole main_v42) (halves m c).up1)
abbrev pDown0 (c : Dev nD) : S4x512x1024.Idx → Elt Ideal .bf16 := ReadAs.same.apply (View.read (Elt Ideal) (View.whole main_v44) (halves m c).down0)
abbrev pDown1 (c : Dev nD) : S4x512x1024.Idx → Elt Ideal .bf16 := ReadAs.same.apply (View.read (Elt Ideal) (View.whole main_v46) (halves m c).down1)

theorem filled_up (c : Dev nD) : UpAll (wts m c) (View.canon (Val := Elt Ideal) (two (pUp0 m c) (pUp1 m c))) := fun j a b =>
  halves_canon (fun j a b => (wts m c).up a (unit j b)) (fun j a b => up0 m c j a b) (fun j a b => up1 m c j a b) j a b
theorem filled_down (c : Dev nD) : DownAll (wts m c) (View.canon (Val := Elt Ideal) (two (pDown0 m c) (pDown1 m c))) := fun j a b =>
  halves_canon (fun j a b => (wts m c).down (unit j a) b) (fun j a b => down0 m c j a b) (fun j a b => down1 m c j a b) j a b

theorem first_w (c : Dev nD) (t : Fin cfg0.N) (h0 : t.val % 16 = 0) : UpAll (wts m c) (first m c t h0).wu ∧ DownAll (wts m c) (first m c t h0).wd := by
  constructor
  · intro j a b; unfold first firstAt; dsimp only; frame_out; exact filled_up m c j a b
  · intro j a b; unfold first firstAt; dsimp only; frame_out; exact filled_down m c j a b

/-- The weight buffers hold the weights from the first step on. -/
theorem left_w (c : Dev nD) : ∀ n hn, UpAll (wts m c) (left m c n hn).wu ∧ DownAll (wts m c) (left m c n hn).wd
  | 0, hn => by rw [left_first m c ⟨0, hn⟩ (Nat.zero_mod _)]; exact first_w m c _ _
  | n + 1, hn => by
    by_cases h0 : (n + 1) % 16 = 0
    · rw [left_first m c ⟨n + 1, hn⟩ h0]; exact first_w m c _ _
    · rw [left_later m c ⟨n + 1, hn⟩ h0]; exact left_w c n (Nat.lt_of_succ_lt hn)

theorem held_first (c : Dev nD) (t : Fin cfg0.N) : Held (iblk m c 0 t) (iblk m c 1 t) (iblk m c 2 t) (iblk m c 3 t) (iblk m c 4 t) (iblk m c 5 t)
    (iblk m c 6 t) (fresh (View.whole cc0_scratch0) (pUp0 m c) (pUp1 m c)) (fresh (View.whole cc0_scratch1) (pDown0 m c) (pDown1 m c))
    (wts m c) fun a => tok m c (row t a) where
  x0 := blk0 m c t
  x1 := blk1 m c t
  x2 := blk2 m c t
  x3 := blk3 m c t
  x4 := blk4 m c t
  x5 := blk5 m c t
  x6 := blk6 m c t
  u j := by rw [fresh_eq]; exact up_slab (filled_up m c) j
  d j := by rw [fresh_eq]; exact down_slab (filled_down m c) j

/-- A slab of a weight buffer as the step before left it. -/
abbrev keptUp (c : Dev nD) (t : Fin cfg0.N) (j : Fin 4) : S1x1024x1024.Idx → Elt Ideal .bf16 :=
  View.ld (View.read (Elt Ideal) (View.whole cc0_scratch0) ((Memref.isWhole_whole cc0_scratch0).unread
    (left m c (t.val - 1) (Nat.lt_of_le_of_lt (Nat.sub_le _ _) t.isLt)).wu)) (slabRect j)
abbrev keptDown (c : Dev nD) (t : Fin cfg0.N) (j : Fin 4) : S1x1024x1024.Idx → Elt Ideal .bf16 :=
  View.ld (View.read (Elt Ideal) (View.whole cc0_scratch1) ((Memref.isWhole_whole cc0_scratch1).unread
    (left m c (t.val - 1) (Nat.lt_of_le_of_lt (Nat.sub_le _ _) t.isLt)).wd)) (slabRect j)

theorem held_later (c : Dev nD) (t : Fin cfg0.N) : Held (iblk m c 0 t) (iblk m c 1 t) (iblk m c 2 t) (iblk m c 3 t) (iblk m c 4 t) (iblk m c 5 t)
    (iblk m c 6 t) (keptUp m c t) (keptDown m c t) (wts m c) fun a => tok m c (row t a) where
  x0 := blk0 m c t
  x1 := blk1 m c t
  x2 := blk2 m c t
  x3 := blk3 m c t
  x4 := blk4 m c t
  x5 := blk5 m c t
  x6 := blk6 m c t
  u j := up_slab (fun j a b => (congrFun ((Memref.isWhole_whole cc0_scratch0).read_unread _) _).trans ((left_w m c _ _).1 j a b)) j
  d j := down_slab (fun j a b => (congrFun ((Memref.isWhole_whole cc0_scratch1).read_unread _) _).trans ((left_w m c _ _).2 j a b)) j

/-! ## What a step leaves -/

theorem act_at (c : Dev nD) (t : Fin cfg0.N) (a : Fin 256) (b : Fin 4096) :
    (left m c t.val t.isLt).act (ix2 a b) = Cert.Mlp.act (wts m c) (tok m c (row t a)) b := by
  by_cases h0 : t.val % 16 = 0
  · rw [left_first m c t h0]; unfold first firstAt; dsimp only; frame_out; exact act_of (held_first m c t) a b
  · rw [left_later m c t h0]; unfold later laterAt; dsimp only; frame_out; exact act_of (held_later m c t) a b

theorem dff_at (c : Dev nD) (t : Fin cfg0.N) (a : Fin 256) (b : Fin 1024) :
    (left m c t.val t.isLt).dff (ix2 a b) = Cert.Mlp.dff (wts m c) (tok m c (row t a)) b := by
  by_cases h0 : t.val % 16 = 0
  · rw [left_first m c t h0]; unfold first firstAt; dsimp only; frame_out; refine Eq.trans ?_ (dff_of (held_first m c t) a b); sl_kernel_rfl
  · rw [left_later m c t h0]; unfold later laterAt; dsimp only; frame_out; refine Eq.trans ?_ (dff_of (held_later m c t) a b); sl_kernel_rfl

theorem dup_at (c : Dev nD) (t : Fin cfg0.N) (a : Fin 256) (b : Fin 4096) :
    (left m c t.val t.isLt).dup (ix2 a b) = Cert.Mlp.dup (wts m c) (tok m c (row t a)) b := by
  by_cases h0 : t.val % 16 = 0
  · rw [left_first m c t h0]; unfold first firstAt; dsimp only; frame_out; refine Eq.trans ?_ (dup_of (held_first m c t) a b); sl_kernel_rfl
  · rw [left_later m c t h0]; unfold later laterAt; dsimp only; frame_out; refine Eq.trans ?_ (dup_of (held_later m c t) a b); sl_kernel_rfl

theorem dx1_at (c : Dev nD) (t : Fin cfg0.N) (a : Fin 256) (b : Fin 1024) :
    (left m c t.val t.isLt).dx1 (ix2 a b) = Cert.Mlp.dx1 (wts m c) (tok m c (row t a)) b := by
  by_cases h0 : t.val % 16 = 0
  · rw [left_first m c t h0]; unfold first firstAt; dsimp only; frame_out; refine Eq.trans ?_ (dx1_of (held_first m c t) a b); sl_kernel_rfl
  · rw [left_later m c t h0]; unfold later laterAt; dsimp only; frame_out; refine Eq.trans ?_ (dx1_of (held_later m c t) a b); sl_kernel_rfl

theorem dmix_at (c : Dev nD) (t : Fin cfg0.N) (a : Fin 256) (b : Fin 1024) :
    (left m c t.val t.isLt).dmix (ix2 a b) = Cert.Mlp.dmix (wts m c) (tok m c (row t a)) b := by
  by_cases h0 : t.val % 16 = 0
  · rw [left_first m c t h0]; unfold first firstAt; dsimp only; frame_out; refine Eq.trans ?_ (dmix_of (held_first m c t) a b); sl_kernel_rfl
  · rw [left_later m c t h0]; unfold later laterAt; dsimp only; frame_out; refine Eq.trans ?_ (dmix_of (held_later m c t) a b); sl_kernel_rfl

theorem g4_first (c : Dev nD) (t : Fin cfg0.N) (h0 : t.val % 16 = 0) (b : Fin 1024) :
    (left m c t.val t.isLt).g4 (ix2 0 b) = ∑ a, gain4 (wts m c) (tok m c (row t a)) b := by
  rw [left_first m c t h0]; unfold first firstAt; dsimp only; frame_out
  refine Eq.trans ?_ ((gain4_of (held_first m c t) (k0_pay3 (F := Ideal)) b).trans ((congrArg (· + _) (pay3_is b)).trans (zero_add _))); sl_kernel_rfl
theorem g4_later (c : Dev nD) (t : Fin cfg0.N) (h0 : ¬t.val % 16 = 0) (b : Fin 1024) :
    (left m c t.val t.isLt).g4 (ix2 0 b) = (left m c (t.val - 1) (Nat.lt_of_le_of_lt (Nat.sub_le _ _) t.isLt)).g4 (ix2 0 b)
      + ∑ a, gain4 (wts m c) (tok m c (row t a)) b := by
  rw [left_later m c t h0]; unfold later laterAt; dsimp only; frame_out
  refine Eq.trans ?_ (gain4_of (held_later m c t) (left m c (t.val - 1) (Nat.lt_of_le_of_lt (Nat.sub_le _ _) t.isLt)).g4 b); sl_kernel_rfl

theorem g3_first (c : Dev nD) (t : Fin cfg0.N) (h0 : t.val % 16 = 0) (b : Fin 1024) :
    (left m c t.val t.isLt).g3 (ix2 0 b) = ∑ a, gain3 (wts m c) (tok m c (row t a)) b := by
  rw [left_first m c t h0]; unfold first firstAt; dsimp only; frame_out
  refine Eq.trans ?_ ((gain3_of (held_first m c t) (k0_pay4 (F := Ideal)) b).trans ((congrArg (· + _) (pay4_is b)).trans (zero_add _))); sl_kernel_rfl
theorem g3_later (c : Dev nD) (t : Fin cfg0.N) (h0 : ¬t.val % 16 = 0) (b : Fin 1024) :
    (left m c t.val t.isLt).g3 (ix2 0 b) = (left m c (t.val - 1) (Nat.lt_of_le_of_lt (Nat.sub_le _ _) t.isLt)).g3 (ix2 0 b)
      + ∑ a, gain3 (wts m c) (tok m c (row t a)) b := by
  rw [left_later m c t h0]; unfold later laterAt; dsimp only; frame_out
  refine Eq.trans ?_ (gain3_of (held_later m c t) (left m c (t.val - 1) (Nat.lt_of_le_of_lt (Nat.sub_le _ _) t.isLt)).g3 b); sl_kernel_rfl

theorem g2_first (c : Dev nD) (t : Fin cfg0.N) (h0 : t.val % 16 = 0) (b : Fin 1024) :
    (left m c t.val t.isLt).g2 (ix2 0 b) = ∑ a, gain2 (wts m c) (tok m c (row t a)) b := by
  rw [left_first m c t h0]; unfold first firstAt; dsimp only; frame_out
  refine Eq.trans ?_ ((gain2_of (held_first m c t) (k0_pay5 (F := Ideal)) b).trans ((congrArg (· + _) (pay5_is b)).trans (zero_add _))); sl_kernel_rfl
theorem g2_later (c : Dev nD) (t : Fin cfg0.N) (h0 : ¬t.val % 16 = 0) (b : Fin 1024) :
    (left m c t.val t.isLt).g2 (ix2 0 b) = (left m c (t.val - 1) (Nat.lt_of_le_of_lt (Nat.sub_le _ _) t.isLt)).g2 (ix2 0 b)
      + ∑ a, gain2 (wts m c) (tok m c (row t a)) b := by
  rw [left_later m c t h0]; unfold later laterAt; dsimp only; frame_out
  refine Eq.trans ?_ (gain2_of (held_later m c t) (left m c (t.val - 1) (Nat.lt_of_le_of_lt (Nat.sub_le _ _) t.isLt)).g2 b); sl_kernel_rfl

theorem loss_first (c : Dev nD) (hw : (wts m c).Real) (hp : ∀ r, (tok m c r).Real) (t : Fin cfg0.N) (h0 : t.val % 16 = 0) (i : Fin 8) (k : Fin 128) :
    (left m c t.val t.isLt).loss (ix2 i k) = ∑ a, Cert.Mlp.loss (wts m c) (tok m c (row t a)) := by
  rw [left_first m c t h0]; unfold first firstAt; dsimp only; frame_out
  refine Eq.trans ?_ ((loss_of (held_first m c t) hw (fun a => hp _) (k0_pay2 (F := Ideal)) i k).trans ((congrArg (· + _) (pay2_is i k)).trans (zero_add _))); sl_kernel_rfl
theorem loss_later (c : Dev nD) (hw : (wts m c).Real) (hp : ∀ r, (tok m c r).Real) (t : Fin cfg0.N) (h0 : ¬t.val % 16 = 0) (i : Fin 8) (k : Fin 128) :
    (left m c t.val t.isLt).loss (ix2 i k) = (left m c (t.val - 1) (Nat.lt_of_le_of_lt (Nat.sub_le _ _) t.isLt)).loss (ix2 i k)
      + ∑ a, Cert.Mlp.loss (wts m c) (tok m c (row t a)) := by
  rw [left_later m c t h0]; unfold later laterAt; dsimp only; frame_out
  refine Eq.trans ?_ (loss_of (held_later m c t) hw (fun a => hp _) (left m c (t.val - 1) (Nat.lt_of_le_of_lt (Nat.sub_le _ _) t.isLt)).loss i k); sl_kernel_rfl

/-! ## The results -/

theorem emb7 (t : Fin cfg0.N) (a : Fin 256) (b : Fin 4096) : ((cfg0.win 7).blk t).view.emb (ix2 a b) = ix2 (row t a) b := by
  blk_ext [idx_val t, row]
theorem emb8 (t : Fin cfg0.N) (a : Fin 256) (b : Fin 1024) : ((cfg0.win 8).blk t).view.emb (ix2 a b) = ix2 (row t a) b := by
  blk_ext [idx_val t, row]
theorem emb9 (t : Fin cfg0.N) (a : Fin 256) (b : Fin 4096) : ((cfg0.win 9).blk t).view.emb (ix2 a b) = ix2 (row t a) b := by
  blk_ext [idx_val t, row]
theorem emb10 (t : Fin cfg0.N) (a : Fin 256) (b : Fin 1024) : ((cfg0.win 10).blk t).view.emb (ix2 a b) = ix2 (row t a) b := by
  blk_ext [idx_val t, row]
theorem emb11 (t : Fin cfg0.N) (a : Fin 256) (b : Fin 1024) : ((cfg0.win 11).blk t).view.emb (ix2 a b) = ix2 (row t a) b := by
  blk_ext [idx_val t, row]

section Finals
variable (c : Dev nD) (hw : (wts m c).Real)
  (hp : ∀ q s, (Cert.Mlp.Ref.T (m ((c : Thread nD τ).loc main_arg0)) (m ((c : Thread nD τ).loc main_arg1)) (m ((c : Thread nD τ).loc main_arg7)) q s).Real)
open Cert.Reference4Ideal.Read (val_main_v149 val_main_v151 val_main_v153 val_main_v154 val_main_v156 val_main_v157 val_main_v99 val_main_v126 val_main_v147
  val_main_v148 val_main_v150 val_main_v152 val_main_v155)

theorem final7 : (dats m 0 c).arrAt 7 (cfgs 0).N = val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  idx_vars y
  rw [emb7]
  blk_simp
  rw [after_7, act_at]
  pointwise [val_main_v149, val_main_v148]
  exact (Cert.Mlp.Ref.v41_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ _ _).symm

include hw hp in
theorem final8 : (dats m 0 c).arrAt 8 (cfgs 0).N = val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  idx_vars y
  rw [emb8]
  blk_simp
  rw [after_8, dff_at]
  pointwise [val_main_v151, val_main_v150]
  exact (Cert.Mlp.Ref.v98_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) hw hp _ _ _).symm

include hw hp in
theorem final9 : (dats m 0 c).arrAt 9 (cfgs 0).N = val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  idx_vars y
  rw [emb9]
  blk_simp
  rw [after_9, dup_at]
  pointwise [val_main_v153, val_main_v152]
  exact (Cert.Mlp.Ref.v103_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) hw hp _ _ _).symm

include hw hp in
theorem final10 : (dats m 0 c).arrAt 10 (cfgs 0).N = val_main_v154 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  idx_vars y
  rw [emb10]
  blk_simp
  rw [after_10, dx1_at]
  pointwise [val_main_v154]
  exact (Cert.Mlp.Ref.v125_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) hw hp _ _ _).symm

include hw hp in
theorem final11 : (dats m 0 c).arrAt 11 (cfgs 0).N = val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  idx_vars y
  rw [emb11]
  blk_simp
  rw [after_11, dmix_at]
  pointwise [val_main_v156, val_main_v155]
  exact (Cert.Mlp.Ref.v146_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) hw hp _ _ _).symm

/-- A sum over the tokens, step by step or sequence by sequence. -/
theorem sum_tokens (f : Fin 4096 → EReal) (g : Fin 2 → Fin 2048 → EReal) (h : ∀ r, f r = g ⟨r.val / 2048, by omega⟩ ⟨r.val % 2048, by omega⟩) :
    ∑ t : Fin 16, ∑ a : Fin 256, f ⟨t.val * 256 + a.val, by omega⟩ = ∑ q, ∑ s, g q s := by
  have h1 : ∑ t : Fin 16, ∑ a : Fin 256, f ⟨t.val * 256 + a.val, by omega⟩ = ∑ r, f r := Fin.sum_mul_add_congr (fun _ _ _ => rfl)
  have h2 : ∑ q, ∑ s, g q s = ∑ r, f r := Fin.sum_mul_add_congr (fun q s hl => by
    rw [h]
    have e : q.val * 2048 + s.val < 4096 := by omega
    refine congrArg₂ g (Fin.ext ?_) (Fin.ext ?_)
    · show q.val = (q.val * 2048 + s.val) / 2048; omega
    · show s.val = (q.val * 2048 + s.val) % 2048; omega)
  rw [h1, h2]

include hw hp in
theorem final13 : (dats m 0 c).arrAt 13 (cfgs 0).N = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 13 t0_15 (by decide +kernel) _ fun j => ?_
  idx_vars j
  blk_simp
  rw [after_13]
  have hj : j0 = 0 := Subsingleton.elim _ _
  subst hj
  refine Eq.trans ?_ (Cert.Mlp.Ref.v99_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) hw hp j1).symm
  have := Pipeline.eq_sum_fin_of_reset_step_apply_last (fun n h b => (left m c n h).g4 (ix2 0 b)) 16 (fun _ => 0)
    (fun t b => ∑ a, gain4 (wts m c) (tok m c (row t a)) b)
    (fun t h b => (g4_first m c t h b).trans (zero_add _).symm) (fun t h b => g4_later m c t h b) (le_of_eq N_0) t0_15 rfl j1
  rw [this, zero_add]
  exact sum_tokens (fun r => gain4 (wts m c) (tok m c r) j1) _ (fun _ => rfl)

include hw hp in
theorem final14 : (dats m 0 c).arrAt 14 (cfgs 0).N = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 14 t0_15 (by decide +kernel) _ fun j => ?_
  idx_vars j
  blk_simp
  rw [after_14]
  have hj : j0 = 0 := Subsingleton.elim _ _
  subst hj
  refine Eq.trans ?_ (Cert.Mlp.Ref.v126_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) hw hp j1).symm
  have := Pipeline.eq_sum_fin_of_reset_step_apply_last (fun n h b => (left m c n h).g3 (ix2 0 b)) 16 (fun _ => 0)
    (fun t b => ∑ a, gain3 (wts m c) (tok m c (row t a)) b)
    (fun t h b => (g3_first m c t h b).trans (zero_add _).symm) (fun t h b => g3_later m c t h b) (le_of_eq N_0) t0_15 rfl j1
  rw [this, zero_add]
  exact sum_tokens (fun r => gain3 (wts m c) (tok m c r) j1) _ (fun _ => rfl)

include hw hp in
theorem final15 : (dats m 0 c).arrAt 15 (cfgs 0).N = val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 15 t0_15 (by decide +kernel) _ fun j => ?_
  idx_vars j
  blk_simp
  rw [after_15]
  have hj : j0 = 0 := Subsingleton.elim _ _
  subst hj
  refine Eq.trans ?_ (Cert.Mlp.Ref.v147_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) hw hp j1).symm
  have := Pipeline.eq_sum_fin_of_reset_step_apply_last (fun n h b => (left m c n h).g2 (ix2 0 b)) 16 (fun _ => 0)
    (fun t b => ∑ a, gain2 (wts m c) (tok m c (row t a)) b)
    (fun t h b => (g2_first m c t h b).trans (zero_add _).symm) (fun t h b => g2_later m c t h b) (le_of_eq N_0) t0_15 rfl j1
  rw [this, zero_add]
  exact sum_tokens (fun r => gain2 (wts m c) (tok m c r) j1) _ (fun _ => rfl)

include hw hp in
theorem final12 : (dats m 0 c).arrAt 12 (cfgs 0).N = val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 12 t0_15 (by decide +kernel) _ fun j => ?_
  idx_vars j
  blk_simp
  rw [after_12]
  refine Eq.trans ?_ (Cert.Mlp.Ref.v157_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) hw hp (ix2 j0 j1)).symm
  have := Pipeline.eq_sum_fin_of_reset_step_apply_last (fun n h b => (left m c n h).loss (ix2 j0 b)) 16 (fun _ => 0)
    (fun t b => ∑ a, Cert.Mlp.loss (wts m c) (tok m c (row t a)))
    (fun t h b => (loss_first m c hw (fun r => hp _ _) t h j0 b).trans (zero_add _).symm) (fun t h b => loss_later m c hw (fun r => hp _ _) t h j0 b)
    (le_of_eq N_0) t0_15 rfl j1
  rw [this, zero_add]
  exact sum_tokens (fun r => Cert.Mlp.loss (wts m c) (tok m c r)) _ (fun _ => rfl)

end Finals

/-- The run with each result named, the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v47_0) = (dats m 0 c).arrAt 7 (cfgs 0).N
      ∧ r.2.mem ((c.tc : Thread nD τ).loc main_v47_1) = (dats m 0 c).arrAt 8 (cfgs 0).N
      ∧ r.2.mem ((c.tc : Thread nD τ).loc main_v47_2) = (dats m 0 c).arrAt 9 (cfgs 0).N
      ∧ r.2.mem ((c.tc : Thread nD τ).loc main_v47_3) = (dats m 0 c).arrAt 10 (cfgs 0).N
      ∧ r.2.mem ((c.tc : Thread nD τ).loc main_v47_4) = (dats m 0 c).arrAt 11 (cfgs 0).N
      ∧ r.2.mem ((c.tc : Thread nD τ).loc main_v47_5) = (dats m 0 c).arrAt 12 (cfgs 0).N
      ∧ r.2.mem ((c.tc : Thread nD τ).loc main_v47_6) = (dats m 0 c).arrAt 13 (cfgs 0).N
      ∧ r.2.mem ((c.tc : Thread nD τ).loc main_v47_7) = (dats m 0 c).arrAt 14 (cfgs 0).N
      ∧ r.2.mem ((c.tc : Thread nD τ).loc main_v47_8) = (dats m 0 c).arrAt 15 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h.1 c).1 7, (h.1 c).1 8, (h.1 c).1 9, (h.1 c).1 10, (h.1 c).1 11, (h.1 c).1 12, (h.1 c).1 13, (h.1 c).1 14, (h.1 c).1 15, h.2.1 c⟩)
    (θ_run_and (run m ρ) (frame m ρ))

end Cert.Kernel4Ideal.Mlp

end
-- ==== Proof.MlpText.lean ====
module

public import proofs.«01_k».proof.Proof.MlpFrame
public import proofs.«01_k».proof.Proof.Gen.Kernel4.Skeleton

@[expose] public section

/-!
# The perceptron's kernel as it stands

The program before the reading over the reals is the same text, so its frame is the one already shown.
-/

noncomputable section
open Idealize.ShloMosaic Idealize.ShloMosaic.TcCoe Idealize.SL Idealize.SL.Sem

namespace Cert.Kernel4
variable {F : FTy → Type} [FloatOps F]
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Eq.mp (by sl_kernel_rfl) (Cert.Kernel4Ideal.Mlp.frame (F := F) m ρ)
end Cert.Kernel4
end
-- ==== Proof.Finite.lean ====
/- What the preconditions say: every entry of the arrays they look at is a real number. -/
module

public import proofs.«01_k».proof.Proof.Inproj
public import proofs.«01_k».proof.Proof.Mlp
public import proofs.«01_k».proof.Defs
public import Idealize.ShloMosaic.Lib.ReduceAll

@[expose] public section

noncomputable section

namespace Cert.Finite

open Idealize.ShloMosaic
open Cert.Norm

theorem top32 : Ideal.ofBits .f32 0x7F800000#32 = ⊤ := by simp [Ideal.ofBits, Ideal.ieee]

theorem top16 : Ideal.ofBits .bf16 0x7F80#16 = ⊤ := by simp [Ideal.ofBits, Ideal.ieee]

theorem isReal_of_abs_lt {x : EReal} (h : max x (-x) < ⊤) : IsReal x := by
  induction x with
  | bot => simp at h
  | coe r => exact ⟨r, rfl⟩
  | top => simp at h

instance : Subsingleton (Shape.Idx ⟨0, ![]⟩) := ⟨fun _ _ => funext fun a => a.elim0⟩

variable {s u t : Shape} {axes : List (Fin s.rank)}

/-- A conjunction over all entries of `|x| < ∞` being 1 says that every entry is a real number. -/
theorem real [Subsingleton t.Idx] {φ : FTy} {w : BitVec φ.bits} (hw : Ideal.ofBits φ w = ⊤) {x : FVec Ideal s φ} {dims} {hb : Shape.BroadcastsInDim ⟨0, ![]⟩ s dims}
    {init : u.Idx → BitVec 1} {h : s.ReducesTo axes t} {hu : 0 < u.numel} {j : t.Idx}
    (e : Host.reduce IntOp.andi (cmpf .olt (Host.absf x) (broadcastInDim s dims hb (constant (F := Ideal) ⟨0, ![]⟩ φ w))) init h hu j = 1#1)
    (i : s.Idx) : IsReal (x i) := by
  have e := Host.reduce_andi_all _ _ _ _ j e i
  refine isReal_of_abs_lt ?_
  rw [← hw]
  by_contra hn
  exact absurd (e.symm.trans (congrArg BitVec.ofBool (decide_eq_false hn))) (by decide)

theorem both {a b : IVec s 1} {j : s.Idx} (h : andi a b j = 1#1) : a j = 1#1 ∧ b j = 1#1 := IntOp.andi_eq_one.1 h

theorem inproj [Pre_finite_inproj.Facts] (m : (ℓ : Loc Kernel3Ideal.nD Kernel3Ideal.τ Kernel3Ideal.sig) → Buf (Elt Ideal) ℓ)
    (h : Pre_Kernel3Ideal_finite_inproj m) (c : Dev Kernel3Ideal.nD) : Kernel3Ideal.Inproj.Finite m c := by
  obtain ⟨e, e9⟩ := both (congrFun (h c) fun a => a.elim0)
  obtain ⟨e, e8⟩ := both e
  obtain ⟨e, e7⟩ := both e
  obtain ⟨e, e6⟩ := both e
  obtain ⟨e, e5⟩ := both e
  obtain ⟨e, e2⟩ := both e
  obtain ⟨e, e1⟩ := both e
  obtain ⟨e, e0⟩ := both e
  exact ⟨real top32 e0, real top32 e1, real top32 e2, real top16 e5, real top16 e6, real top16 e7, real top16 e8, real top16 e9⟩

theorem mlp [Pre_finite_mlp.Facts] (m : (ℓ : Loc Kernel4Ideal.nD Kernel4Ideal.τ Kernel4Ideal.sig) → Buf (Elt Ideal) ℓ)
    (h : Pre_Kernel4Ideal_finite_mlp m) (c : Dev Kernel4Ideal.nD) : (Kernel4Ideal.Mlp.wts m c).Real
      ∧ ∀ q s, (Mlp.Ref.T (m ((c.tc : Thread Kernel4Ideal.nD Kernel4Ideal.τ).loc Kernel4Ideal.main_arg0))
        (m ((c.tc : Thread Kernel4Ideal.nD Kernel4Ideal.τ).loc Kernel4Ideal.main_arg1))
        (m ((c.tc : Thread Kernel4Ideal.nD Kernel4Ideal.τ).loc Kernel4Ideal.main_arg7)) q s).Real := by
  obtain ⟨e, e7⟩ := both (congrFun (h c) fun a => a.elim0)
  obtain ⟨e, e6⟩ := both e
  obtain ⟨e, e5⟩ := both e
  obtain ⟨e, e4⟩ := both e
  obtain ⟨e, e3⟩ := both e
  obtain ⟨e, e2⟩ := both e
  obtain ⟨e, e1⟩ := both e
  obtain ⟨e, e0⟩ := both e
  exact ⟨⟨fun _ => real top32 e2 _, fun _ => real top32 e3 _, fun _ => real top32 e6 _, fun _ _ => real top32 e4 _, fun _ _ => real top32 e5 _⟩,
    fun _ _ => ⟨fun _ => real top32 e0 _, fun _ => real top32 e1 _, fun _ => real top32 e7 _⟩⟩

theorem forward [Pre_finite_forward.Facts] (m : (ℓ : Loc Kernel5Ideal.nD Kernel5Ideal.τ Kernel5Ideal.sig) → Buf (Elt Ideal) ℓ)
    (h : Pre_Kernel5Ideal_finite_forward m) (c : Dev Kernel5Ideal.nD) :
    (∀ i, ∃ r : ℝ, m ((c.tc : Thread Kernel5Ideal.nD Kernel5Ideal.τ).loc Kernel5Ideal.main_arg0) i = (r : EReal))
      ∧ (∀ i, ∃ r : ℝ, m ((c.tc : Thread Kernel5Ideal.nD Kernel5Ideal.τ).loc Kernel5Ideal.main_arg1) i = (r : EReal))
      ∧ (∀ i, ∃ r : ℝ, m ((c.tc : Thread Kernel5Ideal.nD Kernel5Ideal.τ).loc Kernel5Ideal.main_arg3) i = (r : EReal))
      ∧ ∀ i, ∃ r : ℝ, m ((c.tc : Thread Kernel5Ideal.nD Kernel5Ideal.τ).loc Kernel5Ideal.main_arg4) i = (r : EReal) := by
  obtain ⟨e, e4⟩ := both (congrFun (h c) fun a => a.elim0)
  obtain ⟨e, e3⟩ := both e
  obtain ⟨e, e1⟩ := both e
  obtain ⟨e, e0⟩ := both e
  exact ⟨real top32 e0, real top32 e1, real top32 e3, real top32 e4⟩

end Cert.Finite

end
-- ==== Proof.lean ====
/- The claims of each call, from the run of each program. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_forward
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4.Skeleton
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame.Runs
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_mlp
public import proofs.«01_k».proof.Proof.Merge
public import proofs.«01_k».proof.Proof.MergeOut
public import proofs.«01_k».proof.Proof.MixAttn
public import proofs.«01_k».proof.Proof.MixPool
public import proofs.«01_k».proof.Proof.MixBackFrame
public import proofs.«01_k».proof.Proof.Inproj
public import proofs.«01_k».proof.Proof.Mlp
public import proofs.«01_k».proof.Proof.MlpText
public import proofs.«01_k».proof.Proof.Finite
public import proofs.«01_k».proof.Proof.Gen.Pre_finite_inproj
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem merge_frame : Cert.quiescent_Kernel := fun m ρ _ => Cert.Kernel.Gen.frame m ρ

theorem merge_ideal_frame : Cert.quiescent_KernelIdeal := fun m ρ _ => Cert.KernelIdeal.Gen.frame m ρ

theorem merge_reference_frame : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run m ρ)

/-- The kernel and the reference end with the same five results. -/
theorem merge_value : Cert.algebraic_KernelIdeal_ReferenceIdeal := by
  intro m g m' g' _ agree
  refine ⟨_, _, _, _, _, Cert.KernelIdeal.Value.run_blocks m g, ?_⟩
  refine (θ_run Cert.ReferenceIdeal.defs _ _).mono (fun r h c => ?_) (Cert.ReferenceIdeal.Value.run m' g')
  obtain ⟨h0, h1, h2, h3, h4, hargs⟩ := h c
  obtain ⟨a0, a1, a2, a3, a4, a5, a6⟩ := agree c
  refine ⟨h0.trans ?_, h1.trans ?_, h2.trans ?_, h3.trans ?_, h4.trans ?_, hargs⟩
  · refine Eq.trans ?_ (Cert.KernelIdeal.Merge.final7 m c).symm
    rw [← a0, ← a1, ← a4]; rfl
  · refine Eq.trans ?_ (Cert.KernelIdeal.Merge.final8 m c).symm
    rw [← a0, ← a1, ← a4]; rfl
  · refine Eq.trans ?_ (Cert.KernelIdeal.Merge.final9 m c).symm
    rw [← a0, ← a1, ← a2, ← a3, ← a4, ← a5, ← a6]; rfl
  · refine Eq.trans ?_ (Cert.KernelIdeal.Merge.final10 m c).symm
    rw [← a0, ← a1, ← a4, ← a5]; rfl
  · refine Eq.trans ?_ (Cert.KernelIdeal.Merge.final11 m c).symm
    rw [← a0, ← a1, ← a4, ← a6]; rfl

theorem mixers_back_frame : Cert.quiescent_Kernel2 := fun m ρ _ => Cert.Kernel2.MixBack.frame m ρ

theorem inproj_frame : Cert.quiescent_Kernel3 := fun m ρ _ => Cert.Kernel3.Gen.frame m ρ

theorem inproj_ideal_frame : Cert.quiescent_Kernel3Ideal := fun m ρ _ => Cert.Kernel3Ideal.Gen.frame m ρ

theorem inproj_reference_frame : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

/-- Where the arguments are finite, the kernel and the reference end with the same two results. -/
theorem inproj_value [Cert.Pre_finite_inproj.Facts] : Cert.algebraic_Kernel3Ideal_Reference3Ideal_pre_finite_inproj := by
  intro m g m' g' finite agree
  refine ⟨_, _, Cert.Kernel3Ideal.Value.run_blocks m g, ?_⟩
  refine (θ_run Cert.Reference3Ideal.defs _ _).mono (fun r h c => ?_) (Cert.Reference3Ideal.Value.run m' g')
  obtain ⟨h0, h1, hargs⟩ := h c
  obtain ⟨a0, a1, a2, a3, a4, a5, a6, a7, a8, a9⟩ := agree c
  refine ⟨h0.trans ?_, h1.trans ?_, hargs⟩
  · refine Eq.trans ?_ (Cert.Kernel3Ideal.Inproj.final9 m c (Cert.Finite.inproj m finite c)).symm
    rw [← a0, ← a1, ← a2, ← a4, ← a5, ← a6, ← a7, ← a8, ← a9]; rfl
  · refine Eq.trans ?_ (Cert.Kernel3Ideal.Inproj.final10 m c).symm
    rw [← a0, ← a2, ← a5, ← a6, ← a7, ← a8, ← a9]; rfl

theorem mlp_frame : Cert.quiescent_Kernel4 := fun m ρ _ => Cert.Kernel4.frame m ρ

theorem mlp_ideal_frame : Cert.quiescent_Kernel4Ideal := fun m ρ _ => Cert.Kernel4Ideal.Mlp.frame m ρ

theorem mlp_reference_frame : Cert.quiescent_Reference4Ideal := fun m ρ _ =>
  (θ_run Cert.Reference4Ideal.defs _ _).mono (fun r h => ⟨fun c => (h c).2.2.2.2.2.2.2.2.2, sem_eq_zero_of_no_sems (by decide) r.2⟩)
    (Cert.Reference4Ideal.Value.run m ρ)

set_option maxHeartbeats 2000000 in
/-- Where the arguments are finite, the kernel and the reference end with the same nine results. -/
theorem mlp_value [Cert.Pre_finite_mlp.Facts] : Cert.algebraic_Kernel4Ideal_Reference4Ideal_pre_finite_mlp := by
  intro m g m' g' finite agree
  refine ⟨_, _, _, _, _, _, _, _, _, Cert.Kernel4Ideal.Mlp.run_blocks m g, ?_⟩
  refine (θ_run Cert.Reference4Ideal.defs _ _).mono (fun r h c => ?_) (Cert.Reference4Ideal.Value.run m' g')
  obtain ⟨h0, h1, h2, h3, h4, h5, h6, h7, h8, hargs⟩ := h c
  obtain ⟨a0, a1, a2, a3, a4, a5, a6, a7⟩ := agree c
  obtain ⟨hw, hp⟩ := Cert.Finite.mlp m finite c
  refine ⟨h0.trans ?_, h1.trans ?_, h2.trans ?_, h3.trans ?_, h4.trans ?_, h5.trans ?_, h6.trans ?_, h7.trans ?_, h8.trans ?_, hargs⟩
  · refine (Cert.Reference4Ideal.Read.val_main_v149_eq (F := Ideal) (StableHlo.launchContents m' c)).trans (Eq.trans ?_ (Cert.Kernel4Ideal.Mlp.final7 m c).symm)
    rw [← a0, ← a1, ← a2, ← a3, ← a4]
  · refine (Cert.Reference4Ideal.Read.val_main_v151_eq (F := Ideal) (StableHlo.launchContents m' c)).trans (Eq.trans ?_ (Cert.Kernel4Ideal.Mlp.final8 m c hw hp).symm)
    rw [← a0, ← a1, ← a2, ← a3, ← a4, ← a5, ← a6, ← a7]
  · refine (Cert.Reference4Ideal.Read.val_main_v153_eq (F := Ideal) (StableHlo.launchContents m' c)).trans (Eq.trans ?_ (Cert.Kernel4Ideal.Mlp.final9 m c hw hp).symm)
    rw [← a0, ← a1, ← a2, ← a3, ← a4, ← a5, ← a6, ← a7]
  · refine (Cert.Reference4Ideal.Read.val_main_v154_eq (F := Ideal) (StableHlo.launchContents m' c)).trans (Eq.trans ?_ (Cert.Kernel4Ideal.Mlp.final10 m c hw hp).symm)
    rw [← a0, ← a1, ← a2, ← a3, ← a4, ← a5, ← a6, ← a7]
  · refine Eq.trans ?_ (Cert.Kernel4Ideal.Mlp.final11 m c hw hp).symm
    rw [← a0, ← a1, ← a2, ← a3, ← a4, ← a5, ← a6, ← a7]; sl_kernel_rfl
  · refine Eq.trans ?_ (Cert.Kernel4Ideal.Mlp.final12 m c hw hp).symm
    rw [← a0, ← a1, ← a2, ← a3, ← a4, ← a5, ← a6, ← a7]; sl_kernel_rfl
  · refine Eq.trans ?_ (Cert.Kernel4Ideal.Mlp.final13 m c hw hp).symm
    rw [← a0, ← a1, ← a2, ← a3, ← a4, ← a5, ← a6, ← a7]; sl_kernel_rfl
  · refine Eq.trans ?_ (Cert.Kernel4Ideal.Mlp.final14 m c hw hp).symm
    rw [← a0, ← a1, ← a2, ← a3, ← a4, ← a5, ← a6, ← a7]; sl_kernel_rfl
  · refine Eq.trans ?_ (Cert.Kernel4Ideal.Mlp.final15 m c hw hp).symm
    rw [← a0, ← a1, ← a2, ← a3, ← a4, ← a5, ← a6, ← a7]; sl_kernel_rfl

theorem forward_frame : Cert.quiescent_Kernel5 := fun m ρ _ => Cert.Kernel5.Gen.frame m ρ

theorem forward_ideal_frame : Cert.quiescent_Kernel5Ideal := fun m ρ _ => Cert.Kernel5Ideal.Gen.frame m ρ

theorem forward_reference_frame : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run m ρ)

/-- The mask's number is named for minus infinity. -/
theorem forward_preserves : Cert.preserves_Kernel5_Kernel5Ideal := IdealRules.named_const.statement _ _ _ _ _ rfl

/-- Where the arguments are finite, the kernel and the reference end with the same three results. -/
theorem forward_value [Cert.Pre_finite_forward.Facts] : Cert.algebraic_Kernel5Ideal_Reference5Ideal_pre_finite_forward := by
  intro m g m' g' finite agree
  refine ⟨_, _, _, Cert.Kernel5Ideal.Value.run_blocks m g, ?_⟩
  refine (θ_run Cert.Reference5Ideal.defs _ _).mono (fun r h c => ?_) (Cert.Reference5Ideal.Value.run m' g')
  obtain ⟨h0, h1, h2, hargs⟩ := h c
  obtain ⟨a0, a1, a2, a3, a4, a5, a6⟩ := agree c
  obtain ⟨hq, hk, hs, hu⟩ := Cert.Finite.forward m finite c
  refine ⟨h0.trans ?_, h1.trans ?_, h2.trans ?_, hargs⟩
  · refine (Cert.Reference5Ideal.Read.val_main_v133_eq (F := Ideal) m' c).trans (Eq.trans ?_ (Cert.Kernel5Ideal.Mix.final10 m c hq hk hs).symm)
    rw [← a0, ← a1, ← a2, ← a3]
  · refine (Cert.Reference5Ideal.Read.val_main_v135_eq (F := Ideal) m' c).trans (Eq.trans ?_ (Cert.Kernel5Ideal.Mix.final11 m c hu).symm)
    rw [← a4]
  · refine (Cert.Reference5Ideal.Read.val_main_v137_eq (F := Ideal) m' c).trans (Eq.trans ?_ (Cert.Kernel5Ideal.Mix.final12 m c hu).symm)
    rw [← a4, ← a5, ← a6]

theorem merge_out_frame : Cert.quiescent_Kernel6 := fun m ρ _ => Cert.Kernel6.Gen.frame m ρ

theorem merge_out_ideal_frame : Cert.quiescent_Kernel6Ideal := fun m ρ _ => Cert.Kernel6Ideal.Gen.frame m ρ

theorem merge_out_reference_frame : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run m ρ)

/-- The kernel and the reference end with the same four results. -/
theorem merge_out_value : Cert.algebraic_Kernel6Ideal_Reference6Ideal := by
  intro m g m' g' _ agree
  refine ⟨_, _, _, _, Cert.Kernel6Ideal.Value.run_blocks m g, ?_⟩
  refine (θ_run Cert.Reference6Ideal.defs _ _).mono (fun r h c => ?_) (Cert.Reference6Ideal.Value.run m' g')
  obtain ⟨h0, h1, h2, h3, hargs⟩ := h c
  obtain ⟨a0, a1, a2, a3, a4, a5, a6, a7, a8⟩ := agree c
  refine ⟨h0.trans ?_, h1.trans ?_, h2.trans ?_, h3.trans ?_, hargs⟩
  · refine Eq.trans ?_ (Cert.Kernel6Ideal.MergeOut.final9 m c).symm
    rw [← a0, ← a1, ← a2, ← a5, ← a6]; exact Cert.Reference6Ideal.Read.val_main_v51_eq (F := Ideal) _ _ _ _ _
  · refine Eq.trans ?_ (Cert.Kernel6Ideal.MergeOut.final10 m c).symm
    rw [← a0, ← a1, ← a2, ← a4, ← a5, ← a6]; exact Cert.Reference6Ideal.Read.val_main_v52_eq (F := Ideal) _ _ _ _ _ _
  · refine (Cert.Reference6Ideal.Read.val_main_v53_eq (F := Ideal) m' c).trans (Eq.trans ?_ (Cert.Kernel6Ideal.MergeOut.final11 m c).symm)
    rw [← a0, ← a1, ← a2, ← a3, ← a4, ← a5, ← a6, ← a7]
  · refine (Cert.Reference6Ideal.Read.val_main_v55_eq (F := Ideal) m' c).trans (Eq.trans ?_ (Cert.Kernel6Ideal.MergeOut.final12 m c).symm)
    rw [← a0, ← a1, ← a2, ← a3, ← a4, ← a5, ← a6, ← a7, ← a8]

theorem claim : Cert.Claim := ⟨Cert.Kernel.Gen.facts, Cert.KernelIdeal.Gen.facts, Cert.ReferenceIdeal.Gen.facts,
  Cert.Kernel2.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_inproj.Gen.facts, Cert.Pre_finite_mlp.Gen.facts, Cert.Pre_finite_forward.Gen.facts,
  merge_frame, merge_ideal_frame, merge_reference_frame, mixers_back_frame,
  inproj_frame, inproj_ideal_frame, fun m g _ => inproj_ideal_frame m g trivial,
  inproj_reference_frame, fun m g _ => inproj_reference_frame m g trivial,
  mlp_frame, mlp_ideal_frame, fun m g _ => mlp_ideal_frame m g trivial,
  mlp_reference_frame, fun m g _ => mlp_reference_frame m g trivial,
  forward_frame, forward_ideal_frame, fun m g _ => forward_ideal_frame m g trivial,
  forward_reference_frame, fun m g _ => forward_reference_frame m g trivial,
  merge_out_frame, merge_out_ideal_frame, merge_out_reference_frame,
  trivial, merge_value, trivial, inproj_value, trivial, mlp_value, forward_preserves, forward_value, trivial, merge_out_value⟩

end Cert.Proof

end
